-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routable_KernelIdeal [hPre_routable_KernelIdeal : Cert.Pre_routable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routable_ReferenceIdeal [hPre_routable_ReferenceIdeal : Cert.Pre_routable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routable_KernelIdeal [hKernelIdeal : Cert.KernelIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routable_ReferenceIdeal [hReferenceIdeal : Cert.ReferenceIdeal.Facts] [hPre_routable_ReferenceIdeal : Cert.Pre_routable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routable_KernelIdeal [hKernelIdeal : Cert.KernelIdeal.Facts] [hReferenceIdeal : Cert.ReferenceIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routable_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![32768, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1]⟩ ⟨2, ![32768, 1]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 512, 1024]⟩ ⟨3, ![128, 512, 1024]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = Layout.block ⟨2, ![2048, 1024]⟩ ⟨2, ![32768, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routable_KernelIdeal : Cert.Pre_routable_KernelIdeal.Facts) (hPre_routable_ReferenceIdeal : Cert.Pre_routable_ReferenceIdeal.Facts),
    quiescent_Kernel (hKernel := hKernel)
    ∧ quiescent_KernelIdeal (hKernelIdeal := hKernelIdeal)
    ∧ quiescent_KernelIdeal_pre_routable_KernelIdeal (hKernelIdeal := hKernelIdeal) (hPre_routable_KernelIdeal := hPre_routable_KernelIdeal)
    ∧ quiescent_ReferenceIdeal (hReferenceIdeal := hReferenceIdeal)
    ∧ quiescent_ReferenceIdeal_pre_routable_ReferenceIdeal (hReferenceIdeal := hReferenceIdeal) (hPre_routable_ReferenceIdeal := hPre_routable_ReferenceIdeal)
    ∧ preserves_Kernel_KernelIdeal
    ∧ algebraic_KernelIdeal_ReferenceIdeal_pre_routable_KernelIdeal (hKernelIdeal := hKernelIdeal) (hReferenceIdeal := hReferenceIdeal) (hPre_routable_KernelIdeal := hPre_routable_KernelIdeal)
-- ==== Pre_routable_KernelIdeal.lean ====
abbrev S2048x512 : Shape := ⟨2, ![2048, 512]⟩
abbrev S512x128 : Shape := ⟨2, ![512, 128]⟩
abbrev S2048x1 : Shape := ⟨2, ![2048, 1]⟩
abbrev S8x512x1024 : Shape := ⟨3, ![8, 512, 1024]⟩
abbrev S512x1024 : Shape := ⟨2, ![512, 1024]⟩
abbrev S_ : Shape := ⟨0, ![]⟩
abbrev S16 : Shape := ⟨1, ![16]⟩
abbrev S1x16 : Shape := ⟨2, ![1, 16]⟩
abbrev S2048x16 : Shape := ⟨2, ![2048, 16]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S2048x1 : S_.BroadcastsInDim S2048x1 (![] : Fin 0 → Fin S2048x1.rank)
  reducesTo_S2048x1_S_d0_1 : S2048x1.ReducesTo [0, 1] S_
  bcast_S_S16 : S_.BroadcastsInDim S16 (![] : Fin 0 → Fin S16.rank)
  bcast_S16_S1x16_1 : S16.BroadcastsInDim S1x16 (![1] : Fin 1 → Fin S1x16.rank)
  bcast_S2048x1_S2048x16_0_1 : S2048x1.BroadcastsInDim S2048x16 (![0, 1] : Fin 2 → Fin S2048x16.rank)
  bcast_S1x16_S2048x16_0_1 : S1x16.BroadcastsInDim S2048x16 (![0, 1] : Fin 2 → Fin S2048x16.rank)
  bcast_S_S1x16 : S_.BroadcastsInDim S1x16 (![] : Fin 0 → Fin S1x16.rank)
  natLt_1_32 : 1 < 32
  reducesTo_S2048x16_S16_d0 : S2048x16.ReducesTo [0] S16
  reducesTo_S16_S_d0 : S16.ReducesTo [0] S_

variable [Facts]

def fn_part1 {F : FTy → Type} [FloatOps F] (main_arg2 : IVec S2048x1 32) (main_v8 : IVec S_ 1) (main_v14 : IVec S_ 1) (main_v15 : IVec S16 32) (main_c_5 : IVec S_ 32) : IVec S_ 1 :=
  let main_v16 : IVec S16 32 := broadcastInDim S16 ![] bcast_S_S16 main_c_5
  let main_v17 : IVec S16 32 := muli main_v15 main_v16
  let main_v18 : IVec S1x16 32 := broadcastInDim S1x16 ![1] bcast_S16_S1x16_1 main_v17
  let main_v19 : IVec S2048x16 32 := broadcastInDim S2048x16 ![0, 1] bcast_S2048x1_S2048x16_0_1 main_arg2
  let main_v20 : IVec S2048x16 32 := broadcastInDim S2048x16 ![0, 1] bcast_S1x16_S2048x16_0_1 main_v18
  let main_v21 : IVec S2048x16 1 := cmpi .sge main_v19 main_v20
  let main_c_6 : IVec S_ 32 := constantI S_ 32 8#32
  let main_v22 : IVec S1x16 32 := broadcastInDim S1x16 ![] bcast_S_S1x16 main_c_6
  let main_v23 : IVec S1x16 32 := addi main_v18 main_v22
  let main_v24 : IVec S2048x16 32 := broadcastInDim S2048x16 ![0, 1] bcast_S2048x1_S2048x16_0_1 main_arg2
  let main_v25 : IVec S2048x16 32 := broadcastInDim S2048x16 ![0, 1] bcast_S1x16_S2048x16_0_1 main_v23
  let main_v26 : IVec S2048x16 1 := cmpi .slt main_v24 main_v25
  let main_v27 : IVec S2048x16 1 := andi main_v21 main_v26
  let main_v28 : IVec S2048x16 32 := (extui 32 · natLt_1_32) main_v27
  let main_c_7 : IVec S_ 32 := constantI S_ 32 0#32
  let main_v29 : IVec S16 32 := (fun x v => Host.reduce IntOp.addi x v reducesTo_S2048x16_S16_d0 h_S_) main_v28 main_c_7
  let main_c_8 : IVec S_ 32 := constantI S_ 32 192#32
  let main_v30 : IVec S16 32 := broadcastInDim S16 ![] bcast_S_S16 main_c_8
  let main_v31 : IVec S16 1 := cmpi .sle main_v29 main_v30
  let main_c_9 : IVec S_ 1 := constantI S_ 1 1#1
  let main_v32 : IVec S_ 1 := (fun x v => Host.reduce IntOp.andi x v reducesTo_S16_S_d0 h_S_) main_v31 main_c_9
  let main_v33 : IVec S_ 1 := andi main_v8 main_v14
  let main_v34 : IVec S_ 1 := andi main_v33 main_v32
  main_v34

def fn {F : FTy → Type} [FloatOps F] (main_arg0 : FVec F S2048x512 .f32) (main_arg1 : FVec F S512x128 .f32) (main_arg2 : IVec S2048x1 32) (main_arg3 : FVec F S8x512x1024 .f32) (main_arg4 : FVec F S512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_c_2 : IVec S_ 32 := constantI S_ 32 0#32
  let main_v9 : IVec S2048x1 32 := broadcastInDim S2048x1 ![] bcast_S_S2048x1 main_c_2
  let main_v10 : IVec S2048x1 1 := cmpi .sge main_arg2 main_v9
  let main_c_3 : IVec S_ 32 := constantI S_ 32 128#32
  let main_v11 : IVec S2048x1 32 := broadcastInDim S2048x1 ![] bcast_S_S2048x1 main_c_3
  let main_v12 : IVec S2048x1 1 := cmpi .slt main_arg2 main_v11
  let main_v13 : IVec S2048x1 1 := andi main_v10 main_v12
  let main_c_4 : IVec S_ 1 := constantI S_ 1 1#1
  let main_v14 : IVec S_ 1 := (fun x v => Host.reduce IntOp.andi x v reducesTo_S2048x1_S_d0_1 h_S_) main_v13 main_c_4
  let main_v15 : IVec S16 32 := iotaInDim S16 32 0
  let main_c_5 : IVec S_ 32 := constantI S_ 32 8#32
  fn_part1 (F := F) main_arg2 main_v8 main_v14 main_v15 main_c_5
-- ==== Pre_routable_ReferenceIdeal.lean ====
abbrev S32768x512 : Shape := ⟨2, ![32768, 512]⟩
abbrev S512x128 : Shape := ⟨2, ![512, 128]⟩
abbrev S32768x1 : Shape := ⟨2, ![32768, 1]⟩
abbrev S128x512x1024 : Shape := ⟨3, ![128, 512, 1024]⟩
abbrev S512x1024 : Shape := ⟨2, ![512, 1024]⟩
abbrev S_ : Shape := ⟨0, ![]⟩
abbrev S16 : Shape := ⟨1, ![16]⟩
abbrev S1x16 : Shape := ⟨2, ![1, 16]⟩
abbrev S32768x16 : Shape := ⟨2, ![32768, 16]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S32768x1 : S_.BroadcastsInDim S32768x1 (![] : Fin 0 → Fin S32768x1.rank)
  reducesTo_S32768x1_S_d0_1 : S32768x1.ReducesTo [0, 1] S_
  bcast_S_S16 : S_.BroadcastsInDim S16 (![] : Fin 0 → Fin S16.rank)
  bcast_S16_S1x16_1 : S16.BroadcastsInDim S1x16 (![1] : Fin 1 → Fin S1x16.rank)
  bcast_S32768x1_S32768x16_0_1 : S32768x1.BroadcastsInDim S32768x16 (![0, 1] : Fin 2 → Fin S32768x16.rank)
  bcast_S1x16_S32768x16_0_1 : S1x16.BroadcastsInDim S32768x16 (![0, 1] : Fin 2 → Fin S32768x16.rank)
  bcast_S_S1x16 : S_.BroadcastsInDim S1x16 (![] : Fin 0 → Fin S1x16.rank)
  natLt_1_32 : 1 < 32
  reducesTo_S32768x16_S16_d0 : S32768x16.ReducesTo [0] S16
  reducesTo_S16_S_d0 : S16.ReducesTo [0] S_

variable [Facts]

def fn_part1 {F : FTy → Type} [FloatOps F] (main_arg2 : IVec S32768x1 32) (main_v8 : IVec S_ 1) (main_v14 : IVec S_ 1) (main_v15 : IVec S16 32) (main_c_5 : IVec S_ 32) : IVec S_ 1 :=
  let main_v16 : IVec S16 32 := broadcastInDim S16 ![] bcast_S_S16 main_c_5
  let main_v17 : IVec S16 32 := muli main_v15 main_v16
  let main_v18 : IVec S1x16 32 := broadcastInDim S1x16 ![1] bcast_S16_S1x16_1 main_v17
  let main_v19 : IVec S32768x16 32 := broadcastInDim S32768x16 ![0, 1] bcast_S32768x1_S32768x16_0_1 main_arg2
  let main_v20 : IVec S32768x16 32 := broadcastInDim S32768x16 ![0, 1] bcast_S1x16_S32768x16_0_1 main_v18
  let main_v21 : IVec S32768x16 1 := cmpi .sge main_v19 main_v20
  let main_c_6 : IVec S_ 32 := constantI S_ 32 8#32
  let main_v22 : IVec S1x16 32 := broadcastInDim S1x16 ![] bcast_S_S1x16 main_c_6
  let main_v23 : IVec S1x16 32 := addi main_v18 main_v22
  let main_v24 : IVec S32768x16 32 := broadcastInDim S32768x16 ![0, 1] bcast_S32768x1_S32768x16_0_1 main_arg2
  let main_v25 : IVec S32768x16 32 := broadcastInDim S32768x16 ![0, 1] bcast_S1x16_S32768x16_0_1 main_v23
  let main_v26 : IVec S32768x16 1 := cmpi .slt main_v24 main_v25
  let main_v27 : IVec S32768x16 1 := andi main_v21 main_v26
  let main_v28 : IVec S32768x16 32 := (extui 32 · natLt_1_32) main_v27
  let main_c_7 : IVec S_ 32 := constantI S_ 32 0#32
  let main_v29 : IVec S16 32 := (fun x v => Host.reduce IntOp.addi x v reducesTo_S32768x16_S16_d0 h_S_) main_v28 main_c_7
  let main_c_8 : IVec S_ 32 := constantI S_ 32 192#32
  let main_v30 : IVec S16 32 := broadcastInDim S16 ![] bcast_S_S16 main_c_8
  let main_v31 : IVec S16 1 := cmpi .sle main_v29 main_v30
  let main_c_9 : IVec S_ 1 := constantI S_ 1 1#1
  let main_v32 : IVec S_ 1 := (fun x v => Host.reduce IntOp.andi x v reducesTo_S16_S_d0 h_S_) main_v31 main_c_9
  let main_v33 : IVec S_ 1 := andi main_v8 main_v14
  let main_v34 : IVec S_ 1 := andi main_v33 main_v32
  main_v34

def fn {F : FTy → Type} [FloatOps F] (main_arg0 : FVec F S32768x512 .f32) (main_arg1 : FVec F S512x128 .f32) (main_arg2 : IVec S32768x1 32) (main_arg3 : FVec F S128x512x1024 .f32) (main_arg4 : FVec F S512x1024 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_c_2 : IVec S_ 32 := constantI S_ 32 0#32
  let main_v9 : IVec S32768x1 32 := broadcastInDim S32768x1 ![] bcast_S_S32768x1 main_c_2
  let main_v10 : IVec S32768x1 1 := cmpi .sge main_arg2 main_v9
  let main_c_3 : IVec S_ 32 := constantI S_ 32 128#32
  let main_v11 : IVec S32768x1 32 := broadcastInDim S32768x1 ![] bcast_S_S32768x1 main_c_3
  let main_v12 : IVec S32768x1 1 := cmpi .slt main_arg2 main_v11
  let main_v13 : IVec S32768x1 1 := andi main_v10 main_v12
  let main_c_4 : IVec S_ 1 := constantI S_ 1 1#1
  let main_v14 : IVec S_ 1 := (fun x v => Host.reduce IntOp.andi x v reducesTo_S32768x1_S_d0_1 h_S_) main_v13 main_c_4
  let main_v15 : IVec S16 32 := iotaInDim S16 32 0
  let main_c_5 : IVec S_ 32 := constantI S_ 32 8#32
  fn_part1 (F := F) main_arg2 main_v8 main_v14 main_v15 main_c_5
-- ==== Kernel.lean ====
abbrev S2048x512 : Shape := ⟨2, ![2048, 512]⟩
abbrev S512x128 : Shape := ⟨2, ![512, 128]⟩
abbrev S2048x1 : Shape := ⟨2, ![2048, 1]⟩
abbrev S8x512x1024 : Shape := ⟨3, ![8, 512, 1024]⟩
abbrev S512x1024 : Shape := ⟨2, ![512, 1024]⟩
abbrev S_ : Shape := ⟨0, ![]⟩
abbrev S2048x128 : Shape := ⟨2, ![2048, 128]⟩
abbrev S2048 : Shape := ⟨1, ![2048]⟩
abbrev S128 : Shape := ⟨1, ![128]⟩
abbrev S1x128 : Shape := ⟨2, ![1, 128]⟩
abbrev S16 : Shape := ⟨1, ![16]⟩
abbrev S1x16 : Shape := ⟨2, ![1, 16]⟩
abbrev S2048x16 : Shape := ⟨2, ![2048, 16]⟩
abbrev S8 : Shape := ⟨1, ![8]⟩
abbrev S1x8 : Shape := ⟨2, ![1, 8]⟩
abbrev S2048x8 : Shape := ⟨2, ![2048, 8]⟩
abbrev S2048x520 : Shape := ⟨2, ![2048, 520]⟩
abbrev S1x2048 : Shape := ⟨2, ![1, 2048]⟩
abbrev S2048x1024 : Shape := ⟨2, ![2048, 1024]⟩
abbrev S3072x520 : Shape := ⟨2, ![3072, 520]⟩
abbrev S3072x1024 : Shape := ⟨2, ![3072, 1024]⟩
abbrev S2x192x1024 : Shape := ⟨3, ![2, 192, 1024]⟩
abbrev S192x2048 : Shape := ⟨2, ![192, 2048]⟩
abbrev S192x520 : Shape := ⟨2, ![192, 520]⟩
abbrev S1 : Shape := ⟨1, ![1]⟩
abbrev S192x512 : Shape := ⟨2, ![192, 512]⟩
abbrev S192x1 : Shape := ⟨2, ![192, 1]⟩
abbrev S192 : Shape := ⟨1, ![192]⟩
abbrev S1x512x1024 : Shape := ⟨3, ![1, 512, 1024]⟩
abbrev S192x1024 : Shape := ⟨2, ![192, 1024]⟩
abbrev S1x192x1024 : Shape := ⟨3, ![1, 192, 1024]⟩
abbrev S1024 : Shape := ⟨1, ![1024]⟩
abbrev S1024x1 : Shape := ⟨2, ![1024, 1]⟩
abbrev S1024x192 : Shape := ⟨2, ![1024, 192]⟩
abbrev S1024x1024 : Shape := ⟨2, ![1024, 1024]⟩

abbrev nBuf : Space → Nat
  | .hbm => 142
  | .vmem => 10
  | .smem => 0
  | _ => 0

abbrev hbmTy0_0 (i : Nat) : BufTy := match i % 128 with
  | 0 => ⟨S2048x512, .f32⟩
  | 1 => ⟨S512x128, .f32⟩
  | 2 => ⟨S2048x1, .i32⟩
  | 3 => ⟨S8x512x1024, .f32⟩
  | 4 => ⟨S512x1024, .f32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S2048x128, .f32⟩
  | 12 => ⟨S_, .f32⟩
  | 13 => ⟨S2048, .f32⟩
  | 14 => ⟨S2048x1, .f32⟩
  | 15 => ⟨S2048x128, .f32⟩
  | 16 => ⟨S2048x128, .f32⟩
  | 17 => ⟨S2048x128, .f32⟩
  | 18 => ⟨S_, .f32⟩
  | 19 => ⟨S2048, .f32⟩
  | 20 => ⟨S2048x1, .f32⟩
  | 21 => ⟨S2048x128, .f32⟩
  | 22 => ⟨S2048x128, .f32⟩
  | 23 => ⟨S2048, .i32⟩
  | 24 => ⟨S2048x1, .i32⟩
  | 25 => ⟨S128, .i32⟩
  | 26 => ⟨S1x128, .i32⟩
  | 27 => ⟨S2048x128, .i32⟩
  | 28 => ⟨S2048x128, .i32⟩
  | 29 => ⟨S2048x128, .i1⟩
  | 30 => ⟨S2048x128, .f32⟩
  | 31 => ⟨S2048x128, .f32⟩
  | 32 => ⟨S_, .f32⟩
  | 33 => ⟨S2048, .f32⟩
  | 34 => ⟨S_, .i32⟩
  | 35 => ⟨S_, .i32⟩
  | 36 => ⟨S2048, .i32⟩
  | 37 => ⟨S2048, .i32⟩
  | 38 => ⟨S2048, .i32⟩
  | 39 => ⟨S_, .i32⟩
  | 40 => ⟨S2048, .i32⟩
  | 41 => ⟨S2048, .i1⟩
  | 42 => ⟨S2048, .i32⟩
  | 43 => ⟨S2048, .i32⟩
  | 44 => ⟨S_, .i32⟩
  | 45 => ⟨S2048, .i32⟩
  | 46 => ⟨S2048, .i1⟩
  | 47 => ⟨S2048, .i1⟩
  | 48 => ⟨S_, .i32⟩
  | 49 => ⟨S2048, .i32⟩
  | 50 => ⟨S2048, .i32⟩
  | 51 => ⟨S2048, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S2048, .i32⟩
  | 59 => ⟨S2048, .i32⟩
  | 60 => ⟨S_, .i32⟩
  | 61 => ⟨S2048, .i32⟩
  | 62 => ⟨S2048, .i1⟩
  | 63 => ⟨S_, .i32⟩
  | 64 => ⟨S2048, .i32⟩
  | 65 => ⟨S2048, .i1⟩
  | 66 => ⟨S_, .i32⟩
  | 67 => ⟨S_, .i1⟩
  | 68 => ⟨S2048, .i1⟩
  | 69 => ⟨S2048, .i1⟩
  | 70 => ⟨S2048, .i1⟩
  | 71 => ⟨S2048, .i32⟩
  | 72 => ⟨S2048, .i32⟩
  | 73 => ⟨S2048, .i32⟩
  | 74 => ⟨S2048, .i32⟩
  | 75 => ⟨S2048, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S2048, .i32⟩
  | 83 => ⟨S2048, .i32⟩
  | 84 => ⟨S_, .i32⟩
  | 85 => ⟨S2048, .i32⟩
  | 86 => ⟨S2048, .i1⟩
  | 87 => ⟨S_, .i32⟩
  | 88 => ⟨S2048, .i32⟩
  | 89 => ⟨S2048, .i1⟩
  | 90 => ⟨S_, .i32⟩
  | 91 => ⟨S_, .i1⟩
  | 92 => ⟨S2048, .i1⟩
  | 93 => ⟨S2048, .i1⟩
  | 94 => ⟨S2048, .i1⟩
  | 95 => ⟨S2048, .i32⟩
  | 96 => ⟨S2048, .i32⟩
  | 97 => ⟨S2048, .i32⟩
  | 98 => ⟨S2048x1, .i32⟩
  | 99 => ⟨S16, .i32⟩
  | 100 => ⟨S1x16, .i32⟩
  | 101 => ⟨S2048x16, .i32⟩
  | 102 => ⟨S2048x16, .i32⟩
  | 103 => ⟨S2048x16, .i1⟩
  | 104 => ⟨S2048x16, .i32⟩
  | 105 => ⟨S_, .i32⟩
  | 106 => ⟨S_, .i32⟩
  | 107 => ⟨S2048x16, .i32⟩
  | 108 => ⟨S2048x16, .i32⟩
  | 109 => ⟨S_, .i32⟩
  | 110 => ⟨S2048, .i32⟩
  | 111 => ⟨S_, .i32⟩
  | 112 => ⟨S2048, .i32⟩
  | 113 => ⟨S2048, .i32⟩
  | 114 => ⟨S_, .i32⟩
  | 115 => ⟨S2048, .i32⟩
  | 116 => ⟨S2048, .i1⟩
  | 117 => ⟨S_, .i32⟩
  | 118 => ⟨S2048, .i32⟩
  | 119 => ⟨S2048, .i32⟩
  | 120 => ⟨S2048, .i32⟩
  | 121 => ⟨S_, .i32⟩
  | 122 => ⟨S_, .i32⟩
  | 123 => ⟨S2048, .i32⟩
  | 124 => ⟨S2048, .i32⟩
  | 125 => ⟨S2048x1, .f32⟩
  | 126 => ⟨S2048x512, .f32⟩
  | 127 => ⟨S2048x512, .f32⟩
  | _ => ⟨S2048x512, .f32⟩

abbrev hbmTy0_1 (i : Nat) : BufTy := match i % 128 with
  | 0 => ⟨S2048x512, .bf16⟩
  | 1 => ⟨S2048x1, .i32⟩
  | 2 => ⟨S8, .i32⟩
  | 3 => ⟨S1x8, .i32⟩
  | 4 => ⟨S2048x8, .i32⟩
  | 5 => ⟨S2048x8, .i32⟩
  | 6 => ⟨S2048x8, .i1⟩
  | 7 => ⟨S2048x8, .bf16⟩
  | 8 => ⟨S2048x520, .bf16⟩
  | 9 => ⟨S1x2048, .i32⟩
  | 10 => ⟨S2048x512, .bf16⟩
  | 11 => ⟨S512x1024, .bf16⟩
  | 12 => ⟨S8x512x1024, .bf16⟩
  | 13 => ⟨S2048x1024, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | .local _ .vmem, ⟨0, _⟩ => ⟨S2048x520, .bf16⟩
  | .local _ .vmem, ⟨1, _⟩ => ⟨S1x2048, .i32⟩
  | .local _ .vmem, ⟨2, _⟩ => ⟨S2048x512, .bf16⟩
  | .local _ .vmem, ⟨3, _⟩ => ⟨S512x1024, .bf16⟩
  | .local _ .vmem, ⟨4, _⟩ => ⟨S8x512x1024, .bf16⟩
  | .local _ .vmem, ⟨5, _⟩ => ⟨S2048x1024, .f32⟩
  | .local _ .vmem, ⟨6, _⟩ => ⟨S3072x520, .bf16⟩
  | .local _ .vmem, ⟨7, _⟩ => ⟨S3072x520, .bf16⟩
  | .local _ .vmem, ⟨8, _⟩ => ⟨S3072x1024, .bf16⟩
  | .local _ .vmem, ⟨9, _⟩ => ⟨S2x192x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_c_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v25 : Ref sig .tc := ⟨.hbm, 51, rfl⟩
abbrev main_c_4 : Ref sig .tc := ⟨.hbm, 52, rfl⟩
abbrev main_call1_v0 : Ref sig .tc := ⟨.hbm, 53, rfl⟩
abbrev main_call1_c : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_c_1 : Ref sig .tc := ⟨.hbm, 60, rfl⟩
abbrev main_call1_v5 : Ref sig .tc := ⟨.hbm, 61, rfl⟩
abbrev main_call1_v6 : Ref sig .tc := ⟨.hbm, 62, rfl⟩
abbrev main_call1_c_2 : Ref sig .tc := ⟨.hbm, 63, rfl⟩
abbrev main_call1_v7 : Ref sig .tc := ⟨.hbm, 64, rfl⟩
abbrev main_call1_v8 : Ref sig .tc := ⟨.hbm, 65, rfl⟩
abbrev main_call1_c_3 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_c_5 : Ref sig .tc := ⟨.hbm, 76, rfl⟩
abbrev main_call2_v0 : Ref sig .tc := ⟨.hbm, 77, rfl⟩
abbrev main_call2_c : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_c_1 : Ref sig .tc := ⟨.hbm, 84, rfl⟩
abbrev main_call2_v5 : Ref sig .tc := ⟨.hbm, 85, rfl⟩
abbrev main_call2_v6 : Ref sig .tc := ⟨.hbm, 86, rfl⟩
abbrev main_call2_c_2 : Ref sig .tc := ⟨.hbm, 87, rfl⟩
abbrev main_call2_v7 : Ref sig .tc := ⟨.hbm, 88, rfl⟩
abbrev main_call2_v8 : Ref sig .tc := ⟨.hbm, 89, rfl⟩
abbrev main_call2_c_3 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_call3_call0_c : Ref sig .tc := ⟨.hbm, 105, rfl⟩
abbrev main_call3_call0_v0 : Ref sig .tc := ⟨.hbm, 106, rfl⟩
abbrev main_v37 : Ref sig .tc := ⟨.hbm, 107, rfl⟩
abbrev main_v38 : Ref sig .tc := ⟨.hbm, 108, rfl⟩
abbrev main_c_6 : Ref sig .tc := ⟨.hbm, 109, rfl⟩
abbrev main_v39 : Ref sig .tc := ⟨.hbm, 110, rfl⟩
abbrev main_c_7 : Ref sig .tc := ⟨.hbm, 111, rfl⟩
abbrev main_v40 : Ref sig .tc := ⟨.hbm, 112, rfl⟩
abbrev main_v41 : Ref sig .tc := ⟨.hbm, 113, rfl⟩
abbrev main_c_8 : Ref sig .tc := ⟨.hbm, 114, rfl⟩
abbrev main_v42 : Ref sig .tc := ⟨.hbm, 115, rfl⟩
abbrev main_v43 : Ref sig .tc := ⟨.hbm, 116, rfl⟩
abbrev main_c_9 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_c_10 : Ref sig .tc := ⟨.hbm, 121, rfl⟩
abbrev main_call4_v0 : Ref sig .tc := ⟨.hbm, 122, rfl⟩
abbrev main_call4_v1 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_139 : BitVec 32 := 1#32
  let v203 : BitVec 32 := Scalar.addi v2 c1_i32_139
  let c16_i32_140 : BitVec 32 := 16#32
  let c0_i32_141 : BitVec 32 := 0#32
  let v204 : BitVec 1 := Scalar.cmpi .eq c16_i32_140 c0_i32_141
  let c1_i32_142 : BitVec 32 := 1#32
  let v205 : BitVec 32 := Scalar.select v204 c1_i32_142 c16_i32_140
  let v206 : BitVec 32 := Scalar.remsi v203 v205
  let c0_i32_144 : BitVec 32 := 0#32
  let v208 : BitVec 1 := Scalar.cmpi .slt v206 c0_i32_144
  let c0_i32_145 : BitVec 32 := 0#32
  let v209 : BitVec 1 := Scalar.cmpi .slt v205 c0_i32_145
  let v210 : BitVec 1 := Scalar.xori v208 v209
  let c0_i32_143 : BitVec 32 := 0#32
  let v207 : BitVec 1 := Scalar.cmpi .ne v206 c0_i32_143
  let v211 : BitVec 1 := Scalar.andi v210 v207
  let v212 : BitVec 32 := Scalar.addi v206 v205
  let v213 : BitVec 32 := Scalar.select v211 v212 v206
  let c1_i32_149 : BitVec 32 := 1#32
  let v228 : BitVec 32 := Scalar.muli v213 c1_i32_149
  let v229 : BitVec 32 := Scalar.addi c0_i32_150 v228
  v229.toNat
def k0_dev17 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_154 : BitVec 32 := 2#32
  let v236 : BitVec 32 := Scalar.addi v2 c2_i32_154
  let c16_i32_155 : BitVec 32 := 16#32
  let c0_i32_156 : BitVec 32 := 0#32
  let v237 : BitVec 1 := Scalar.cmpi .eq c16_i32_155 c0_i32_156
  let c1_i32_157 : BitVec 32 := 1#32
  let v238 : BitVec 32 := Scalar.select v237 c1_i32_157 c16_i32_155
  let v239 : BitVec 32 := Scalar.remsi v236 v238
  let c0_i32_159 : BitVec 32 := 0#32
  let v241 : BitVec 1 := Scalar.cmpi .slt v239 c0_i32_159
  let c0_i32_160 : BitVec 32 := 0#32
  let v242 : BitVec 1 := Scalar.cmpi .slt v238 c0_i32_160
  let v243 : BitVec 1 := Scalar.xori v241 v242
  let c0_i32_158 : BitVec 32 := 0#32
  let v240 : BitVec 1 := Scalar.cmpi .ne v239 c0_i32_158
  let v244 : BitVec 1 := Scalar.andi v243 v240
  let v245 : BitVec 32 := Scalar.addi v239 v238
  let v246 : BitVec 32 := Scalar.select v244 v245 v239
  let c1_i32_165 : BitVec 32 := 1#32
  let v261 : BitVec 32 := Scalar.muli v246 c1_i32_165
  let v262 : BitVec 32 := Scalar.addi c0_i32_166 v261
  v262.toNat
def k0_dev18 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_170 : BitVec 32 := 3#32
  let v269 : BitVec 32 := Scalar.addi v2 c3_i32_170
  let c16_i32_171 : BitVec 32 := 16#32
  let c0_i32_172 : BitVec 32 := 0#32
  let v270 : BitVec 1 := Scalar.cmpi .eq c16_i32_171 c0_i32_172
  let c1_i32_173 : BitVec 32 := 1#32
  let v271 : BitVec 32 := Scalar.select v270 c1_i32_173 c16_i32_171
  let v272 : BitVec 32 := Scalar.remsi v269 v271
  let c0_i32_175 : BitVec 32 := 0#32
  let v274 : BitVec 1 := Scalar.cmpi .slt v272 c0_i32_175
  let c0_i32_176 : BitVec 32 := 0#32
  let v275 : BitVec 1 := Scalar.cmpi .slt v271 c0_i32_176
  let v276 : BitVec 1 := Scalar.xori v274 v275
  let c0_i32_174 : BitVec 32 := 0#32
  let v273 : BitVec 1 := Scalar.cmpi .ne v272 c0_i32_174
  let v277 : BitVec 1 := Scalar.andi v276 v273
  let v278 : BitVec 32 := Scalar.addi v272 v271
  let v279 : BitVec 32 := Scalar.select v277 v278 v272
  let c1_i32_181 : BitVec 32 := 1#32
  let v294 : BitVec 32 := Scalar.muli v279 c1_i32_181
  let v295 : BitVec 32 := Scalar.addi c0_i32_182 v294
  v295.toNat
def k0_dev19 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_186 : BitVec 32 := 4#32
  let v302 : BitVec 32 := Scalar.addi v2 c4_i32_186
  let c16_i32_187 : BitVec 32 := 16#32
  let c0_i32_188 : BitVec 32 := 0#32
  let v303 : BitVec 1 := Scalar.cmpi .eq c16_i32_187 c0_i32_188
  let c1_i32_189 : BitVec 32 := 1#32
  let v304 : BitVec 32 := Scalar.select v303 c1_i32_189 c16_i32_187
  let v305 : BitVec 32 := Scalar.remsi v302 v304
  let c0_i32_191 : BitVec 32 := 0#32
  let v307 : BitVec 1 := Scalar.cmpi .slt v305 c0_i32_191
  let c0_i32_192 : BitVec 32 := 0#32
  let v308 : BitVec 1 := Scalar.cmpi .slt v304 c0_i32_192
  let v309 : BitVec 1 := Scalar.xori v307 v308
  let c0_i32_190 : BitVec 32 := 0#32
  let v306 : BitVec 1 := Scalar.cmpi .ne v305 c0_i32_190
  let v310 : BitVec 1 := Scalar.andi v309 v306
  let v311 : BitVec 32 := Scalar.addi v305 v304
  let v312 : BitVec 32 := Scalar.select v310 v311 v305
  let c1_i32_197 : BitVec 32 := 1#32
  let v327 : BitVec 32 := Scalar.muli v312 c1_i32_197
  let v328 : BitVec 32 := Scalar.addi c0_i32_198 v327
  v328.toNat
def k0_dev20 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_202 : BitVec 32 := 5#32
  let v335 : BitVec 32 := Scalar.addi v2 c5_i32_202
  let c16_i32_203 : BitVec 32 := 16#32
  let c0_i32_204 : BitVec 32 := 0#32
  let v336 : BitVec 1 := Scalar.cmpi .eq c16_i32_203 c0_i32_204
  let c1_i32_205 : BitVec 32 := 1#32
  let v337 : BitVec 32 := Scalar.select v336 c1_i32_205 c16_i32_203
  let v338 : BitVec 32 := Scalar.remsi v335 v337
  let c0_i32_207 : BitVec 32 := 0#32
  let v340 : BitVec 1 := Scalar.cmpi .slt v338 c0_i32_207
  let c0_i32_208 : BitVec 32 := 0#32
  let v341 : BitVec 1 := Scalar.cmpi .slt v337 c0_i32_208
  let v342 : BitVec 1 := Scalar.xori v340 v341
  let c0_i32_206 : BitVec 32 := 0#32
  let v339 : BitVec 1 := Scalar.cmpi .ne v338 c0_i32_206
  let v343 : BitVec 1 := Scalar.andi v342 v339
  let v344 : BitVec 32 := Scalar.addi v338 v337
  let v345 : BitVec 32 := Scalar.select v343 v344 v338
  let c1_i32_213 : BitVec 32 := 1#32
  let v360 : BitVec 32 := Scalar.muli v345 c1_i32_213
  let v361 : BitVec 32 := Scalar.addi c0_i32_214 v360
  v361.toNat
def k0_dev21 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_218 : BitVec 32 := 6#32
  let v368 : BitVec 32 := Scalar.addi v2 c6_i32_218
  let c16_i32_219 : BitVec 32 := 16#32
  let c0_i32_220 : BitVec 32 := 0#32
  let v369 : BitVec 1 := Scalar.cmpi .eq c16_i32_219 c0_i32_220
  let c1_i32_221 : BitVec 32 := 1#32
  let v370 : BitVec 32 := Scalar.select v369 c1_i32_221 c16_i32_219
  let v371 : BitVec 32 := Scalar.remsi v368 v370
  let c0_i32_223 : BitVec 32 := 0#32
  let v373 : BitVec 1 := Scalar.cmpi .slt v371 c0_i32_223
  let c0_i32_224 : BitVec 32 := 0#32
  let v374 : BitVec 1 := Scalar.cmpi .slt v370 c0_i32_224
  let v375 : BitVec 1 := Scalar.xori v373 v374
  let c0_i32_222 : BitVec 32 := 0#32
  let v372 : BitVec 1 := Scalar.cmpi .ne v371 c0_i32_222
  let v376 : BitVec 1 := Scalar.andi v375 v372
  let v377 : BitVec 32 := Scalar.addi v371 v370
  let v378 : BitVec 32 := Scalar.select v376 v377 v371
  let c1_i32_229 : BitVec 32 := 1#32
  let v393 : BitVec 32 := Scalar.muli v378 c1_i32_229
  let v394 : BitVec 32 := Scalar.addi c0_i32_230 v393
  v394.toNat
def k0_dev22 (d0 : Dev nD) : Nat :=
  let c0_i32_246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_234 : BitVec 32 := 7#32
  let v401 : BitVec 32 := Scalar.addi v2 c7_i32_234
  let c16_i32_235 : BitVec 32 := 16#32
  let c0_i32_236 : BitVec 32 := 0#32
  let v402 : BitVec 1 := Scalar.cmpi .eq c16_i32_235 c0_i32_236
  let c1_i32_237 : BitVec 32 := 1#32
  let v403 : BitVec 32 := Scalar.select v402 c1_i32_237 c16_i32_235
  let v404 : BitVec 32 := Scalar.remsi v401 v403
  let c0_i32_239 : BitVec 32 := 0#32
  let v406 : BitVec 1 := Scalar.cmpi .slt v404 c0_i32_239
  let c0_i32_240 : BitVec 32 := 0#32
  let v407 : BitVec 1 := Scalar.cmpi .slt v403 c0_i32_240
  let v408 : BitVec 1 := Scalar.xori v406 v407
  let c0_i32_238 : BitVec 32 := 0#32
  let v405 : BitVec 1 := Scalar.cmpi .ne v404 c0_i32_238
  let v409 : BitVec 1 := Scalar.andi v408 v405
  let v410 : BitVec 32 := Scalar.addi v404 v403
  let v411 : BitVec 32 := Scalar.select v409 v410 v404
  let c1_i32_245 : BitVec 32 := 1#32
  let v426 : BitVec 32 := Scalar.muli v411 c1_i32_245
  let v427 : BitVec 32 := Scalar.addi c0_i32_246 v426
  v427.toNat
def k0_dev23 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_250 : BitVec 32 := 8#32
  let v434 : BitVec 32 := Scalar.addi v2 c8_i32_250
  let c16_i32_251 : BitVec 32 := 16#32
  let c0_i32_252 : BitVec 32 := 0#32
  let v435 : BitVec 1 := Scalar.cmpi .eq c16_i32_251 c0_i32_252
  let c1_i32_253 : BitVec 32 := 1#32
  let v436 : BitVec 32 := Scalar.select v435 c1_i32_253 c16_i32_251
  let v437 : BitVec 32 := Scalar.remsi v434 v436
  let c0_i32_255 : BitVec 32 := 0#32
  let v439 : BitVec 1 := Scalar.cmpi .slt v437 c0_i32_255
  let c0_i32_256 : BitVec 32 := 0#32
  let v440 : BitVec 1 := Scalar.cmpi .slt v436 c0_i32_256
  let v441 : BitVec 1 := Scalar.xori v439 v440
  let c0_i32_254 : BitVec 32 := 0#32
  let v438 : BitVec 1 := Scalar.cmpi .ne v437 c0_i32_254
  let v442 : BitVec 1 := Scalar.andi v441 v438
  let v443 : BitVec 32 := Scalar.addi v437 v436
  let v444 : BitVec 32 := Scalar.select v442 v443 v437
  let c1_i32_261 : BitVec 32 := 1#32
  let v459 : BitVec 32 := Scalar.muli v444 c1_i32_261
  let v460 : BitVec 32 := Scalar.addi c0_i32_262 v459
  v460.toNat
def k0_dev24 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_267 : BitVec 32 := 9#32
  let v467 : BitVec 32 := Scalar.addi v2 c9_i32_267
  let c16_i32_268 : BitVec 32 := 16#32
  let c0_i32_269 : BitVec 32 := 0#32
  let v468 : BitVec 1 := Scalar.cmpi .eq c16_i32_268 c0_i32_269
  let c1_i32_270 : BitVec 32 := 1#32
  let v469 : BitVec 32 := Scalar.select v468 c1_i32_270 c16_i32_268
  let v470 : BitVec 32 := Scalar.remsi v467 v469
  let c0_i32_272 : BitVec 32 := 0#32
  let v472 : BitVec 1 := Scalar.cmpi .slt v470 c0_i32_272
  let c0_i32_273 : BitVec 32 := 0#32
  let v473 : BitVec 1 := Scalar.cmpi .slt v469 c0_i32_273
  let v474 : BitVec 1 := Scalar.xori v472 v473
  let c0_i32_271 : BitVec 32 := 0#32
  let v471 : BitVec 1 := Scalar.cmpi .ne v470 c0_i32_271
  let v475 : BitVec 1 := Scalar.andi v474 v471
  let v476 : BitVec 32 := Scalar.addi v470 v469
  let v477 : BitVec 32 := Scalar.select v475 v476 v470
  let c1_i32_279 : BitVec 32 := 1#32
  let v492 : BitVec 32 := Scalar.muli v477 c1_i32_279
  let v493 : BitVec 32 := Scalar.addi c0_i32_280 v492
  v493.toNat
def k0_dev25 (d0 : Dev nD) : Nat :=
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_285 : BitVec 32 := 10#32
  let v500 : BitVec 32 := Scalar.addi v2 c10_i32_285
  let c16_i32_286 : BitVec 32 := 16#32
  let c0_i32_287 : BitVec 32 := 0#32
  let v501 : BitVec 1 := Scalar.cmpi .eq c16_i32_286 c0_i32_287
  let c1_i32_288 : BitVec 32 := 1#32
  let v502 : BitVec 32 := Scalar.select v501 c1_i32_288 c16_i32_286
  let v503 : BitVec 32 := Scalar.remsi v500 v502
  let c0_i32_290 : BitVec 32 := 0#32
  let v505 : BitVec 1 := Scalar.cmpi .slt v503 c0_i32_290
  let c0_i32_291 : BitVec 32 := 0#32
  let v506 : BitVec 1 := Scalar.cmpi .slt v502 c0_i32_291
  let v507 : BitVec 1 := Scalar.xori v505 v506
  let c0_i32_289 : BitVec 32 := 0#32
  let v504 : BitVec 1 := Scalar.cmpi .ne v503 c0_i32_289
  let v508 : BitVec 1 := Scalar.andi v507 v504
  let v509 : BitVec 32 := Scalar.addi v503 v502
  let v510 : BitVec 32 := Scalar.select v508 v509 v503
  let c1_i32_297 : BitVec 32 := 1#32
  let v525 : BitVec 32 := Scalar.muli v510 c1_i32_297
  let v526 : BitVec 32 := Scalar.addi c0_i32_298 v525
  v526.toNat
def k0_dev26 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_303 : BitVec 32 := 11#32
  let v533 : BitVec 32 := Scalar.addi v2 c11_i32_303
  let c16_i32_304 : BitVec 32 := 16#32
  let c0_i32_305 : BitVec 32 := 0#32
  let v534 : BitVec 1 := Scalar.cmpi .eq c16_i32_304 c0_i32_305
  let c1_i32_306 : BitVec 32 := 1#32
  let v535 : BitVec 32 := Scalar.select v534 c1_i32_306 c16_i32_304
  let v536 : BitVec 32 := Scalar.remsi v533 v535
  let c0_i32_308 : BitVec 32 := 0#32
  let v538 : BitVec 1 := Scalar.cmpi .slt v536 c0_i32_308
  let c0_i32_309 : BitVec 32 := 0#32
  let v539 : BitVec 1 := Scalar.cmpi .slt v535 c0_i32_309
  let v540 : BitVec 1 := Scalar.xori v538 v539
  let c0_i32_307 : BitVec 32 := 0#32
  let v537 : BitVec 1 := Scalar.cmpi .ne v536 c0_i32_307
  let v541 : BitVec 1 := Scalar.andi v540 v537
  let v542 : BitVec 32 := Scalar.addi v536 v535
  let v543 : BitVec 32 := Scalar.select v541 v542 v536
  let c1_i32_315 : BitVec 32 := 1#32
  let v558 : BitVec 32 := Scalar.muli v543 c1_i32_315
  let v559 : BitVec 32 := Scalar.addi c0_i32_316 v558
  v559.toNat
def k0_dev27 (d0 : Dev nD) : Nat :=
  let c0_i32_334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_321 : BitVec 32 := 12#32
  let v566 : BitVec 32 := Scalar.addi v2 c12_i32_321
  let c16_i32_322 : BitVec 32 := 16#32
  let c0_i32_323 : BitVec 32 := 0#32
  let v567 : BitVec 1 := Scalar.cmpi .eq c16_i32_322 c0_i32_323
  let c1_i32_324 : BitVec 32 := 1#32
  let v568 : BitVec 32 := Scalar.select v567 c1_i32_324 c16_i32_322
  let v569 : BitVec 32 := Scalar.remsi v566 v568
  let c0_i32_326 : BitVec 32 := 0#32
  let v571 : BitVec 1 := Scalar.cmpi .slt v569 c0_i32_326
  let c0_i32_327 : BitVec 32 := 0#32
  let v572 : BitVec 1 := Scalar.cmpi .slt v568 c0_i32_327
  let v573 : BitVec 1 := Scalar.xori v571 v572
  let c0_i32_325 : BitVec 32 := 0#32
  let v570 : BitVec 1 := Scalar.cmpi .ne v569 c0_i32_325
  let v574 : BitVec 1 := Scalar.andi v573 v570
  let v575 : BitVec 32 := Scalar.addi v569 v568
  let v576 : BitVec 32 := Scalar.select v574 v575 v569
  let c1_i32_333 : BitVec 32 := 1#32
  let v591 : BitVec 32 := Scalar.muli v576 c1_i32_333
  let v592 : BitVec 32 := Scalar.addi c0_i32_334 v591
  v592.toNat
def k0_dev28 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_339 : BitVec 32 := 13#32
  let v599 : BitVec 32 := Scalar.addi v2 c13_i32_339
  let c16_i32_340 : BitVec 32 := 16#32
  let c0_i32_341 : BitVec 32 := 0#32
  let v600 : BitVec 1 := Scalar.cmpi .eq c16_i32_340 c0_i32_341
  let c1_i32_342 : BitVec 32 := 1#32
  let v601 : BitVec 32 := Scalar.select v600 c1_i32_342 c16_i32_340
  let v602 : BitVec 32 := Scalar.remsi v599 v601
  let c0_i32_344 : BitVec 32 := 0#32
  let v604 : BitVec 1 := Scalar.cmpi .slt v602 c0_i32_344
  let c0_i32_345 : BitVec 32 := 0#32
  let v605 : BitVec 1 := Scalar.cmpi .slt v601 c0_i32_345
  let v606 : BitVec 1 := Scalar.xori v604 v605
  let c0_i32_343 : BitVec 32 := 0#32
  let v603 : BitVec 1 := Scalar.cmpi .ne v602 c0_i32_343
  let v607 : BitVec 1 := Scalar.andi v606 v603
  let v608 : BitVec 32 := Scalar.addi v602 v601
  let v609 : BitVec 32 := Scalar.select v607 v608 v602
  let c1_i32_351 : BitVec 32 := 1#32
  let v624 : BitVec 32 := Scalar.muli v609 c1_i32_351
  let v625 : BitVec 32 := Scalar.addi c0_i32_352 v624
  v625.toNat
def k0_dev29 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_357 : BitVec 32 := 14#32
  let v632 : BitVec 32 := Scalar.addi v2 c14_i32_357
  let c16_i32_358 : BitVec 32 := 16#32
  let c0_i32_359 : BitVec 32 := 0#32
  let v633 : BitVec 1 := Scalar.cmpi .eq c16_i32_358 c0_i32_359
  let c1_i32_360 : BitVec 32 := 1#32
  let v634 : BitVec 32 := Scalar.select v633 c1_i32_360 c16_i32_358
  let v635 : BitVec 32 := Scalar.remsi v632 v634
  let c0_i32_362 : BitVec 32 := 0#32
  let v637 : BitVec 1 := Scalar.cmpi .slt v635 c0_i32_362
  let c0_i32_363 : BitVec 32 := 0#32
  let v638 : BitVec 1 := Scalar.cmpi .slt v634 c0_i32_363
  let v639 : BitVec 1 := Scalar.xori v637 v638
  let c0_i32_361 : BitVec 32 := 0#32
  let v636 : BitVec 1 := Scalar.cmpi .ne v635 c0_i32_361
  let v640 : BitVec 1 := Scalar.andi v639 v636
  let v641 : BitVec 32 := Scalar.addi v635 v634
  let v642 : BitVec 32 := Scalar.select v640 v641 v635
  let c1_i32_369 : BitVec 32 := 1#32
  let v657 : BitVec 32 := Scalar.muli v642 c1_i32_369
  let v658 : BitVec 32 := Scalar.addi c0_i32_370 v657
  v658.toNat
def k0_dev30 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_375 : BitVec 32 := 15#32
  let v665 : BitVec 32 := Scalar.addi v2 c15_i32_375
  let c16_i32_376 : BitVec 32 := 16#32
  let c0_i32_377 : BitVec 32 := 0#32
  let v666 : BitVec 1 := Scalar.cmpi .eq c16_i32_376 c0_i32_377
  let c1_i32_378 : BitVec 32 := 1#32
  let v667 : BitVec 32 := Scalar.select v666 c1_i32_378 c16_i32_376
  let v668 : BitVec 32 := Scalar.remsi v665 v667
  let c0_i32_380 : BitVec 32 := 0#32
  let v670 : BitVec 1 := Scalar.cmpi .slt v668 c0_i32_380
  let c0_i32_381 : BitVec 32 := 0#32
  let v671 : BitVec 1 := Scalar.cmpi .slt v667 c0_i32_381
  let v672 : BitVec 1 := Scalar.xori v670 v671
  let c0_i32_379 : BitVec 32 := 0#32
  let v669 : BitVec 1 := Scalar.cmpi .ne v668 c0_i32_379
  let v673 : BitVec 1 := Scalar.andi v672 v669
  let v674 : BitVec 32 := Scalar.addi v668 v667
  let v675 : BitVec 32 := Scalar.select v673 v674 v668
  let c1_i32_387 : BitVec 32 := 1#32
  let v690 : BitVec 32 := Scalar.muli v675 c1_i32_387
  let v691 : BitVec 32 := Scalar.addi c0_i32_388 v690
  v691.toNat
def k0_dev31 (d0 : Dev nD) : Nat :=
  let c0_i32_504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_448 : BitVec 32 := 15#32
  let v827 : BitVec 32 := Scalar.addi v2 c15_i32_448
  let c16_i32_449 : BitVec 32 := 16#32
  let c0_i32_450 : BitVec 32 := 0#32
  let v828 : BitVec 1 := Scalar.cmpi .eq c16_i32_449 c0_i32_450
  let c1_i32_451 : BitVec 32 := 1#32
  let v829 : BitVec 32 := Scalar.select v828 c1_i32_451 c16_i32_449
  let v830 : BitVec 32 := Scalar.remsi v827 v829
  let c0_i32_453 : BitVec 32 := 0#32
  let v832 : BitVec 1 := Scalar.cmpi .slt v830 c0_i32_453
  let c0_i32_454 : BitVec 32 := 0#32
  let v833 : BitVec 1 := Scalar.cmpi .slt v829 c0_i32_454
  let v834 : BitVec 1 := Scalar.xori v832 v833
  let c0_i32_452 : BitVec 32 := 0#32
  let v831 : BitVec 1 := Scalar.cmpi .ne v830 c0_i32_452
  let v835 : BitVec 1 := Scalar.andi v834 v831
  let v836 : BitVec 32 := Scalar.addi v830 v829
  let v837 : BitVec 32 := Scalar.select v835 v836 v830
  let c1_i32_503 : BitVec 32 := 1#32
  let v921 : BitVec 32 := Scalar.muli v837 c1_i32_503
  let v922 : BitVec 32 := Scalar.addi c0_i32_504 v921
  v922.toNat
def k0_dev32 (d0 : Dev nD) : Nat :=
  let c0_i32_565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_509 : BitVec 32 := 14#32
  let v930 : BitVec 32 := Scalar.addi v2 c14_i32_509
  let c16_i32_510 : BitVec 32 := 16#32
  let c0_i32_511 : BitVec 32 := 0#32
  let v931 : BitVec 1 := Scalar.cmpi .eq c16_i32_510 c0_i32_511
  let c1_i32_512 : BitVec 32 := 1#32
  let v932 : BitVec 32 := Scalar.select v931 c1_i32_512 c16_i32_510
  let v933 : BitVec 32 := Scalar.remsi v930 v932
  let c0_i32_514 : BitVec 32 := 0#32
  let v935 : BitVec 1 := Scalar.cmpi .slt v933 c0_i32_514
  let c0_i32_515 : BitVec 32 := 0#32
  let v936 : BitVec 1 := Scalar.cmpi .slt v932 c0_i32_515
  let v937 : BitVec 1 := Scalar.xori v935 v936
  let c0_i32_513 : BitVec 32 := 0#32
  let v934 : BitVec 1 := Scalar.cmpi .ne v933 c0_i32_513
  let v938 : BitVec 1 := Scalar.andi v937 v934
  let v939 : BitVec 32 := Scalar.addi v933 v932
  let v940 : BitVec 32 := Scalar.select v938 v939 v933
  let c1_i32_564 : BitVec 32 := 1#32
  let v1024 : BitVec 32 := Scalar.muli v940 c1_i32_564
  let v1025 : BitVec 32 := Scalar.addi c0_i32_565 v1024
  v1025.toNat
def k0_dev33 (d0 : Dev nD) : Nat :=
  let c0_i32_634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_570 : BitVec 32 := 13#32
  let v1033 : BitVec 32 := Scalar.addi v2 c13_i32_570
  let c16_i32_571 : BitVec 32 := 16#32
  let c0_i32_572 : BitVec 32 := 0#32
  let v1034 : BitVec 1 := Scalar.cmpi .eq c16_i32_571 c0_i32_572
  let c1_i32_573 : BitVec 32 := 1#32
  let v1035 : BitVec 32 := Scalar.select v1034 c1_i32_573 c16_i32_571
  let v1036 : BitVec 32 := Scalar.remsi v1033 v1035
  let c0_i32_575 : BitVec 32 := 0#32
  let v1038 : BitVec 1 := Scalar.cmpi .slt v1036 c0_i32_575
  let c0_i32_576 : BitVec 32 := 0#32
  let v1039 : BitVec 1 := Scalar.cmpi .slt v1035 c0_i32_576
  let v1040 : BitVec 1 := Scalar.xori v1038 v1039
  let c0_i32_574 : BitVec 32 := 0#32
  let v1037 : BitVec 1 := Scalar.cmpi .ne v1036 c0_i32_574
  let v1041 : BitVec 1 := Scalar.andi v1040 v1037
  let v1042 : BitVec 32 := Scalar.addi v1036 v1035
  let v1043 : BitVec 32 := Scalar.select v1041 v1042 v1036
  let c1_i32_633 : BitVec 32 := 1#32
  let v1132 : BitVec 32 := Scalar.muli v1043 c1_i32_633
  let v1133 : BitVec 32 := Scalar.addi c0_i32_634 v1132
  v1133.toNat
def k0_dev34 (d0 : Dev nD) : Nat :=
  let c0_i32_703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_639 : BitVec 32 := 12#32
  let v1141 : BitVec 32 := Scalar.addi v2 c12_i32_639
  let c16_i32_640 : BitVec 32 := 16#32
  let c0_i32_641 : BitVec 32 := 0#32
  let v1142 : BitVec 1 := Scalar.cmpi .eq c16_i32_640 c0_i32_641
  let c1_i32_642 : BitVec 32 := 1#32
  let v1143 : BitVec 32 := Scalar.select v1142 c1_i32_642 c16_i32_640
  let v1144 : BitVec 32 := Scalar.remsi v1141 v1143
  let c0_i32_644 : BitVec 32 := 0#32
  let v1146 : BitVec 1 := Scalar.cmpi .slt v1144 c0_i32_644
  let c0_i32_645 : BitVec 32 := 0#32
  let v1147 : BitVec 1 := Scalar.cmpi .slt v1143 c0_i32_645
  let v1148 : BitVec 1 := Scalar.xori v1146 v1147
  let c0_i32_643 : BitVec 32 := 0#32
  let v1145 : BitVec 1 := Scalar.cmpi .ne v1144 c0_i32_643
  let v1149 : BitVec 1 := Scalar.andi v1148 v1145
  let v1150 : BitVec 32 := Scalar.addi v1144 v1143
  let v1151 : BitVec 32 := Scalar.select v1149 v1150 v1144
  let c1_i32_702 : BitVec 32 := 1#32
  let v1240 : BitVec 32 := Scalar.muli v1151 c1_i32_702
  let v1241 : BitVec 32 := Scalar.addi c0_i32_703 v1240
  v1241.toNat
def k0_dev35 (d0 : Dev nD) : Nat :=
  let c0_i32_772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_708 : BitVec 32 := 11#32
  let v1249 : BitVec 32 := Scalar.addi v2 c11_i32_708
  let c16_i32_709 : BitVec 32 := 16#32
  let c0_i32_710 : BitVec 32 := 0#32
  let v1250 : BitVec 1 := Scalar.cmpi .eq c16_i32_709 c0_i32_710
  let c1_i32_711 : BitVec 32 := 1#32
  let v1251 : BitVec 32 := Scalar.select v1250 c1_i32_711 c16_i32_709
  let v1252 : BitVec 32 := Scalar.remsi v1249 v1251
  let c0_i32_713 : BitVec 32 := 0#32
  let v1254 : BitVec 1 := Scalar.cmpi .slt v1252 c0_i32_713
  let c0_i32_714 : BitVec 32 := 0#32
  let v1255 : BitVec 1 := Scalar.cmpi .slt v1251 c0_i32_714
  let v1256 : BitVec 1 := Scalar.xori v1254 v1255
  let c0_i32_712 : BitVec 32 := 0#32
  let v1253 : BitVec 1 := Scalar.cmpi .ne v1252 c0_i32_712
  let v1257 : BitVec 1 := Scalar.andi v1256 v1253
  let v1258 : BitVec 32 := Scalar.addi v1252 v1251
  let v1259 : BitVec 32 := Scalar.select v1257 v1258 v1252
  let c1_i32_771 : BitVec 32 := 1#32
  let v1348 : BitVec 32 := Scalar.muli v1259 c1_i32_771
  let v1349 : BitVec 32 := Scalar.addi c0_i32_772 v1348
  v1349.toNat
def k0_dev36 (d0 : Dev nD) : Nat :=
  let c0_i32_841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_777 : BitVec 32 := 10#32
  let v1357 : BitVec 32 := Scalar.addi v2 c10_i32_777
  let c16_i32_778 : BitVec 32 := 16#32
  let c0_i32_779 : BitVec 32 := 0#32
  let v1358 : BitVec 1 := Scalar.cmpi .eq c16_i32_778 c0_i32_779
  let c1_i32_780 : BitVec 32 := 1#32
  let v1359 : BitVec 32 := Scalar.select v1358 c1_i32_780 c16_i32_778
  let v1360 : BitVec 32 := Scalar.remsi v1357 v1359
  let c0_i32_782 : BitVec 32 := 0#32
  let v1362 : BitVec 1 := Scalar.cmpi .slt v1360 c0_i32_782
  let c0_i32_783 : BitVec 32 := 0#32
  let v1363 : BitVec 1 := Scalar.cmpi .slt v1359 c0_i32_783
  let v1364 : BitVec 1 := Scalar.xori v1362 v1363
  let c0_i32_781 : BitVec 32 := 0#32
  let v1361 : BitVec 1 := Scalar.cmpi .ne v1360 c0_i32_781
  let v1365 : BitVec 1 := Scalar.andi v1364 v1361
  let v1366 : BitVec 32 := Scalar.addi v1360 v1359
  let v1367 : BitVec 32 := Scalar.select v1365 v1366 v1360
  let c1_i32_840 : BitVec 32 := 1#32
  let v1456 : BitVec 32 := Scalar.muli v1367 c1_i32_840
  let v1457 : BitVec 32 := Scalar.addi c0_i32_841 v1456
  v1457.toNat
def k0_dev37 (d0 : Dev nD) : Nat :=
  let c0_i32_910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_846 : BitVec 32 := 9#32
  let v1465 : BitVec 32 := Scalar.addi v2 c9_i32_846
  let c16_i32_847 : BitVec 32 := 16#32
  let c0_i32_848 : BitVec 32 := 0#32
  let v1466 : BitVec 1 := Scalar.cmpi .eq c16_i32_847 c0_i32_848
  let c1_i32_849 : BitVec 32 := 1#32
  let v1467 : BitVec 32 := Scalar.select v1466 c1_i32_849 c16_i32_847
  let v1468 : BitVec 32 := Scalar.remsi v1465 v1467
  let c0_i32_851 : BitVec 32 := 0#32
  let v1470 : BitVec 1 := Scalar.cmpi .slt v1468 c0_i32_851
  let c0_i32_852 : BitVec 32 := 0#32
  let v1471 : BitVec 1 := Scalar.cmpi .slt v1467 c0_i32_852
  let v1472 : BitVec 1 := Scalar.xori v1470 v1471
  let c0_i32_850 : BitVec 32 := 0#32
  let v1469 : BitVec 1 := Scalar.cmpi .ne v1468 c0_i32_850
  let v1473 : BitVec 1 := Scalar.andi v1472 v1469
  let v1474 : BitVec 32 := Scalar.addi v1468 v1467
  let v1475 : BitVec 32 := Scalar.select v1473 v1474 v1468
  let c1_i32_909 : BitVec 32 := 1#32
  let v1564 : BitVec 32 := Scalar.muli v1475 c1_i32_909
  let v1565 : BitVec 32 := Scalar.addi c0_i32_910 v1564
  v1565.toNat
def k0_dev38 (d0 : Dev nD) : Nat :=
  let c0_i32_979 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_915 : BitVec 32 := 8#32
  let v1573 : BitVec 32 := Scalar.addi v2 c8_i32_915
  let c16_i32_916 : BitVec 32 := 16#32
  let c0_i32_917 : BitVec 32 := 0#32
  let v1574 : BitVec 1 := Scalar.cmpi .eq c16_i32_916 c0_i32_917
  let c1_i32_918 : BitVec 32 := 1#32
  let v1575 : BitVec 32 := Scalar.select v1574 c1_i32_918 c16_i32_916
  let v1576 : BitVec 32 := Scalar.remsi v1573 v1575
  let c0_i32_920 : BitVec 32 := 0#32
  let v1578 : BitVec 1 := Scalar.cmpi .slt v1576 c0_i32_920
  let c0_i32_921 : BitVec 32 := 0#32
  let v1579 : BitVec 1 := Scalar.cmpi .slt v1575 c0_i32_921
  let v1580 : BitVec 1 := Scalar.xori v1578 v1579
  let c0_i32_919 : BitVec 32 := 0#32
  let v1577 : BitVec 1 := Scalar.cmpi .ne v1576 c0_i32_919
  let v1581 : BitVec 1 := Scalar.andi v1580 v1577
  let v1582 : BitVec 32 := Scalar.addi v1576 v1575
  let v1583 : BitVec 32 := Scalar.select v1581 v1582 v1576
  let c1_i32_978 : BitVec 32 := 1#32
  let v1672 : BitVec 32 := Scalar.muli v1583 c1_i32_978
  let v1673 : BitVec 32 := Scalar.addi c0_i32_979 v1672
  v1673.toNat
def k0_dev39 (d0 : Dev nD) : Nat :=
  let c0_i32_1048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_984 : BitVec 32 := 7#32
  let v1681 : BitVec 32 := Scalar.addi v2 c7_i32_984
  let c16_i32_985 : BitVec 32 := 16#32
  let c0_i32_986 : BitVec 32 := 0#32
  let v1682 : BitVec 1 := Scalar.cmpi .eq c16_i32_985 c0_i32_986
  let c1_i32_987 : BitVec 32 := 1#32
  let v1683 : BitVec 32 := Scalar.select v1682 c1_i32_987 c16_i32_985
  let v1684 : BitVec 32 := Scalar.remsi v1681 v1683
  let c0_i32_989 : BitVec 32 := 0#32
  let v1686 : BitVec 1 := Scalar.cmpi .slt v1684 c0_i32_989
  let c0_i32_990 : BitVec 32 := 0#32
  let v1687 : BitVec 1 := Scalar.cmpi .slt v1683 c0_i32_990
  let v1688 : BitVec 1 := Scalar.xori v1686 v1687
  let c0_i32_988 : BitVec 32 := 0#32
  let v1685 : BitVec 1 := Scalar.cmpi .ne v1684 c0_i32_988
  let v1689 : BitVec 1 := Scalar.andi v1688 v1685
  let v1690 : BitVec 32 := Scalar.addi v1684 v1683
  let v1691 : BitVec 32 := Scalar.select v1689 v1690 v1684
  let c1_i32_1047 : BitVec 32 := 1#32
  let v1780 : BitVec 32 := Scalar.muli v1691 c1_i32_1047
  let v1781 : BitVec 32 := Scalar.addi c0_i32_1048 v1780
  v1781.toNat
def k0_dev40 (d0 : Dev nD) : Nat :=
  let c0_i32_1117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1053 : BitVec 32 := 6#32
  let v1789 : BitVec 32 := Scalar.addi v2 c6_i32_1053
  let c16_i32_1054 : BitVec 32 := 16#32
  let c0_i32_1055 : BitVec 32 := 0#32
  let v1790 : BitVec 1 := Scalar.cmpi .eq c16_i32_1054 c0_i32_1055
  let c1_i32_1056 : BitVec 32 := 1#32
  let v1791 : BitVec 32 := Scalar.select v1790 c1_i32_1056 c16_i32_1054
  let v1792 : BitVec 32 := Scalar.remsi v1789 v1791
  let c0_i32_1058 : BitVec 32 := 0#32
  let v1794 : BitVec 1 := Scalar.cmpi .slt v1792 c0_i32_1058
  let c0_i32_1059 : BitVec 32 := 0#32
  let v1795 : BitVec 1 := Scalar.cmpi .slt v1791 c0_i32_1059
  let v1796 : BitVec 1 := Scalar.xori v1794 v1795
  let c0_i32_1057 : BitVec 32 := 0#32
  let v1793 : BitVec 1 := Scalar.cmpi .ne v1792 c0_i32_1057
  let v1797 : BitVec 1 := Scalar.andi v1796 v1793
  let v1798 : BitVec 32 := Scalar.addi v1792 v1791
  let v1799 : BitVec 32 := Scalar.select v1797 v1798 v1792
  let c1_i32_1116 : BitVec 32 := 1#32
  let v1888 : BitVec 32 := Scalar.muli v1799 c1_i32_1116
  let v1889 : BitVec 32 := Scalar.addi c0_i32_1117 v1888
  v1889.toNat
def k0_dev41 (d0 : Dev nD) : Nat :=
  let c0_i32_1186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1122 : BitVec 32 := 5#32
  let v1897 : BitVec 32 := Scalar.addi v2 c5_i32_1122
  let c16_i32_1123 : BitVec 32 := 16#32
  let c0_i32_1124 : BitVec 32 := 0#32
  let v1898 : BitVec 1 := Scalar.cmpi .eq c16_i32_1123 c0_i32_1124
  let c1_i32_1125 : BitVec 32 := 1#32
  let v1899 : BitVec 32 := Scalar.select v1898 c1_i32_1125 c16_i32_1123
  let v1900 : BitVec 32 := Scalar.remsi v1897 v1899
  let c0_i32_1127 : BitVec 32 := 0#32
  let v1902 : BitVec 1 := Scalar.cmpi .slt v1900 c0_i32_1127
  let c0_i32_1128 : BitVec 32 := 0#32
  let v1903 : BitVec 1 := Scalar.cmpi .slt v1899 c0_i32_1128
  let v1904 : BitVec 1 := Scalar.xori v1902 v1903
  let c0_i32_1126 : BitVec 32 := 0#32
  let v1901 : BitVec 1 := Scalar.cmpi .ne v1900 c0_i32_1126
  let v1905 : BitVec 1 := Scalar.andi v1904 v1901
  let v1906 : BitVec 32 := Scalar.addi v1900 v1899
  let v1907 : BitVec 32 := Scalar.select v1905 v1906 v1900
  let c1_i32_1185 : BitVec 32 := 1#32
  let v1996 : BitVec 32 := Scalar.muli v1907 c1_i32_1185
  let v1997 : BitVec 32 := Scalar.addi c0_i32_1186 v1996
  v1997.toNat
def k0_dev42 (d0 : Dev nD) : Nat :=
  let c0_i32_1255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1191 : BitVec 32 := 4#32
  let v2005 : BitVec 32 := Scalar.addi v2 c4_i32_1191
  let c16_i32_1192 : BitVec 32 := 16#32
  let c0_i32_1193 : BitVec 32 := 0#32
  let v2006 : BitVec 1 := Scalar.cmpi .eq c16_i32_1192 c0_i32_1193
  let c1_i32_1194 : BitVec 32 := 1#32
  let v2007 : BitVec 32 := Scalar.select v2006 c1_i32_1194 c16_i32_1192
  let v2008 : BitVec 32 := Scalar.remsi v2005 v2007
  let c0_i32_1196 : BitVec 32 := 0#32
  let v2010 : BitVec 1 := Scalar.cmpi .slt v2008 c0_i32_1196
  let c0_i32_1197 : BitVec 32 := 0#32
  let v2011 : BitVec 1 := Scalar.cmpi .slt v2007 c0_i32_1197
  let v2012 : BitVec 1 := Scalar.xori v2010 v2011
  let c0_i32_1195 : BitVec 32 := 0#32
  let v2009 : BitVec 1 := Scalar.cmpi .ne v2008 c0_i32_1195
  let v2013 : BitVec 1 := Scalar.andi v2012 v2009
  let v2014 : BitVec 32 := Scalar.addi v2008 v2007
  let v2015 : BitVec 32 := Scalar.select v2013 v2014 v2008
  let c1_i32_1254 : BitVec 32 := 1#32
  let v2104 : BitVec 32 := Scalar.muli v2015 c1_i32_1254
  let v2105 : BitVec 32 := Scalar.addi c0_i32_1255 v2104
  v2105.toNat
def k0_dev43 (d0 : Dev nD) : Nat :=
  let c0_i32_1324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1260 : BitVec 32 := 3#32
  let v2113 : BitVec 32 := Scalar.addi v2 c3_i32_1260
  let c16_i32_1261 : BitVec 32 := 16#32
  let c0_i32_1262 : BitVec 32 := 0#32
  let v2114 : BitVec 1 := Scalar.cmpi .eq c16_i32_1261 c0_i32_1262
  let c1_i32_1263 : BitVec 32 := 1#32
  let v2115 : BitVec 32 := Scalar.select v2114 c1_i32_1263 c16_i32_1261
  let v2116 : BitVec 32 := Scalar.remsi v2113 v2115
  let c0_i32_1265 : BitVec 32 := 0#32
  let v2118 : BitVec 1 := Scalar.cmpi .slt v2116 c0_i32_1265
  let c0_i32_1266 : BitVec 32 := 0#32
  let v2119 : BitVec 1 := Scalar.cmpi .slt v2115 c0_i32_1266
  let v2120 : BitVec 1 := Scalar.xori v2118 v2119
  let c0_i32_1264 : BitVec 32 := 0#32
  let v2117 : BitVec 1 := Scalar.cmpi .ne v2116 c0_i32_1264
  let v2121 : BitVec 1 := Scalar.andi v2120 v2117
  let v2122 : BitVec 32 := Scalar.addi v2116 v2115
  let v2123 : BitVec 32 := Scalar.select v2121 v2122 v2116
  let c1_i32_1323 : BitVec 32 := 1#32
  let v2212 : BitVec 32 := Scalar.muli v2123 c1_i32_1323
  let v2213 : BitVec 32 := Scalar.addi c0_i32_1324 v2212
  v2213.toNat
def k0_dev44 (d0 : Dev nD) : Nat :=
  let c0_i32_1393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1329 : BitVec 32 := 2#32
  let v2221 : BitVec 32 := Scalar.addi v2 c2_i32_1329
  let c16_i32_1330 : BitVec 32 := 16#32
  let c0_i32_1331 : BitVec 32 := 0#32
  let v2222 : BitVec 1 := Scalar.cmpi .eq c16_i32_1330 c0_i32_1331
  let c1_i32_1332 : BitVec 32 := 1#32
  let v2223 : BitVec 32 := Scalar.select v2222 c1_i32_1332 c16_i32_1330
  let v2224 : BitVec 32 := Scalar.remsi v2221 v2223
  let c0_i32_1334 : BitVec 32 := 0#32
  let v2226 : BitVec 1 := Scalar.cmpi .slt v2224 c0_i32_1334
  let c0_i32_1335 : BitVec 32 := 0#32
  let v2227 : BitVec 1 := Scalar.cmpi .slt v2223 c0_i32_1335
  let v2228 : BitVec 1 := Scalar.xori v2226 v2227
  let c0_i32_1333 : BitVec 32 := 0#32
  let v2225 : BitVec 1 := Scalar.cmpi .ne v2224 c0_i32_1333
  let v2229 : BitVec 1 := Scalar.andi v2228 v2225
  let v2230 : BitVec 32 := Scalar.addi v2224 v2223
  let v2231 : BitVec 32 := Scalar.select v2229 v2230 v2224
  let c1_i32_1392 : BitVec 32 := 1#32
  let v2320 : BitVec 32 := Scalar.muli v2231 c1_i32_1392
  let v2321 : BitVec 32 := Scalar.addi c0_i32_1393 v2320
  v2321.toNat
def k0_dev45 (d0 : Dev nD) : Nat :=
  let c0_i32_1462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1398 : BitVec 32 := 1#32
  let v2329 : BitVec 32 := Scalar.addi v2 c1_i32_1398
  let c16_i32_1399 : BitVec 32 := 16#32
  let c0_i32_1400 : BitVec 32 := 0#32
  let v2330 : BitVec 1 := Scalar.cmpi .eq c16_i32_1399 c0_i32_1400
  let c1_i32_1401 : BitVec 32 := 1#32
  let v2331 : BitVec 32 := Scalar.select v2330 c1_i32_1401 c16_i32_1399
  let v2332 : BitVec 32 := Scalar.remsi v2329 v2331
  let c0_i32_1403 : BitVec 32 := 0#32
  let v2334 : BitVec 1 := Scalar.cmpi .slt v2332 c0_i32_1403
  let c0_i32_1404 : BitVec 32 := 0#32
  let v2335 : BitVec 1 := Scalar.cmpi .slt v2331 c0_i32_1404
  let v2336 : BitVec 1 := Scalar.xori v2334 v2335
  let c0_i32_1402 : BitVec 32 := 0#32
  let v2333 : BitVec 1 := Scalar.cmpi .ne v2332 c0_i32_1402
  let v2337 : BitVec 1 := Scalar.andi v2336 v2333
  let v2338 : BitVec 32 := Scalar.addi v2332 v2331
  let v2339 : BitVec 32 := Scalar.select v2337 v2338 v2332
  let c1_i32_1461 : BitVec 32 := 1#32
  let v2428 : BitVec 32 := Scalar.muli v2339 c1_i32_1461
  let v2429 : BitVec 32 := Scalar.addi c0_i32_1462 v2428
  v2429.toNat
abbrev stage0_0 : Fin 1 → Memref sig .tc .vmem S2048x520 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S32768x512 : Shape := ⟨2, ![32768, 512]⟩
abbrev S512x128 : Shape := ⟨2, ![512, 128]⟩
abbrev S32768x1 : Shape := ⟨2, ![32768, 1]⟩
abbrev S128x512x1024 : Shape := ⟨3, ![128, 512, 1024]⟩
abbrev S512x1024 : Shape := ⟨2, ![512, 1024]⟩
abbrev S32768x128 : Shape := ⟨2, ![32768, 128]⟩
abbrev S_ : Shape := ⟨0, ![]⟩
abbrev S32768 : Shape := ⟨1, ![32768]⟩
abbrev S32768x1024 : Shape := ⟨2, ![32768, 1024]⟩
abbrev S32768x1x1 : Shape := ⟨3, ![32768, 1, 1]⟩
abbrev S1 : Shape := ⟨1, ![1]⟩
abbrev S1x1x1 : Shape := ⟨3, ![1, 1, 1]⟩
abbrev S32768x512x1024 : Shape := ⟨3, ![32768, 512, 1024]⟩

abbrev nBuf : Space → Nat
  | .hbm => 54
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S512x128, .f32⟩
  | .hbm, ⟨2, _⟩ => ⟨S32768x1, .i32⟩
  | .hbm, ⟨3, _⟩ => ⟨S128x512x1024, .f32⟩
  | .hbm, ⟨4, _⟩ => ⟨S512x1024, .f32⟩
  | .hbm, ⟨5, _⟩ => ⟨S32768x128, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S32768x128, .f32⟩
  | .hbm, ⟨10, _⟩ => ⟨S32768x128, .f32⟩
  | .hbm, ⟨11, _⟩ => ⟨S32768x128, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S32768x128, .f32⟩
  | .hbm, ⟨16, _⟩ => ⟨S32768x128, .f32⟩
  | .hbm, ⟨17, _⟩ => ⟨S32768x1024, .f32⟩
  | .hbm, ⟨18, _⟩ => ⟨S32768, .i32⟩
  | .hbm, ⟨19, _⟩ => ⟨S_, .i32⟩
  | .hbm, ⟨20, _⟩ => ⟨S32768x1, .i32⟩
  | .hbm, ⟨21, _⟩ => ⟨S32768x1, .i1⟩
  | .hbm, ⟨22, _⟩ => ⟨S_, .i32⟩
  | .hbm, ⟨23, _⟩ => ⟨S32768x1, .i32⟩
  | .hbm, ⟨24, _⟩ => ⟨S32768x1, .i32⟩
  | .hbm, ⟨25, _⟩ => ⟨S32768x1, .i32⟩
  | .hbm, ⟨26, _⟩ => ⟨S32768x1x1, .i32⟩
  | .hbm, ⟨27, _⟩ => ⟨S1, .i32⟩
  | .hbm, ⟨28, _⟩ => ⟨S_, .i32⟩
  | .hbm, ⟨29, _⟩ => ⟨S32768x1x1, .i32⟩
  | .hbm, ⟨30, _⟩ => ⟨S32768x1x1, .i1⟩
  | .hbm, ⟨31, _⟩ => ⟨S1x1x1, .i32⟩
  | .hbm, ⟨32, _⟩ => ⟨S32768x1x1, .i32⟩
  | .hbm, ⟨33, _⟩ => ⟨S32768x1x1, .i1⟩
  | .hbm, ⟨34, _⟩ => ⟨S32768x1x1, .i1⟩
  | .hbm, ⟨35, _⟩ => ⟨S_, .i1⟩
  | .hbm, ⟨36, _⟩ => ⟨S32768x1, .i1⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S_, .i32⟩
  | .hbm, ⟨42, _⟩ => ⟨S32768, .i32⟩
  | .hbm, ⟨43, _⟩ => ⟨S32768, .i1⟩
  | .hbm, ⟨44, _⟩ => ⟨S_, .i32⟩
  | .hbm, ⟨45, _⟩ => ⟨S32768, .i32⟩
  | .hbm, ⟨46, _⟩ => ⟨S32768, .i32⟩
  | .hbm, ⟨47, _⟩ => ⟨S32768, .i32⟩
  | .hbm, ⟨48, _⟩ => ⟨S32768x1, .i32⟩
  | .hbm, ⟨49, _⟩ => ⟨S32768x512x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩

abbrev nD : Nat := 1
abbrev τ : Topo := Topo.v7x

variable {F : FTy → Type} [FloatOps F]
-- ==== Proof.Values.lean ====
module

public import proofs.«01_k».proof.Proof.Gen.KernelIdeal.Skeleton

/-! The values the kernel computes from what it reads: the chunk packed for a destination group, the
expert layer of a chunk, and the rows a chunk adds to one half of the result. -/

@[expose] public section

noncomputable section

namespace Cert.KernelIdeal

open Idealize.ShloMosaic Idealize.ShloMosaic.TcCoe
open Idealize.SL Idealize.SL.Sem
open Facts₀ Facts

variable {F : FTy → Type} [FloatOps F]

/-- The rows of the payload whose slot number lies in group `k`, in slot order: the product of the
one-hot matrix of the slots with the payload. -/
def pack (k : Nat) (val : FVec F S2048x520 .bf16) (flat : IVec S2048 32) : FVec F S192x520 .bf16 :=
  shapeCast S192x520 (truncf .bf16 (matmul dot_S192x2048_S2048x520_S192x520_1_0_0_1_n_n none
    (truncf .bf16 (sitofp .f32 (extui 32 (cmpi .eq
      (addi (iota .tc S192x2048 32 [0] iota_S192x2048_d0_w32) (broadcast S192x2048 (BitVec.ofNat 32 (192 * k))))
      (broadcastTo S192x2048 (shapeCast S1x2048 flat shapeCasts_S2048_S1x2048) broadcasts_S1x2048_S192x2048))
      natLt_1_32)) bitsLt_bf16_f32) val (constant S192x520 .f32 0x00000000#32)) bitsLt_bf16_f32)
    shapeCasts_S192x520_S192x520

/-- One expert's term: the chunk's rows scaled by the expert's one-hot column, times its weights. -/
def expertTerm (o : Nat) (ho : S192x520.Slices ![0, o] S192x1) (chunk : Vec F S192x520 .bf16)
    (w : Vec F S1x512x1024 .bf16) : FVec F S192x1024 .f32 :=
  matmul dot_S192x512_S512x1024_S192x1024_1_0_0_1_n_n none
    (mulf (extractStridedSlice S192x512 ![0, 0] chunk slices_S192x520_o0_0_S192x512)
      (broadcastTo S192x512 (shapeCast S192x1 (shapeCast S192 (extractStridedSlice S192x1 ![0, o] chunk ho)
        shapeCasts_S192x1_S192) shapeCasts_S192_S192x1) broadcasts_S192x1_S192x512))
    (shapeCast S512x1024 w shapeCasts_S1x512x1024_S512x1024) (constant S192x1024 .f32 0x00000000#32)

/-- The expert layer of a chunk: the sum of the eight experts' terms. -/
def expert (chunk : Vec F S192x520 .bf16) (w0 w1 w2 w3 w4 w5 w6 w7 : Vec F S1x512x1024 .bf16) :
    FVec F S1x192x1024 .bf16 :=
  shapeCast S1x192x1024 (truncf .bf16
    (addf (addf (addf (addf (addf (addf (addf
      (expertTerm 512 slices_S192x520_o0_512_S192x1 chunk w0)
      (expertTerm 513 slices_S192x520_o0_513_S192x1 chunk w1))
      (expertTerm 514 slices_S192x520_o0_514_S192x1 chunk w2))
      (expertTerm 515 slices_S192x520_o0_515_S192x1 chunk w3))
      (expertTerm 516 slices_S192x520_o0_516_S192x1 chunk w4))
      (expertTerm 517 slices_S192x520_o0_517_S192x1 chunk w5))
      (expertTerm 518 slices_S192x520_o0_518_S192x1 chunk w6))
      (expertTerm 519 slices_S192x520_o0_519_S192x1 chunk w7)) bitsLt_bf16_f32)
    shapeCasts_S192x1024_S1x192x1024

/-- Half of the result with the chunk of group `k` added: row by row the chunk's row at the token's slot. -/
def unsort (k o : Nat) (ho : S2048.Slices ![o] S1024) (flat : IVec S2048 32) (chunk : FVec F S192x1024 .bf16)
    (old : Vec F S1024x1024 .f32) : FVec F S1024x1024 .f32 :=
  addf (shapeCast S1024x1024 old shapeCasts_S1024x1024_S1024x1024)
    (matmul dot_S1024x192_S192x1024_S1024x1024_1_0_0_1_n_n none
      (truncf .bf16 (sitofp .f32 (extui 32 (cmpi .eq
        (addi (iota .tc S1024x192 32 [1] iota_S1024x192_d1_w32) (broadcast S1024x192 (BitVec.ofNat 32 (192 * k))))
        (broadcastTo S1024x192 (shapeCast S1024x1 (extractStridedSlice S1024 ![o] flat ho) shapeCasts_S1024_S1024x1)
          broadcasts_S1024x1_S1024x192)) natLt_1_32)) bitsLt_bf16_f32)
      chunk (constant S1024x1024 .f32 0x00000000#32))

/-- The shared layer of the device's tokens. -/
def sharedOut (x : Vec F S2048x512 .bf16) (w : Vec F S512x1024 .bf16) : FVec F S2048x1024 .f32 :=
  matmul dot_S2048x512_S512x1024_S2048x1024_1_0_0_1_n_n none
    (shapeCast S2048x512 x shapeCasts_S2048x512_S2048x512)
    (shapeCast S512x1024 w shapeCasts_S512x1024_S512x1024) (constant S2048x1024 .f32 0x00000000#32)

end Cert.KernelIdeal

end
-- ==== Proof.Body.lean ====
module

public import proofs.«01_k».proof.Proof.Values

/-! The kernel's body as a composition of steps, one definition per step and every step over a symbolic
group number: the handshake, the fifteen dispatches, the device's own group, the fifteen returns, the
fifteen additions and the closing waits. -/

@[expose] public section

set_option maxRecDepth 65536

noncomputable section

namespace Cert.KernelIdeal

open Idealize.ShloMosaic Idealize.ShloMosaic.TcCoe
open Idealize.SL Idealize.SL.Sem
open Facts₀ Facts

variable {F : FTy → Type} [FloatOps F]

/-! ## The blocks of the buffers -/

/-- Row block `k` of a dispatch buffer lies inside it. -/
theorem inbX (k : Fin 16) : ∀ a, (![192 * k.val, 0] : Fin 2 → Nat) a + S192x520.size a ≤ S3072x520.size a := by
  revert k; decide
/-- Row block `k` of the return buffer lies inside it. -/
theorem inbY (k : Fin 16) : ∀ a, (![192 * k.val, 0] : Fin 2 → Nat) a + S192x1024.size a ≤ S3072x1024.size a := by
  revert k; decide
/-- Slot `s` of the two-slot buffer lies inside it. -/
theorem inbZ (s : Fin 2) : ∀ a, (![s.val, 0, 0] : Fin 3 → Nat) a + S1x192x1024.size a ≤ S2x192x1024.size a := by
  revert s; decide
/-- Expert `e`'s weights lie inside the weights' buffer. -/
theorem inbW (e : Fin 8) : ∀ a, (![e.val, 0, 0] : Fin 3 → Nat) a + S1x512x1024.size a ≤ S8x512x1024.size a := by
  revert e; decide
/-- Semaphore `k` of an array of sixteen. -/
theorem inbS (k : Fin 16) : ∀ a, (![k.val] : Fin 1 → Nat) a + S1.size a ≤ S16.size a := by
  revert k; decide

/-- Row block `k` of a dispatch buffer. -/
abbrev rX (k : Fin 16) : Rect S3072x520 := Rect.unit (s := S3072x520) ![192 * k.val, 0] S192x520.size (inbX k)
/-- Row block `k` of the return buffer. -/
abbrev rY (k : Fin 16) : Rect S3072x1024 := Rect.unit (s := S3072x1024) ![192 * k.val, 0] S192x1024.size (inbY k)
/-- Slot `s` of the two-slot buffer. -/
abbrev rZ (s : Fin 2) : Rect S2x192x1024 := Rect.unit (s := S2x192x1024) ![s.val, 0, 0] S1x192x1024.size (inbZ s)
/-- Expert `e`'s weights. -/
abbrev rW (e : Fin 8) : Rect S8x512x1024 := Rect.unit (s := S8x512x1024) ![e.val, 0, 0] S1x512x1024.size (inbW e)

/-- A block of a dispatch buffer is made of whole words. -/
theorem wordsX (k : Fin 16) : (rX k).WholeWords (EltTy.packing .bf16) := by revert k; decide
/-- A block of the return buffer is made of whole words. -/
theorem wordsY (k : Fin 16) : (rY k).WholeWords (EltTy.packing .bf16) := by revert k; decide
/-- A slot of the two-slot buffer is made of whole words. -/
theorem wordsZ (s : Fin 2) : (rZ s).WholeWords (EltTy.packing .bf16) := by revert s; decide
/-- The rows of a block of a dispatch buffer fill their words. -/
theorem packedX (k : Fin 16) : (rX k).PackedRows (EltTy.packing .bf16) := by revert k; decide
/-- The rows of a slot of the two-slot buffer fill their words. -/
theorem packedZ (s : Fin 2) : (rZ s).PackedRows (EltTy.packing .bf16) := by revert s; decide

/-- Semaphore `k` of an array. -/
abbrev semAt (a : DmaSems sig S16) (k : Fin 16) : DmaSems sig S_ :=
  (a.slice (Rect.unit (s := S16) ![k.val] S1.size (inbS k))).squeeze S_ squeezes_S1_S_

/-! ## The peers -/

/-- The peer the device signals in turn `k`. -/
def sigPeer (c : Dev nD) : Fin 16 → Dev nD :=
  ![c,
    ⟨k0_dev1 c, k0_dev1_lt c⟩,
    ⟨k0_dev2 c, k0_dev2_lt c⟩,
    ⟨k0_dev3 c, k0_dev3_lt c⟩,
    ⟨k0_dev4 c, k0_dev4_lt c⟩,
    ⟨k0_dev5 c, k0_dev5_lt c⟩,
    ⟨k0_dev6 c, k0_dev6_lt c⟩,
    ⟨k0_dev7 c, k0_dev7_lt c⟩,
    ⟨k0_dev8 c, k0_dev8_lt c⟩,
    ⟨k0_dev9 c, k0_dev9_lt c⟩,
    ⟨k0_dev10 c, k0_dev10_lt c⟩,
    ⟨k0_dev11 c, k0_dev11_lt c⟩,
    ⟨k0_dev12 c, k0_dev12_lt c⟩,
    ⟨k0_dev13 c, k0_dev13_lt c⟩,
    ⟨k0_dev14 c, k0_dev14_lt c⟩,
    ⟨k0_dev15 c, k0_dev15_lt c⟩]
/-- The peer group `k` is dispatched to. -/
def sendPeer (c : Dev nD) : Fin 16 → Dev nD :=
  ![c,
    ⟨k0_dev16 c, k0_dev16_lt c⟩,
    ⟨k0_dev17 c, k0_dev17_lt c⟩,
    ⟨k0_dev18 c, k0_dev18_lt c⟩,
    ⟨k0_dev19 c, k0_dev19_lt c⟩,
    ⟨k0_dev20 c, k0_dev20_lt c⟩,
    ⟨k0_dev21 c, k0_dev21_lt c⟩,
    ⟨k0_dev22 c, k0_dev22_lt c⟩,
    ⟨k0_dev23 c, k0_dev23_lt c⟩,
    ⟨k0_dev24 c, k0_dev24_lt c⟩,
    ⟨k0_dev25 c, k0_dev25_lt c⟩,
    ⟨k0_dev26 c, k0_dev26_lt c⟩,
    ⟨k0_dev27 c, k0_dev27_lt c⟩,
    ⟨k0_dev28 c, k0_dev28_lt c⟩,
    ⟨k0_dev29 c, k0_dev29_lt c⟩,
    ⟨k0_dev30 c, k0_dev30_lt c⟩]
/-- The peer the expert layer of group `k` is returned to. -/
def retPeer (c : Dev nD) : Fin 16 → Dev nD :=
  ![c,
    ⟨k0_dev45 c, k0_dev45_lt c⟩,
    ⟨k0_dev44 c, k0_dev44_lt c⟩,
    ⟨k0_dev43 c, k0_dev43_lt c⟩,
    ⟨k0_dev42 c, k0_dev42_lt c⟩,
    ⟨k0_dev41 c, k0_dev41_lt c⟩,
    ⟨k0_dev40 c, k0_dev40_lt c⟩,
    ⟨k0_dev39 c, k0_dev39_lt c⟩,
    ⟨k0_dev38 c, k0_dev38_lt c⟩,
    ⟨k0_dev37 c, k0_dev37_lt c⟩,
    ⟨k0_dev36 c, k0_dev36_lt c⟩,
    ⟨k0_dev35 c, k0_dev35_lt c⟩,
    ⟨k0_dev34 c, k0_dev34_lt c⟩,
    ⟨k0_dev33 c, k0_dev33_lt c⟩,
    ⟨k0_dev32 c, k0_dev32_lt c⟩,
    ⟨k0_dev31 c, k0_dev31_lt c⟩]

/-- Run a step for each number of a list, in order. -/
def steps {β : Type} (f : β → Prog (TpuEff nD τ sig (Elt F) Λ₀ .tc) PUnit) : List β → Prog (TpuEff nD τ sig (Elt F) Λ₀ .tc) PUnit
  | [] => pure ⟨⟩
  | k :: ks => f k >>= fun _ => steps f ks

/-- The numbers 1 to 15. -/
abbrev ups : List (Fin 16) := [1, 2, 3, 4, 5, 6, 7, 8, 9, 10, 11, 12, 13, 14, 15]

/-! ## The steps -/

section Steps

variable (arg0 : Memref sig .tc .vmem S2048x520 .bf16) (harg0 : arg0.IsWhole) (arg1 : Memref sig .tc .vmem S1x2048 .i32) (harg1 : arg1.IsWhole) (arg2 : Memref sig .tc .vmem S2048x512 .bf16) (harg2 : arg2.IsWhole) (arg3 : Memref sig .tc .vmem S512x1024 .bf16) (harg3 : arg3.IsWhole) (arg4 : Memref sig .tc .vmem S8x512x1024 .bf16) (harg4 : arg4.IsWhole) (arg5 : Memref sig .tc .vmem S2048x1024 .f32) (harg5 : arg5.IsWhole) (arg6 : Memref sig .tc .vmem S3072x520 .bf16) (harg6 : arg6.IsWhole) (arg7 : Memref sig .tc .vmem S3072x520 .bf16) (harg7 : arg7.IsWhole) (arg8 : Memref sig .tc .vmem S3072x1024 .bf16) (harg8 : arg8.IsWhole) (arg9 : Memref sig .tc .vmem S2x192x1024 .bf16) (harg9 : arg9.IsWhole) (arg10 : DmaSems sig S16) (arg11 : DmaSems sig S16) (arg12 : DmaSems sig S16) (arg13 : DmaSems sig S16)

/-- Signal peer `k` on its barrier. -/
def sigStep (c : Dev nD) (k : Fin 16) : Prog (TpuEff nD τ sig (Elt F) Λ₀ .tc) PUnit :=
  semSignalWord (sigPeer c k) (SemArray.scalar (sig.barrier 0 rfl) : Sems sig S_).sem 1#32

/-- Pack group `k` and copy it to its peer. -/
def sendStep (c : Dev nD) (val : FVec F S2048x520 .bf16) (flat : IVec S2048 32) (kk : Fin 16 × Fin 16) :
    Prog (TpuEff nD τ sig (Elt F) Λ₀ .tc) PUnit := do
  let _ ← Prog.lift (.load arg6 (rX kk.1).toLoadRect (View.loadsAt_vmem h_S192x520))
  Prog.lift (.store arg6 (rX kk.1) (pack kk.1.val val flat) Finset.univ (View.stores_vmem h_S192x520 (harg6.storeExact_slice rfl _ (packedX kk.1)) (fun _ => rfl)) (.inl rfl))
  Prog.lift (.enqueueDma (arg6.slice (rX kk.1) (fun _ => rfl)) (.remote (Dev.tc (sendPeer c kk.1)) (arg7.slice (rX kk.2) (fun _ => rfl)) (.dma (semAt arg10 kk.1).sem)) (.dma (semAt arg11 kk.2).sem) (harg6.wordExact_slice rfl _ (wordsX kk.1)) (harg7.wordExact_slice rfl _ (wordsX kk.2)) ⟨⟨rfl, Or.inl rfl⟩, trivial⟩)

/-- Read one expert's weights. -/
def loadW (e : Fin 8) : Prog (TpuEff nD τ sig (Elt F) Λ₀ .tc) (Vec F S1x512x1024 .bf16) :=
  Prog.lift (.load arg4 (rW e).toLoadRect (View.loadsAt_vmem h_S1x512x1024))

/-- Apply the expert layer to a chunk and store it into slot `s`. -/
def expertStep (s : Fin 2) (chunk : Vec F S192x520 .bf16) : Prog (TpuEff nD τ sig (Elt F) Λ₀ .tc) PUnit := do
  let w0 ← loadW arg4 0
  let w1 ← loadW arg4 1
  let w2 ← loadW arg4 2
  let w3 ← loadW arg4 3
  let w4 ← loadW arg4 4
  let w5 ← loadW arg4 5
  let w6 ← loadW arg4 6
  let w7 ← loadW arg4 7
  let _ ← Prog.lift (.load arg9 (rZ s).toLoadRect (View.loadsAt_vmem h_S1x192x1024))
  Prog.lift (.store arg9 (rZ s) (expert chunk w0 w1 w2 w3 w4 w5 w6 w7) Finset.univ (View.stores_vmem h_S1x192x1024 (harg9.storeExact_slice rfl _ (packedZ s)) (fun _ => rfl)) (.inl rfl))

/-- Add the chunk of group `k` to the two halves of the result. -/
def addStep (k : Nat) (flat : IVec S2048 32) (chunk : FVec F S192x1024 .bf16) : Prog (TpuEff nD τ sig (Elt F) Λ₀ .tc) PUnit := do
  let o0 ← Prog.lift (.load arg5 (Rect.unit (s := S2048x1024) ![0, 0] S1024x1024.size inb_S2048x1024_S1024x1024_0_0).toLoadRect (View.loadsAt_vmem h_S1024x1024))
  let _ ← Prog.lift (.load arg5 (Rect.unit (s := S2048x1024) ![0, 0] S1024x1024.size inb_S2048x1024_S1024x1024_0_0).toLoadRect (View.loadsAt_vmem h_S1024x1024))
  Prog.lift (.store arg5 (Rect.unit (s := S2048x1024) ![0, 0] S1024x1024.size inb_S2048x1024_S1024x1024_0_0) (unsort k 0 slices_S2048_o0_S1024 flat chunk o0) Finset.univ (View.stores_vmem_bits_univ h_S1024x1024 rfl) (.inl rfl))
  let o1 ← Prog.lift (.load arg5 (Rect.unit (s := S2048x1024) ![1024, 0] S1024x1024.size inb_S2048x1024_S1024x1024_1024_0).toLoadRect (View.loadsAt_vmem h_S1024x1024))
  let _ ← Prog.lift (.load arg5 (Rect.unit (s := S2048x1024) ![1024, 0] S1024x1024.size inb_S2048x1024_S1024x1024_1024_0).toLoadRect (View.loadsAt_vmem h_S1024x1024))
  Prog.lift (.store arg5 (Rect.unit (s := S2048x1024) ![1024, 0] S1024x1024.size inb_S2048x1024_S1024x1024_1024_0) (unsort k 1024 slices_S2048_o1024_S1024 flat chunk o1) Finset.univ (View.stores_vmem_bits_univ h_S1024x1024 rfl) (.inl rfl))

/-- The shared layer into the result, and the device's own group through its experts into the result. -/
def ownStep (val : FVec F S2048x520 .bf16) (flat : IVec S2048 32) : Prog (TpuEff nD τ sig (Elt F) Λ₀ .tc) PUnit := do
  let x ← Prog.lift (.load arg2 (Rect.unit (s := S2048x512) ![0, 0] S2048x512.size inb_S2048x512_S2048x512_0_0).toLoadRect (View.loadsAt_vmem h_S2048x512))
  let w ← Prog.lift (.load arg3 (Rect.unit (s := S512x1024) ![0, 0] S512x1024.size inb_S512x1024_S512x1024_0_0).toLoadRect (View.loadsAt_vmem h_S512x1024))
  let _ ← Prog.lift (.load arg5 (Rect.unit (s := S2048x1024) ![0, 0] S2048x1024.size inb_S2048x1024_S2048x1024_0_0).toLoadRect (View.loadsAt_vmem h_S2048x1024))
  Prog.lift (.store arg5 (Rect.unit (s := S2048x1024) ![0, 0] S2048x1024.size inb_S2048x1024_S2048x1024_0_0) (sharedOut x w) Finset.univ (View.stores_vmem_bits_univ h_S2048x1024 rfl) (.inl rfl))
  let _ ← Prog.lift (.load arg6 (rX 0).toLoadRect (View.loadsAt_vmem h_S192x520))
  Prog.lift (.store arg6 (rX 0) (pack 0 val flat) Finset.univ (View.stores_vmem h_S192x520 (harg6.storeExact_slice rfl _ (packedX 0)) (fun _ => rfl)) (.inl rfl))
  let chunk : Vec F S192x520 .bf16 ← Prog.lift (.load arg6 (rX 0).toLoadRect (View.loadsAt_vmem h_S192x520))
  expertStep arg4 arg9 harg9 0 chunk
  let y ← Prog.lift (.load arg9 (rZ 0).toLoadRect (View.loadsAt_vmem h_S1x192x1024))
  addStep arg5 0 flat (shapeCast S192x1024 y shapeCasts_S1x192x1024_S192x1024)

/-- Slot `s` of the two-slot buffer as a two-dimensional array. -/
abbrev zAt (s : Fin 2) : Memref sig .tc .vmem S192x1024 .bf16 :=
  (arg9.slice (rZ s) (fun _ => rfl)).squeeze S192x1024 squeezes_S1x192x1024_S192x1024

/-- Wait for the chunk of group `j`. -/
def recvStep (j : Fin 16) : Prog (TpuEff nD τ sig (Elt F) Λ₀ .tc) PUnit :=
  Prog.lift (.waitDma2 (semAt arg11 j).sem (arg6.slice (rX 0) (fun _ => rfl)) (arg7.slice (rX j) (fun _ => rfl)) (harg6.wordExact_slice rfl _ (wordsX 0)) (harg7.wordExact_slice rfl _ (wordsX j)))

/-- Wait until the return of group `j` has left slot `s`. -/
def leftStep (js : Fin 16 × Fin 16 × Fin 2) : Prog (TpuEff nD τ sig (Elt F) Λ₀ .tc) PUnit :=
  Prog.lift (.waitDma2 (semAt arg12 js.1).sem (arg8.slice (rY js.2.1) (fun _ => rfl)) (zAt arg9 js.2.2) (harg8.wordExact_slice rfl _ (wordsY js.2.1)) ((harg9.wordExact_slice rfl _ (wordsZ js.2.2)).reshape _ _))

/-- Take the chunk of group `j` through the experts and copy it back. -/
def retStep (c : Dev nD) (j j' : Fin 16) (s : Fin 2) : Prog (TpuEff nD τ sig (Elt F) Λ₀ .tc) PUnit := do
  let chunk : Vec F S192x520 .bf16 ← Prog.lift (.load arg7 (rX j).toLoadRect (View.loadsAt_vmem h_S192x520))
  expertStep arg4 arg9 harg9 s chunk
  Prog.lift (.enqueueDma (zAt arg9 s) (.remote (Dev.tc (retPeer c j)) (arg8.slice (rY j') (fun _ => rfl)) (.dma (semAt arg12 j).sem)) (.dma (semAt arg13 j').sem) ((harg9.wordExact_slice rfl _ (wordsZ s)).reshape _ _) (harg8.wordExact_slice rfl _ (wordsY j')) ⟨⟨rfl, Or.inl rfl⟩, trivial⟩)

/-- One of the first two returns: the slot is free. -/
def firstStep (c : Dev nD) (a : Fin 16 × Fin 16 × Fin 2) : Prog (TpuEff nD τ sig (Elt F) Λ₀ .tc) PUnit := do
  recvStep arg6 harg6 arg7 harg7 arg11 a.1
  retStep arg4 arg7 arg8 harg8 arg9 harg9 arg12 arg13 c a.1 a.2.1 a.2.2

/-- One of the later returns: the slot is free when the return before the last has left it. -/
def laterStep (c : Dev nD) (a : (Fin 16 × Fin 16) × (Fin 16 × Fin 16 × Fin 2)) : Prog (TpuEff nD τ sig (Elt F) Λ₀ .tc) PUnit := do
  recvStep arg6 harg6 arg7 harg7 arg11 a.1.1
  leftStep arg8 harg8 arg9 harg9 arg12 a.2
  retStep arg4 arg7 arg8 harg8 arg9 harg9 arg12 arg13 c a.1.1 a.1.2 a.2.2.2

/-- Wait for the expert layer of group `j` and add it. -/
def takeStep (flat : IVec S2048 32) (j : Fin 16) : Prog (TpuEff nD τ sig (Elt F) Λ₀ .tc) PUnit := do
  Prog.lift (.waitDma2 (semAt arg13 j).sem (zAt arg9 0) (arg8.slice (rY j) (fun _ => rfl)) ((harg9.wordExact_slice rfl _ (wordsZ 0)).reshape _ _) (harg8.wordExact_slice rfl _ (wordsY j)))
  let chunk : Vec F S192x1024 .bf16 ← Prog.lift (.load arg8 (rY j).toLoadRect (View.loadsAt_vmem h_S192x1024))
  addStep arg5 j.val flat chunk

/-- Wait until the dispatch of group `k` has left. -/
def goneStep (kk : Fin 16 × Fin 16) : Prog (TpuEff nD τ sig (Elt F) Λ₀ .tc) PUnit :=
  Prog.lift (.waitDma2 (semAt arg10 kk.1).sem (arg7.slice (rX kk.2) (fun _ => rfl)) (arg6.slice (rX kk.1) (fun _ => rfl)) (harg7.wordExact_slice rfl _ (wordsX kk.2)) (harg6.wordExact_slice rfl _ (wordsX kk.1)))

/-- The groups and the blocks they land in at the peers. -/
abbrev pairs : List (Fin 16 × Fin 16) :=
  [(1, 15), (2, 14), (3, 13), (4, 12), (5, 11), (6, 10), (7, 9), (8, 8), (9, 7), (10, 6), (11, 5), (12, 4), (13, 3), (14, 2), (15, 1)]
/-- The first two returns. -/
abbrev firsts : List (Fin 16 × Fin 16 × Fin 2) := [(15, 1, 0), (14, 2, 1)]
/-- The later returns, each with the return that frees its slot. -/
abbrev laters : List ((Fin 16 × Fin 16) × (Fin 16 × Fin 16 × Fin 2)) :=
  [((13, 3), (15, 1, 0)), ((12, 4), (14, 2, 1)), ((11, 5), (13, 3, 0)), ((10, 6), (12, 4, 1)), ((9, 7), (11, 5, 0)),
   ((8, 8), (10, 6, 1)), ((7, 9), (9, 7, 0)), ((6, 10), (8, 8, 1)), ((5, 11), (7, 9, 0)), ((4, 12), (6, 10, 1)),
   ((3, 13), (5, 11, 0)), ((2, 14), (4, 12, 1)), ((1, 15), (3, 13, 0))]
/-- The last two returns. -/
abbrev lasts : List (Fin 16 × Fin 16 × Fin 2) := [(2, 14, 1), (1, 15, 0)]

/-- The whole body. -/
def body : Prog (TpuEff nD τ sig (Elt F) Λ₀ .tc) PUnit := do
  let c ← Prog.lift .deviceId
  steps (sigStep c) ups
  semWaitWord (SemArray.scalar (sig.barrier 0 rfl) : Sems sig S_).sem 15#32
  let v ← Prog.lift (.load arg0 (Rect.unit (s := S2048x520) ![0, 0] S2048x520.size inb_S2048x520_S2048x520_0_0).toLoadRect (View.loadsAt_vmem h_S2048x520))
  let f ← Prog.lift (.load arg1 (Rect.unit (s := S1x2048) ![0, 0] S1x2048.size inb_S1x2048_S1x2048_0_0).toLoadRect (View.loadsAt_vmem h_S1x2048))
  steps (sendStep arg6 harg6 arg7 harg7 arg10 arg11 c (shapeCast S2048x520 v shapeCasts_S2048x520_S2048x520) (shapeCast S2048 f shapeCasts_S1x2048_S2048)) pairs
  ownStep arg2 arg3 arg4 arg5 arg6 harg6 arg9 harg9 (shapeCast S2048x520 v shapeCasts_S2048x520_S2048x520) (shapeCast S2048 f shapeCasts_S1x2048_S2048)
  steps (firstStep arg4 arg6 harg6 arg7 harg7 arg8 harg8 arg9 harg9 arg11 arg12 arg13 c) firsts
  steps (laterStep arg4 arg6 harg6 arg7 harg7 arg8 harg8 arg9 harg9 arg11 arg12 arg13 c) laters
  steps (takeStep arg5 arg8 harg8 arg9 harg9 arg13 (shapeCast S2048 f shapeCasts_S1x2048_S2048)) ups
  steps (goneStep arg6 harg6 arg7 harg7 arg10) pairs
  steps (leftStep arg8 harg8 arg9 harg9 arg12) lasts

end Steps

end Cert.KernelIdeal

end
-- ==== Proof.Protocol.lean ====
module

public import proofs.«01_k».proof.Proof.Body
public import Idealize.ShloMosaic.Lib.Pipeline.Regions
public import Idealize.ShloMosaic.Lib.Pipeline.Kit
public import Idealize.ShloMosaic.Lib.Pipeline.BigSepL
public import Idealize.ShloMosaic.Lib.Pipeline.RegionTalk
public import Idealize.ShloMosaic.Lib.Rounds
public import Idealize.ShloMosaic.Lib.Tactic

/-! The protocol of the exchange. Device `c` and its peer `c + k` (`k` from 1 to 15, around the ring of
sixteen) exchange: `c` tells the peer that the kernel runs, hands it the two blocks the peer will fill,
and sends it group `k`, which lands in the peer's block `16 - k`; the peer sends back the expert layer of
that block, which lands in `c`'s block `k`. Each semaphore is used for one round: the barrier collects one
unit from each peer, every other semaphore the credit of one copy. -/

@[expose] public section

set_option maxRecDepth 65536

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-! ## The peers -/

/-- The device `k` places after `c` around the ring of sixteen. -/
def pr (c : Dev nD) (k : Fin 16) : Dev nD := (show Fin 16 from c) + k

/-- Going `k` places on and `k` back is staying. -/
theorem pr_neg (c : Dev nD) (k : Fin 16) : pr (pr c k) (-k) = c := by revert c k; decide
/-- Going `k` places back and `k` on is staying. -/
theorem pr_neg' (c : Dev nD) (k : Fin 16) : pr (pr c (-k)) k = c := by revert c k; decide
/-- The negative of the negative of a number modulo sixteen is the number. -/
theorem neg_neg16 (k : Fin 16) : - -k = k := by revert k; decide

/-- The kernel's signal `k` goes to the device `k` places on. -/
theorem sigPeer_eq (c : Dev nD) (k : Fin 16) : sigPeer c k = pr c k := by revert c k; decide
/-- The kernel's chunk `k` goes to the device `k` places on. -/
theorem sendPeer_eq (c : Dev nD) (k : Fin 16) : sendPeer c k = pr c k := by revert c k; decide
/-- The kernel's return `k` goes to the device `k` places on. -/
theorem retPeer_eq (c : Dev nD) (k : Fin 16) : retPeer c k = pr c k := by revert c k; decide

/-! ## The blocks and the semaphores -/

/-- Block `k` of the buffer the chunks are sent from. -/
abbrev xs (k : Fin 16) : Memref sig .tc .vmem S192x520 .bf16 := (Memref.whole cc0_scratch0).slice (rX k) (fun _ => rfl)
/-- Block `j` of the buffer the chunks arrive in. -/
abbrev rc (j : Fin 16) : Memref sig .tc .vmem S192x520 .bf16 := (Memref.whole cc0_scratch1).slice (rX j) (fun _ => rfl)
/-- Block `j` of the buffer the returns arrive in. -/
abbrev yr (j : Fin 16) : Memref sig .tc .vmem S192x1024 .bf16 := (Memref.whole cc0_scratch2).slice (rY j) (fun _ => rfl)
/-- Slot `s` of the buffer the returns are sent from. -/
abbrev zb (s : Fin 2) : Memref sig .tc .vmem S1x192x1024 .bf16 := (Memref.whole cc0_scratch3).slice (rZ s) (fun _ => rfl)
/-- The same slot as a two-dimensional array. -/
abbrev zq (s : Fin 2) : Memref sig .tc .vmem S192x1024 .bf16 := zAt (Memref.whole cc0_scratch3) s

/-- The slot the return of group `j` is sent from. -/
def slotOf (j : Fin 16) : Fin 2 := if j.val % 2 = 1 then 0 else 1

/-- The barrier semaphore. -/
abbrev barS : Sem sig := (SemArray.scalar (sig.barrier 0 rfl) : Sems sig S_).sem

/-- Semaphore `k` of family `a`: dispatches sent, dispatches received, returns sent, returns received. -/
def dsem (a : Fin 4) (k : Fin 16) : DmaSem sig :=
  ⟨6 + 16 * a.val + k.val, by have := a.isLt; have := k.isLt; show _ < 70; omega⟩

/-- Which family and number a semaphore is, if it is one of these. -/
def fam (s : DmaSem sig) : Option (Fin 4 × Fin 16) :=
  if 6 ≤ s.val then
    some (⟨(s.val - 6) / 16, by have h : s.val < 70 := s.isLt; omega⟩, ⟨(s.val - 6) % 16, by omega⟩)
  else none

/-- Semaphore `k` of family `a` is of family `a` and number `k`. -/
theorem fam_dsem (a : Fin 4) (k : Fin 16) : fam (dsem a k) = some (a, k) := by revert a k; decide

/-- The kernel's first semaphore array is the family of the dispatches sent. -/
theorem sem4 (k : Fin 16) : (semAt cc0_scratch4 k).sem = dsem 0 k := by revert k; decide
/-- The second is the family of the dispatches received. -/
theorem sem5 (k : Fin 16) : (semAt cc0_scratch5 k).sem = dsem 1 k := by revert k; decide
/-- The third is the family of the returns sent. -/
theorem sem6 (k : Fin 16) : (semAt cc0_scratch6 k).sem = dsem 2 k := by revert k; decide
/-- The fourth is the family of the returns received. -/
theorem sem7 (k : Fin 16) : (semAt cc0_scratch7 k).sem = dsem 3 k := by revert k; decide

/-! ## The resource algebra -/

abbrev UU : Type := UR sig nD τ × URounds (GSem nD τ sig) (Fin 16)

local notation "𝕄" => MT nD τ sig Unit (Elt F) ℕ UU ℕ

abbrev EP : Emb (UR sig nD τ) (MT nD τ sig Unit (Elt F) ℕ UU ℕ) := embL
abbrev ER : Emb (URounds (GSem nD τ sig) (Fin 16)) (MT nD τ sig Unit (Elt F) ℕ UU ℕ) := embR

/-- The barrier cell of device `c`. -/
abbrev barCell (c : Dev nD) : GSem nD τ sig := ((c : Thread nD τ), .reg barS)
/-- The cell of semaphore `k` of family `a` on device `c`. -/
abbrev dcell (c : Dev nD) (a : Fin 4) (k : Fin 16) : GSem nD τ sig := ((c : Thread nD τ), .dma (dsem a k))

/-- The credit of one dispatched chunk. -/
def N1 : ℕ := (rc 0).view.dmaCredit
/-- The credit of one returned chunk. -/
def N2 : ℕ := (yr 0).view.dmaCredit
/-- A chunk's credit is positive. -/
theorem N1_pos : 0 < N1 := View.dmaCredit_pos _ (by decide)
/-- A return's credit is positive. -/
theorem N2_pos : 0 < N2 := View.dmaCredit_pos _ (by decide)

/-- Every block the chunks are sent from has the chunk's credit. -/
theorem credit_xs (k : Fin 16) : (xs k).view.dmaCredit = N1 := rfl
/-- Every block the chunks arrive in has the chunk's credit. -/
theorem credit_rc (k : Fin 16) : (rc k).view.dmaCredit = N1 := rfl
/-- Every block the returns arrive in has the return's credit. -/
theorem credit_yr (k : Fin 16) : (yr k).view.dmaCredit = N2 := rfl
/-- Every slot the returns are sent from has the return's credit. -/
theorem credit_zq (s : Fin 2) : (zq s).view.dmaCredit = N2 := rfl

/-! ## The schedule -/

section Sched

-- The chunk each device sends in each group, and what it returns for each group.
variable (cx : Dev nD → Fin 16 → Vec F S192x520 .bf16) (yx : Dev nD → Fin 16 → Vec F S192x1024 .bf16)

/-- What device `c` finds with unit `d` of its barrier: the two blocks of the peer that `c` will fill, and
that the peer's semaphores for them are ready. -/
def barPay (c : Dev nD) (d : Fin 16) : sProp 𝕄 :=
  iprop((∃ X, ownsTc (pr c (-d)) (rc d) fullShare X) ∗ (∃ X, ownsTc (pr c (-d)) (yr d) fullShare X)
    ∗ reached ER (dcell (pr c (-d)) 1 d) 0 ∗ reached ER (dcell (pr c (-d)) 3 d) 0)

/-- What device `c` finds with the credit of its semaphore `k` of family `a`: the block back that was sent
from, or the block that was filled, at the peer's chunk or return. -/
def dPay (c : Dev nD) (a : Fin 4) (k : Fin 16) : sProp 𝕄 :=
  match a with
  | 0 => iprop(∃ X, ownsTc c (xs k) fullShare X)
  | 1 => ownsTc c (rc k) fullShare (cx (pr c k) (-k))
  | 2 => iprop(∃ X, ownsTc c (zq (slotOf k)) fullShare X)
  | 3 => ownsTc c (yr k) fullShare (yx (pr c k) (-k))

/-- The duties of a semaphore. -/
def dutiesOf : SemLoc sig → Finset (Fin 16)
  | .reg _ => Finset.univ.erase 0
  | .dma s => match fam s with
    | some (_, k) => if k = 0 then ∅ else {0}
    | none => ∅

/-- The credit of one duty of a semaphore. -/
def amountOf : SemLoc sig → ℕ
  | .reg _ => 1
  | .dma s => match fam s with
    | some (a, _) => if a.val < 2 then N1 else N2
    | none => 1

/-- What one duty of a semaphore of device `c` hands over. -/
def payOf (c : Dev nD) (d : Fin 16) : SemLoc sig → sProp 𝕄
  | .reg _ => barPay c d
  | .dma s => match fam s with
    | some (a, k) => dPay cx yx c a k
    | none => iprop(emp)

/-- Every duty's credit is positive. -/
theorem amountOf_pos (sm : SemLoc sig) : 0 < amountOf sm := by
  unfold amountOf
  split
  · exact Nat.one_pos
  · split
    · split
      · exact N1_pos
      · exact N2_pos
    · exact Nat.one_pos

/-- The schedule: every cell of a TensorCore has its duties in round 0. -/
def Rd : Rounds.Schedule (GSem nD τ sig) (Fin 16) 𝕄 where
  duties g r := if r = 0 ∧ g.1.2 = .tc then dutiesOf g.2 else ∅
  amount g _ _ := amountOf g.2
  payload g _ d := payOf cx yx g.1.1 d g.2
  amount_pos g _ _ _ := amountOf_pos g.2
  unitless _ := False

instance barPay_storable (c : Dev nD) (d : Fin 16) : BI.Storable (upEmb : UEmb _ 𝕄) (barPay c d) := by
  unfold barPay; infer_instance
instance dPay_storable (c : Dev nD) (a k) : BI.Storable (upEmb : UEmb _ 𝕄) (dPay cx yx c a k) := by
  unfold dPay; split <;> infer_instance
instance Rd_storable (g : GSem nD τ sig) (r : ℕ) (d : Fin 16) :
    BI.Storable (upEmb : UEmb _ 𝕄) ((Rd cx yx).payload g r d) := by
  show BI.Storable upEmb (payOf cx yx g.1.1 d g.2)
  unfold payOf
  split
  · infer_instance
  · split <;> infer_instance

/-- A barrier's duties are one for each of the numbers 1 to 15. -/
theorem duties_bar (c : Dev nD) : (Rd cx yx).duties (barCell c) 0 = Finset.univ.erase 0 := by
  show (if 0 = 0 ∧ (c : Thread nD τ).2 = .tc then dutiesOf (.reg barS) else ∅) = _
  exact if_pos ⟨rfl, rfl⟩
/-- A copy's semaphore with a number from 1 to 15 has one duty. -/
theorem duties_d (c : Dev nD) (a : Fin 4) {k : Fin 16} (hk : k ≠ 0) : (Rd cx yx).duties (dcell c a k) 0 = {0} := by
  show (if 0 = 0 ∧ (c : Thread nD τ).2 = .tc then dutiesOf (.dma (dsem a k)) else ∅) = _
  rw [if_pos ⟨rfl, rfl⟩]
  simp only [dutiesOf, fam_dsem, if_neg hk]
/-- A copy's semaphore with number 0 has no duty. -/
theorem duties_zero (c : Dev nD) (a : Fin 4) (r : ℕ) : (Rd cx yx).duties (dcell c a 0) r = ∅ := by
  show (if _ then dutiesOf (.dma (dsem a 0)) else ∅) = ∅
  simp only [dutiesOf, fam_dsem, if_true, ite_self]
/-- No cell has a duty after its first round. -/
theorem duties_later (g : GSem nD τ sig) : ∀ r, 0 + 1 ≤ r → (Rd cx yx).duties g r = ∅ :=
  fun r hr => if_neg fun h => by omega
/-- A duty of a barrier gives one unit. -/
theorem amount_bar (c : Dev nD) (d : Fin 16) : (Rd cx yx).amount (barCell c) 0 d = 1 := rfl
/-- A duty of a copy's semaphore gives the credit of a chunk or of a return. -/
theorem amount_d (c : Dev nD) (a : Fin 4) (k d : Fin 16) :
    (Rd cx yx).amount (dcell c a k) 0 d = if a.val < 2 then N1 else N2 := by
  show amountOf (.dma (dsem a k)) = _
  simp only [amountOf, fam_dsem]
/-- A duty of a barrier hands over the peer's two blocks. -/
theorem payload_bar (c : Dev nD) (d : Fin 16) : (Rd cx yx).payload (barCell c) 0 d = barPay c d := rfl
/-- A duty of a copy's semaphore hands over the block sent from or the block filled. -/
theorem payload_d (c : Dev nD) (a : Fin 4) (k d : Fin 16) : (Rd cx yx).payload (dcell c a k) 0 d = dPay cx yx c a k := by
  show payOf cx yx c d (.dma (dsem a k)) = _
  simp only [payOf, fam_dsem]
/-- A barrier's round brings 15 units. -/
theorem expect_bar (c : Dev nD) : (Rd cx yx).expect (barCell c) 0 = 15 := by
  unfold Schedule.expect Schedule.amountOf
  rw [duties_bar]
  exact (Finset.sum_congr rfl fun d _ => amount_bar cx yx c d).trans (by decide)
/-- A round of a copy's semaphore brings the credit of a chunk or of a return. -/
theorem expect_d (c : Dev nD) (a : Fin 4) {k : Fin 16} (hk : k ≠ 0) :
    (Rd cx yx).expect (dcell c a k) 0 = if a.val < 2 then N1 else N2 := by
  unfold Schedule.expect Schedule.amountOf
  rw [duties_d cx yx c a hk, Finset.sum_singleton, amount_d]
/-- What a round of a copy's semaphore hands over is its one duty's block. -/
theorem rest_d (c : Dev nD) (a : Fin 4) {k : Fin 16} (hk : k ≠ 0) :
    bigSep ((Rd cx yx).duties (dcell c a k) 0 \ ∅) (fun d => (Rd cx yx).payload (dcell c a k) 0 d) = dPay cx yx c a k := by
  rw [Finset.sdiff_empty, duties_d cx yx c a hk, bigSep_singleton, payload_d]
/-- What a barrier's round hands over is all the peers' blocks. -/
theorem rest_bar (c : Dev nD) :
    bigSep ((Rd cx yx).duties (barCell c) 0 \ ∅) (fun d => (Rd cx yx).payload (barCell c) 0 d)
      = bigSepL ups (fun k => barPay (F := F) c k) := by
  rw [Finset.sdiff_empty, duties_bar]
  exact bigSep_eq_bigSepL_of_eq ups (by decide) (by decide) _

end Sched

/-! ## What a device owes, and the levels -/

/-- The units of the peers' barriers not yet signalled. -/
def owB (c : Dev nD) (l : List (Fin 16)) : CellTallies nD τ sig Unit := (l.map fun k => tallyAt (barCell (pr c k)) () 1).sum
/-- The credits of the chunks not yet sent. -/
def owX (c : Dev nD) (l : List (Fin 16)) : CellTallies nD τ sig Unit := (l.map fun k => tallyAt (dcell (pr c k) 1 (-k)) () N1).sum
/-- The credits of the returns not yet sent. -/
def owY (c : Dev nD) (l : List (Fin 16)) : CellTallies nD τ sig Unit := (l.map fun k => tallyAt (dcell (pr c k) 3 (-k)) () N2).sum

/-- The numbers 15 down to 1. -/
abbrev downs : List (Fin 16) := [15, 14, 13, 12, 11, 10, 9, 8, 7, 6, 5, 4, 3, 2, 1]

/-- What device `c` owes when the kernel starts. -/
def O₀ (c : Dev nD) : CellTallies nD τ sig Unit := owB c ups + (owX c ups + owY c downs)

def L (g : GSem nD τ sig) : Finset Unit := if g.1.2 = .tc then {()} else ∅
/-- The level of a semaphore: barrier 1, received dispatches 2, received returns 3, the others 0. -/
def lev : SemLoc sig → ℕ
  | .reg _ => 1
  | .dma s => match fam s with
    | some (a, _) => if a = 1 then 2 else if a = 3 then 3 else 0
    | none => 0
def lv (g : GSem nD τ sig) (_ : Unit) : ℕ := lev g.2

/-- A cell that is not a TensorCore's has no level. -/
theorem L_of_ne (g : GSem nD τ sig) (h : g.1.2 ≠ .tc) : L g = ∅ := if_neg h
/-- Every cell of a TensorCore has one level. -/
theorem L_tc (c : Dev nD) (sm : SemLoc sig) : L ((c : Thread nD τ), sm) = {()} := if_pos rfl

/-- A debt that stands only above level `b`. -/
def Above (b : ℕ) (O : CellTallies nD τ sig Unit) : Prop := ∀ g u, 0 < O g u → g.1.2 = .tc ∧ b < lv g u

/-- Owing nothing stands above every level. -/
theorem Above.zero (b : ℕ) : Above b 0 := fun _ _ h => absurd h (Nat.lt_irrefl 0)
/-- A debt at one cell stands above the levels below the cell's. -/
theorem Above.tally {b : ℕ} {c : Dev nD} {sm : SemLoc sig} {n : ℕ} (h : b < lev sm) :
    Above b (tallyAt ((c : Thread nD τ), sm) () n) := fun g u hg => by
  rw [tallyAt_apply] at hg
  split at hg
  · next e => obtain ⟨rfl, -⟩ := e; exact ⟨rfl, h⟩
  · exact absurd hg (Nat.lt_irrefl 0)
/-- Two debts above a level are together above it. -/
theorem Above.add {b : ℕ} {O O' : CellTallies nD τ sig Unit} (h : Above b O) (h' : Above b O') : Above b (O + O') :=
  fun g u hg => by
    rw [Pi.add_apply, Finsupp.add_apply] at hg
    rcases Nat.add_pos_iff_pos_or_pos.mp hg with hg | hg
    · exact h g u hg
    · exact h' g u hg
/-- A list of debts above a level is together above it. -/
theorem Above.sum {β : Type} {b : ℕ} {f : β → CellTallies nD τ sig Unit} (h : ∀ k, Above b (f k)) (l : List β) :
    Above b (l.map f).sum := by
  induction l with
  | nil => exact Above.zero b
  | cons k l ih => rw [List.map_cons, List.sum_cons]; exact (h k).add ih

/-- The dispatches received have level 2. -/
theorem lev_d1 (k : Fin 16) : lev (.dma (dsem 1 k)) = 2 := by simp only [lev, fam_dsem, if_true]
/-- The returns received have level 3. -/
theorem lev_d3 (k : Fin 16) : lev (.dma (dsem 3 k)) = 3 := by revert k; decide

/-- The units owed to the barriers stand above level 0. -/
theorem above_owB (c : Dev nD) (l : List (Fin 16)) : Above 0 (owB c l) := Above.sum (fun _ => Above.tally (by decide)) l
/-- The chunks owed stand above every level below 2. -/
theorem above_owX {b : ℕ} (hb : b < 2) (c : Dev nD) (l : List (Fin 16)) : Above b (owX c l) :=
  Above.sum (fun k => Above.tally (by rw [lev_d1]; exact hb)) l
/-- The returns owed stand above every level below 3. -/
theorem above_owY {b : ℕ} (hb : b < 3) (c : Dev nD) (l : List (Fin 16)) : Above b (owY c l) :=
  Above.sum (fun k => Above.tally (by rw [lev_d3]; exact hb)) l

/-- A device may wait on a semaphore whose level is below everything it owes. -/
theorem mayWait (c : Dev nD) (sm : SemLoc sig) {O : CellTallies nD τ sig Unit} (h : Above (lev sm) O) :
    (levAts L lv : sProp 𝕄) ⊢ MayWait (c : Thread nD τ) sm () O :=
  MayOwe.of_cut (L := L) (lev := lv) (lev sm)
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

end Cert.KernelIdeal

end
-- ==== Proof.Rules.lean ====
module

public import proofs.«01_k».proof.Proof.Protocol

/-! The rules the steps are proved with: loads and stores of blocks owned at contents, the handshake's
signal, a copy to a peer from one owned block into another, and the wait for one copy. -/

@[expose] public section

set_option maxRecDepth 65536

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

/-- No loop of the program has a variant. -/
abbrev 𝒱₀ : Variants := Variants.none

/-- The weakest precondition of a program of device `c`'s TensorCore. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A device owes `O`, whatever it has waited on. -/
abbrev ow (c : Dev nD) (O : CellTallies nD τ sig Unit) : sProp 𝕄 := iprop(∃ W, owes (c : Thread nD τ) O W)

/-! ## Loads and stores -/

section Mem

variable {α : Type} {s : Shape} {e : EltTy} (c : Dev nD) (m : Memref sig .tc .vmem s e) (r : Rect s)

/-- A load of a block owned at `X` reads `X`. -/
theorem wp_load_own (hr : ∀ a, r.stride a = 1) {hl : m.view.LoadsAt r.toLoadRect} {q : PosShare TreeShare}
    (X : r.shape.Idx → Elt F e) {k : (r.shape.Idx → Elt F e) → Prog (TpuEff nD τ sig (Elt F) Λ₀ .tc) α} {Q : α → sProp 𝕄} :
    ownsTc c (m.slice r hr) q X ⊢ iprop((ownsTc c (m.slice r hr) q X -∗ WP c (k X) Q) -∗ WP c (.op (.load m r.toLoadRect hl) k) Q) := by
  unfold ownsTc owns
  iintro ⟨%f, %hf, H⟩ Hk
  iapply (wp_load_rect 𝒱₀ (c : Thread nD τ) none Set.univ (m := m) (r := r) (hl := hl) (q := q) (f := f) (Finset.Subset.refl _)) $$ H
  iintro H
  have h : (m.access r).read (Elt F) f = X := hf
  rw [h]
  iapply Hk
  iexists f
  isplitr; · ipureintro; exact hf
  iexact H

/-- A store of a whole block owned leaves it owned at what is stored. -/
theorem wp_store_own (hr : ∀ a, r.stride a = 1) {w : r.shape.Idx → Elt F e} {hx : (m.access r).Stores Finset.univ}
    {hm : (Finset.univ : Finset r.shape.Idx) = Finset.univ ∨ ∀ a, r.stride a = 1}
    (X : r.shape.Idx → Elt F e) {k : PUnit → Prog (TpuEff nD τ sig (Elt F) Λ₀ .tc) α} {Q : α → sProp 𝕄} :
    ownsTc c (m.slice r hr) fullShare X
      ⊢ iprop((ownsTc c (m.slice r hr) fullShare w -∗ WP c (k ⟨⟩) Q) -∗ WP c (.op (.store m r w Finset.univ hx hm) k) Q) := by
  unfold ownsTc owns
  iintro ⟨%f, %hf, H⟩ Hk
  iapply (wp_store 𝒱₀ (c : Thread nD τ) none Set.univ (m := m) (r := r) (w := w) (hx := hx) (hm := hm) (f := f)
    (View.setOn_subset_set _ _)) $$ H
  iintro H
  iapply Hk
  iexists ((m.access r).write (Elt F) f w Finset.univ)
  isplitr; · ipureintro; exact View.read_write_univ _ _
  iexact H

/-- A load of a rectangle of an array owned at `X` reads `X` there. -/
theorem wp_load_in {hl : m.view.LoadsAt r.toLoadRect} {q : PosShare TreeShare}
    (X : s.Idx → Elt F e) {k : (r.shape.Idx → Elt F e) → Prog (TpuEff nD τ sig (Elt F) Λ₀ .tc) α} {Q : α → sProp 𝕄} :
    ownsTc c m q X ⊢ iprop((ownsTc c m q X -∗ WP c (k fun i => X (r.emb i)) Q) -∗ WP c (.op (.load m r.toLoadRect hl) k) Q) := by
  unfold ownsTc owns
  iintro ⟨%f, %hf, H⟩ Hk
  iapply (wp_load_rect 𝒱₀ (c : Thread nD τ) none Set.univ (m := m) (r := r) (hl := hl) (q := q) (f := f)
    (View.set_slice_subset _ _)) $$ H
  iintro H
  have h : (m.access r).read (Elt F) f = fun i => X (r.emb i) := by subst hf; rfl
  rw [h]
  iapply Hk
  iexists f
  isplitr; · ipureintro; exact hf
  iexact H

/-- A store into a rectangle of an array owned at `X` lays what is stored over `X`. -/
theorem wp_store_in {w : r.shape.Idx → Elt F e} {hx : (m.access r).Stores Finset.univ}
    {hm : (Finset.univ : Finset r.shape.Idx) = Finset.univ ∨ ∀ a, r.stride a = 1}
    (X : s.Idx → Elt F e) {k : PUnit → Prog (TpuEff nD τ sig (Elt F) Λ₀ .tc) α} {Q : α → sProp 𝕄} :
    ownsTc c m fullShare X
      ⊢ iprop((ownsTc c m fullShare (r.overlay X w) -∗ WP c (k ⟨⟩) Q) -∗ WP c (.op (.store m r w Finset.univ hx hm) k) Q) := by
  unfold ownsTc owns
  iintro ⟨%f, %hf, H⟩ Hk
  iapply (wp_store 𝒱₀ (c : Thread nD τ) none Set.univ (m := m) (r := r) (w := w) (hx := hx) (hm := hm) (f := f)
    ((View.setOn_subset_set _ _).trans (View.set_slice_subset _ _))) $$ H
  iintro H
  iapply Hk
  iexists ((m.access r).write (Elt F) f w Finset.univ)
  isplitr
  · ipureintro
    funext i
    by_cases hi : i ∈ r.set
    · obtain ⟨j, -, rfl⟩ := Finset.mem_map.mp (r.map_emb_univ ▸ hi)
      rw [Rect.overlay_emb]
      exact congrFun ((m.access r).read_write_univ f w) j
    · rw [Rect.overlay_of_not_mem _ _ _ hi, ← hf]
      rw [View.read_apply, View.read_apply]
      refine congrArg _ (View.write_of_not_mem (v := m.access r) f w _ fun h => hi ?_)
      have h' : m.view.emb i ∈ (m.view.slice r).set := h
      rw [View.set_slice] at h'
      obtain ⟨j, hj, hji⟩ := Finset.mem_map.mp h'
      exact m.view.emb.injective hji ▸ hj
  iexact H

end Mem

/-! ## The cells' invariants -/

/-- One summand of a product over all of a finite type. -/
theorem bigSep_one {I : Type} [Fintype I] [DecidableEq I] (Φ : I → sProp 𝕄) (i : I) : iprop(bigSep Finset.univ Φ) ⊢ Φ i :=
  bigSep_elim (Finset.mem_univ i)

section Talk

variable (cx : Dev nD → Fin 16 → Vec F S192x520 .bf16) (yx : Dev nD → Fin 16 → Vec F S192x1024 .bf16) (K : GSem nD τ sig → ℕ)

/-- What every device knows: each cell's invariant, that the barriers are open, and the levels. -/
def ctx : sProp 𝕄 :=
  iprop((bigSep Finset.univ fun d : Dev nD => iprop(cellInv ER (Rd cx yx) (K (barCell d)) (barCell d) ∗ reached ER (barCell d) 0))
    ∗ (bigSep Finset.univ fun p : Dev nD × Fin 4 × Fin 16 =>
        cellInv ER (Rd cx yx) (K (dcell p.1 p.2.1 p.2.2)) (dcell p.1 p.2.1 p.2.2))
    ∗ levAts L lv)

instance ctx_persistent : Persistent (ctx cx yx K) := by unfold ctx; infer_instance

/-- The shared context has every barrier's invariant, and that its round is reached. -/
theorem ctx_bar (d : Dev nD) : ctx cx yx K ⊢ iprop(cellInv ER (Rd cx yx) (K (barCell d)) (barCell d) ∗ reached ER (barCell d) 0) := by
  unfold ctx
  iintro ⟨H, -, -⟩
  iapply (bigSep_one (fun d : Dev nD => iprop(cellInv ER (Rd cx yx) (K (barCell d)) (barCell d) ∗ reached ER (barCell d) 0)) d) $$ H

/-- The shared context has the invariant of every copy's semaphore. -/
theorem ctx_d (d : Dev nD) (a : Fin 4) (k : Fin 16) : ctx cx yx K ⊢ cellInv ER (Rd cx yx) (K (dcell d a k)) (dcell d a k) := by
  unfold ctx
  iintro ⟨-, H, -⟩
  iapply (bigSep_one (fun p : Dev nD × Fin 4 × Fin 16 =>
        cellInv ER (Rd cx yx) (K (dcell p.1 p.2.1 p.2.2)) (dcell p.1 p.2.1 p.2.2)) (d, a, k)) $$ H

/-- The shared context has the levels. -/
theorem ctx_lev : ctx cx yx K ⊢ (levAts L lv : sProp 𝕄) := by
  unfold ctx
  iintro ⟨-, -, H⟩
  iexact H

/-- The credit of one copy of family `a`. -/
abbrev NN (a : Fin 4) : ℕ := if a.val < 2 then N1 else N2

variable {α : Type} (c : Dev nD) {k' : PUnit → Prog (TpuEff nD τ sig (Elt F) Λ₀ .tc) α}

/-- Signalling peer `k` pays one unit of its barrier: with the two blocks of `c` that the peer will fill. -/
theorem wp_tell {k : Fin 16} (hk : k ≠ 0) (n : Dev nD) (hn : n = pr c k) (O O' : CellTallies nD τ sig Unit)
    (hO : O' = O + tallyAt (barCell (pr c k)) () 1) {Q : α → sProp 𝕄} :
    iprop(ctx cx yx K ∗ ow c O' ∗ dutyTok ER (barCell (pr c k)) 0 k ∗ (∃ X, ownsTc c (rc k) fullShare X)
        ∗ (∃ X, ownsTc c (yr k) fullShare X) ∗ reached ER (dcell c 1 k) 0 ∗ reached ER (dcell c 3 k) 0)
      ⊢ iprop((ow c O -∗ WP c (k' ⟨⟩) Q) -∗ WP c (.op (.semSignal (n : Thread nD τ) barS 1) k') Q) := by
  subst hn
  iintro ⟨#Hc, ⟨%W, HO⟩, Ht, Hx, Hy, Hr, Hs⟩ Hk
  ihave #Hb := (ctx_bar cx yx K (pr c k)) $$ Hc
  icases Hb with ⟨#Hi, #Hr0⟩
  iapply (Rounds.wp_signal 𝒱₀ ER (Rd cx yx) (c : Thread nD τ) none (dst := (pr c k : Thread nD τ)) (sem := barS) (r := 0) (d := k)
      (κ := K (barCell (pr c k)))
      (by rw [duties_bar]; exact Finset.mem_erase.mpr ⟨hk, Finset.mem_univ k⟩) (amount_bar cx yx _ k) () O hO) $$ [HO Ht Hx Hy Hr Hs]
  · isplitr; · iexact Hi
    isplitl [HO]; · iexact HO
    isplitl [Ht]; · iexact Ht
    isplitl [Hx Hy Hr Hs]
    · rw [payload_bar]
      unfold barPay
      rw [pr_neg]
      isplitl [Hx]; · iexact Hx
      isplitl [Hy]; · iexact Hy
      isplitl [Hr] <;> iassumption
    iexact Hr0
  iintro HO
  iapply Hk
  iexists W
  iexact HO

/-- A copy from an owned block into an owned block of peer `k`: both payloads are made, and the credit of
the sending semaphore comes back. -/
theorem wp_copy_own {a a' : Fin 4} {k k₂ : Fin 16} (hk : k ≠ 0) (hk₂ : k₂ ≠ 0) (n c' : Dev nD) (hn : n = c')
    {s : Shape} {e : EltTy}
    {src dst : Memref sig .tc .vmem s e} {s₁ s₂ : DmaSem sig} (hs₁ : s₁ = dsem a k) (hs₂ : s₂ = dsem a' k₂)
    (hN : dst.view.dmaCredit = NN a) (hN' : NN a = NN a') (X : s.Idx → Elt F e)
    (h₁ : owns (c : Thread nD τ) src fullShare X ⊢ dPay cx yx c a k) (h₂ : owns (c' : Thread nD τ) dst fullShare X ⊢ dPay cx yx c' a' k₂)
    (O O' : CellTallies nD τ sig Unit) (hO : O' = O + tallyAt (dcell c' a' k₂) () (NN a))
    {hsc : dst.view.ref.isScScratch = false} {hsrc : src.view.WordExact} {hdst : dst.view.WordExact}
    {hsem : DmaTarget.Typed .vmem (.dma s₂) (.remote (Dev.tc n : Thread nD τ) dst (.dma s₁) hsc)} {Q : α → sProp 𝕄} :
    iprop(ctx cx yx K ∗ ow c O' ∗ ownsTc c src fullShare X ∗ (∃ Y, ownsTc c' dst fullShare Y)
        ∗ dutyTok ER (dcell c a k) 0 0 ∗ reached ER (dcell c a k) 0
        ∗ dutyTok ER (dcell c' a' k₂) 0 0 ∗ reached ER (dcell c' a' k₂) 0)
      ⊢ iprop(((cred (tallyAt (dcell c a k) () (NN a)) ∗ ow c O) -∗ WP c (k' ⟨⟩) Q)
        -∗ WP c (.op (.enqueueDma src (.remote (Dev.tc n : Thread nD τ) dst (.dma s₁) hsc) (.dma s₂) hsrc hdst hsem) k') Q) := by
  subst hn hs₁ hs₂
  have hp₁ (f : Buf (Elt F) (src.view.loc (c : Thread nD τ))) (hf : src.view.read (Elt F) f = X) :
      (src.view.loc (c : Thread nD τ) ↦[src.view.set]{fullShare} f : sProp 𝕄) ⊢ (Rd cx yx).payload (dcell c a k) 0 0 := by
    subst hf
    rw [payload_d]
    exact (owns_intro (c : Thread nD τ) src fullShare f).trans h₁
  have hp₂ (f : Buf (Elt F) (src.view.loc (c : Thread nD τ))) (g : Buf (Elt F) (dst.view.loc (n : Thread nD τ)))
      (hf : src.view.read (Elt F) f = X) :
      (dst.view.loc (n : Thread nD τ) ↦[dst.view.set]{fullShare} (dst.view.write (Elt F) g (src.view.read (Elt F) f) Finset.univ) : sProp 𝕄)
        ⊢ (Rd cx yx).payload (dcell n a' k₂) 0 0 := by
    rw [hf, payload_d]
    refine BIBase.Entails.trans ?_ h₂
    have := owns_intro (Ix := Unit) (Name := ℕ) (U := UU) (Lvl := ℕ) (n : Thread nD τ) dst fullShare (dst.view.write (Elt F) g X Finset.univ)
    rwa [View.read_write_univ] at this
  unfold ownsTc owns
  iintro ⟨#Hc, ⟨%W, HO⟩, ⟨%f, %hf, Hs⟩, ⟨%Y, %g, %hg, Hd⟩, Ht, Hr, Ht', Hr'⟩ Hk
  ihave #Hi := (ctx_d cx yx K c a k) $$ Hc
  ihave #Hi' := (ctx_d cx yx K n a' k₂) $$ Hc
  have key := (Rounds.wp_send_pointsTo 𝒱₀ ER (Rd cx yx) (c : Thread nD τ) none (κ₁ := K (dcell c a k)) (κ₂ := K (dcell n a' k₂))
      (r₁ := 0) (r₂ := 0) (d₁ := 0) (d₂ := 0) (q := fullShare) (fs := f) (fd := g)
      (by rw [duties_d cx yx _ _ hk]; exact Finset.mem_singleton_self _)
      (by rw [duties_d cx yx _ _ hk₂]; exact Finset.mem_singleton_self _)
      () () (NN a) (show dst.view.amount (.dma (dsem a' k₂)) = NN a from hN) (amount_d cx yx c a k 0) ((amount_d cx yx n a' k₂ 0).trans hN'.symm) O hO (W := W) (defs := defs₀ (F := F)) (Γ := PendingWaitsCtx.empty) (Es := Set.univ) (Q := Q) (k := k') (hsrc := hsrc) (hdst := hdst) (hsem := hsem)
      (hp₁ f hf) (hp₂ f g hf))
  iapply key $$ [HO Hs Hd Ht Hr Ht' Hr']
  · isplitr; · iexact Hi
    isplitr; · iexact Hi'
    isplitl [Hs]; · iexact Hs
    isplitl [Hd]; · iexact Hd
    isplitl [HO]; · iexact HO
    isplitl [Ht]; · iexact Ht
    isplitl [Hr]; · iexact Hr
    isplitl [Ht'] <;> iassumption
  iintro ⟨Hcr, HO⟩
  iapply Hk
  isplitl [Hcr]; · iexact Hcr
  iexists W
  iexact HO

/-- The wait for one copy: the payload comes, and the semaphore's one round is over. -/
theorem wp_got {a : Fin 4} {k : Fin 16} (hk : k ≠ 0) {s s' : Shape} {e e' : EltTy}
    {src : Memref sig .tc .vmem s' e'} {dst : Memref sig .tc .vmem s e} {s₁ : DmaSem sig} (hs₁ : s₁ = dsem a k)
    (hN : dst.view.dmaCredit = NN a) (O : CellTallies nD τ sig Unit) (hO : Above (lev (.dma (dsem a k))) O)
    {hsrc : src.view.WordExact} {hdst : dst.view.WordExact} {Q : α → sProp 𝕄} :
    iprop(ctx cx yx K ∗ ow c O ∗ cred (tallyAt (dcell c a k) () (NN a)) ∗ atPos ER (dcell c a k) 0 ∅ 0)
      ⊢ iprop(((ow c O ∗ atPos ER (dcell c a k) 1 ∅ 0 ∗ dPay cx yx c a k) -∗ WP c (k' ⟨⟩) Q)
        -∗ WP c (.op (.waitDma2 s₁ src dst hsrc hdst) k') Q) := by
  subst hs₁
  iintro ⟨#Hc, ⟨%W, HO⟩, Hcr, Hat⟩ Hk
  ihave #Hi := (ctx_d cx yx K c a k) $$ Hc
  ihave #Hl := (ctx_lev cx yx K) $$ Hc
  ihave Hm := (mayWait c (.dma (dsem a k)) hO) $$ Hl
  iapply (Rounds.wp_wait_rest_token 𝒱₀ ER (Rd cx yx) (c : Thread nD τ) none (κ := K (dcell c a k))
      (wpE_waitDma2_eq 𝒱₀ (c : Thread nD τ) none Set.univ) (Set.mem_univ _) () (O := O) (W := W) (R := 0) (m := 0) (T := ∅)
      ((Nat.zero_add _).trans (hN.trans (expect_d cx yx c a hk).symm))) $$ [HO Hcr Hat Hm]
  · isplitr; · iexact Hi
    isplitl [Hcr]; · rw [hN]; iexact Hcr
    isplitl [HO]; · iexact HO
    isplitl [Hm] <;> iassumption
  rw [rest_d cx yx c a hk]
  iintro ⟨HO, Hat, -, Hp⟩
  iapply Hk
  isplitl [HO]
  · iexists _; iexact HO
  isplitl [Hat] <;> iassumption

/-- The wait for the fifteen peers: their blocks come, one after the other. -/
theorem wp_all (O : CellTallies nD τ sig Unit) (hO : Above 1 O) {Q : α → sProp 𝕄} :
    iprop(ctx cx yx K ∗ ow c O ∗ cred (tallyAt (barCell c) () 15) ∗ atPos ER (barCell c) 0 ∅ 0)
      ⊢ iprop(((ow c O ∗ atPos ER (barCell c) 1 ∅ 0 ∗ bigSepL ups fun k => barPay c k) -∗ WP c (k' ⟨⟩) Q)
        -∗ WP c (.op (.semWait barS 15) k') Q) := by
  iintro ⟨#Hc, ⟨%W, HO⟩, Hcr, Hat⟩ Hk
  ihave #Hb := (ctx_bar cx yx K c) $$ Hc
  icases Hb with ⟨#Hi, -⟩
  ihave #Hl := (ctx_lev cx yx K) $$ Hc
  ihave Hm := (mayWait c (.reg barS) hO) $$ Hl
  iapply (Rounds.wp_wait_rest_token 𝒱₀ ER (Rd cx yx) (c : Thread nD τ) none (κ := K (barCell c))
      (wpE_semWait_eq 𝒱₀ (c : Thread nD τ) none Set.univ) (Set.mem_univ _) () (O := O) (W := W) (R := 0) (m := 0) (T := ∅)
      ((Nat.zero_add _).trans (expect_bar cx yx c).symm)) $$ [HO Hcr Hat Hm]
  · isplitr; · iexact Hi
    isplitl [Hcr]; · iexact Hcr
    isplitl [HO]; · iexact HO
    isplitl [Hm] <;> iassumption
  rw [rest_bar]
  iintro ⟨HO, Hat, -, Hp⟩
  iapply Hk
  isplitl [HO]
  · iexists _; iexact HO
  isplitl [Hat] <;> iassumption

end Talk

end Cert.KernelIdeal

end
-- ==== Proof.Steps.lean ====
module

public import proofs.«01_k».proof.Proof.Rules
public import Idealize.ShloMosaic.Lib.VecWindow

/-! The steps of the body: what each needs and what it leaves, and the rule that runs one step for every
number of a list. -/

@[expose] public section

set_option maxRecDepth 65536

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

/-! ## One step after the other -/

/-- One program, then another. -/
theorem wp_seq {β γ : Type} (c : Dev nD) {p : Prog (TpuEff nD τ sig (Elt F) Λ₀ .tc) β} {k : β → Prog (TpuEff nD τ sig (Elt F) Λ₀ .tc) γ}
    {R : β → sProp 𝕄} {Q : γ → sProp 𝕄} : WP c p R ⊢ iprop((∀ a, R a -∗ WP c (k a) Q) -∗ WP c (p >>= k) Q) := by
  unfold WP
  iintro Hw Hk
  rw [wp_bind]
  iapply (wp_wand frame (wpE (defs₀ (F := F)) 𝒱₀ (c : Thread nD τ) none) Set.univ) $$ Hw
  iexact Hk

/-- Nothing more to run. -/
theorem wp_done (c : Dev nD) {Q : PUnit → sProp 𝕄} : Q ⟨⟩ ⊢ WP c (.ret ⟨⟩) Q := by
  unfold WP
  rw [wp_ret]
  iintro H
  imodintro
  iexact H

/-- A debt's first part moved to the end. -/
theorem debt_move (t a R : CellTallies nD τ sig Unit) : (t + a) + R = (a + R) + t := by rw [add_assoc, add_comm]

/-- The negative of a number that is not 0 is not 0. -/
theorem neg_ne {k : Fin 16} (h : k ≠ 0) : -k ≠ 0 := by revert h; revert k; decide

/-- A step run for every number of a list: each needs its own `A` and leaves its own `B`, and `J` holds
between the steps, of what is still to run and of a state that each step changes. -/
theorem wp_steps {β σ : Type} (c : Dev nD) (f : β → Prog (TpuEff nD τ sig (Elt F) Λ₀ .tc) PUnit) (P : sProp 𝕄) [Persistent P]
    (A B : β → sProp 𝕄) (J : List β → σ → sProp 𝕄) (g : σ → β → σ) (l : List β)
    (h : ∀ b bs, (b :: bs) <:+ l → ∀ s, iprop(P ∗ J (b :: bs) s ∗ A b) ⊢ WP c (f b) (fun _ => iprop(J bs (g s b) ∗ B b))) (s : σ) :
    iprop(P ∗ J l s ∗ bigSepL l A) ⊢ WP c (steps f l) (fun _ => iprop(J [] (l.foldl g s) ∗ bigSepL l B)) := by
  induction l generalizing s with
  | nil =>
    rw [List.foldl_nil]
    iintro ⟨-, HJ, HA⟩
    iapply (wp_done c)
    isplitl [HJ]; · iexact HJ
    iexact HA
  | cons b bs ih =>
    rw [bigSepL_cons', bigSepL_cons', List.foldl_cons]
    iintro ⟨#HP, HJ, HA, HAs⟩
    ihave Hw := (h b bs List.suffix_rfl s) $$ [HJ HA]
    · isplitr; · iexact HP
      isplitl [HJ] <;> iassumption
    iapply (wp_seq c) $$ Hw
    iintro %_ ⟨HJ, HB⟩
    ihave Hr := (ih (fun b' bs' hs => h b' bs' (hs.trans (List.suffix_cons b bs))) (g s b)) $$ [HJ HAs]
    · isplitr; · iexact HP
      isplitl [HJ] <;> iassumption
    iapply (wp_wand frame (wpE (defs₀ (F := F)) 𝒱₀ (c : Thread nD τ) none) Set.univ) $$ Hr
    iintro %_ ⟨HJ, HBs⟩
    isplitl [HJ]; · iexact HJ
    isplitl [HB] <;> iassumption

/-! ## The values -/

/-- What one device's kernel is given: the payload, the slots, the tokens, the shared weights, the experts' weights. -/
structure Given (F : FTy → Type) where
  val : Vec F S2048x520 .bf16
  flat : Vec F S1x2048 .i32
  x : Vec F S2048x512 .bf16
  sw : Vec F S512x1024 .bf16
  ew : Vec F S8x512x1024 .bf16

variable (G : Dev nD → Given F)

/-- The payload as the body uses it. -/
def valOf (d : Given F) : FVec F S2048x520 .bf16 := shapeCast S2048x520 d.val shapeCasts_S2048x520_S2048x520
/-- The slots as the body uses them. -/
def flatOf (d : Given F) : IVec S2048 32 := shapeCast S2048 d.flat shapeCasts_S1x2048_S2048
/-- Expert `e`'s weights. -/
def wOf (d : Given F) (e : Fin 8) : Vec F S1x512x1024 .bf16 := fun i => d.ew ((rW e).emb i)
/-- The device's expert layer of a chunk. -/
def layer (d : Given F) (chunk : Vec F S192x520 .bf16) : FVec F S1x192x1024 .bf16 :=
  expert chunk (wOf d 0) (wOf d 1) (wOf d 2) (wOf d 3) (wOf d 4) (wOf d 5) (wOf d 6) (wOf d 7)
/-- The same as a two-dimensional array. -/
def layer2 (d : Given F) (chunk : Vec F S192x520 .bf16) : FVec F S192x1024 .bf16 :=
  shapeCast S192x1024 (layer d chunk) shapeCasts_S1x192x1024_S192x1024
/-- The chunk device `p` sends in group `k`. -/
def chunkOf (p : Dev nD) (k : Fin 16) : Vec F S192x520 .bf16 := pack k.val (valOf (G p)) (flatOf (G p))
/-- What device `p` returns for group `j`: its expert layer of the chunk the peer sent it. -/
def returned (p : Dev nD) (j : Fin 16) : Vec F S192x1024 .bf16 := layer2 (G p) (chunkOf G (pr p j) (-j))

/-- The upper and the lower half of the result. -/
abbrev rO0 : Rect S2048x1024 := Rect.unit (s := S2048x1024) ![0, 0] S1024x1024.size inb_S2048x1024_S1024x1024_0_0
abbrev rO1 : Rect S2048x1024 := Rect.unit (s := S2048x1024) ![1024, 0] S1024x1024.size inb_S2048x1024_S1024x1024_1024_0

/-- The result with the chunk of group `k` added to its upper half. -/
def addUp (k : Nat) (flat : IVec S2048 32) (chunk : FVec F S192x1024 .bf16) (o : Vec F S2048x1024 .f32) : Vec F S2048x1024 .f32 :=
  rO0.overlay o (unsort k 0 slices_S2048_o0_S1024 flat chunk (fun i => o (rO0.emb i)))
/-- The result with the chunk of group `k` added to its lower half. -/
def addDown (k : Nat) (flat : IVec S2048 32) (chunk : FVec F S192x1024 .bf16) (o : Vec F S2048x1024 .f32) : Vec F S2048x1024 .f32 :=
  rO1.overlay o (unsort k 1024 slices_S2048_o1024_S1024 flat chunk (fun i => o (rO1.emb i)))
/-- The result with the chunk of group `k` added. -/
def addTo (k : Nat) (flat : IVec S2048 32) (chunk : FVec F S192x1024 .bf16) (o : Vec F S2048x1024 .f32) : Vec F S2048x1024 .f32 :=
  addDown k flat chunk (addUp k flat chunk o)
/-- The result after the device's own group. -/
def outOwn (c : Dev nD) : Vec F S2048x1024 .f32 :=
  addTo 0 (flatOf (G c)) (layer2 (G c) (chunkOf G c 0)) (sharedOut (G c).x (G c).sw)
/-- The result with what peer `j` returned added. -/
def addRet (c : Dev nD) (o : Vec F S2048x1024 .f32) (j : Fin 16) : Vec F S2048x1024 .f32 :=
  addTo j.val (flatOf (G c)) (returned G (pr c j) (-j)) o
/-- The result of device `c`. -/
def outEnd (c : Dev nD) : Vec F S2048x1024 .f32 := ups.foldl (addRet G c) (outOwn G c)

/-! ## The buffers -/

abbrev bVal : Memref sig .tc .vmem S2048x520 .bf16 := Memref.whole cc0_stg0_0
abbrev bFlat : Memref sig .tc .vmem S1x2048 .i32 := Memref.whole cc0_stg1_0
abbrev bX : Memref sig .tc .vmem S2048x512 .bf16 := Memref.whole cc0_stg2_0
abbrev bSw : Memref sig .tc .vmem S512x1024 .bf16 := Memref.whole cc0_stg3_0
abbrev bEw : Memref sig .tc .vmem S8x512x1024 .bf16 := Memref.whole cc0_stg4_0
abbrev bOut : Memref sig .tc .vmem S2048x1024 .f32 := Memref.whole cc0_stg5_0

/-- The slot of the two-slot buffer, owned at `w`, is the same slot as a two-dimensional array. -/
theorem zq_of_zb (c : Dev nD) (s : Fin 2) (w : Vec F S1x192x1024 .bf16) :
    (ownsTc c (zb s) fullShare w : sProp 𝕄) ⊢ ownsTc c (zq s) fullShare (shapeCast S192x1024 w shapeCasts_S1x192x1024_S192x1024) := by
  unfold ownsTc owns
  iintro ⟨%f, %hf, H⟩
  iexists f
  isplitr
  · ipureintro
    subst hf
    rfl
  rw [show (zq s).view.set = (zb s).view.set from View.set_reshape _ _]
  iexact H

/-- A slot owned as a two-dimensional array is owned as a slot. -/
theorem zb_of_zq (c : Dev nD) (s : Fin 2) :
    (iprop(∃ X, ownsTc c (zq s) fullShare X) : sProp 𝕄) ⊢ iprop(∃ X, ownsTc c (zb s) fullShare X) := by
  unfold ownsTc owns
  iintro ⟨%X, %f, %hf, H⟩
  iexists (zb s).view.read (Elt F) f
  iexists f
  isplitr
  · ipureintro; rfl
  rw [← show (zq s).view.set = (zb s).view.set from View.set_reshape _ _]
  iexact H

/-! ## The steps -/

section Step

variable (cx : Dev nD → Fin 16 → Vec F S192x520 .bf16) (yx : Dev nD → Fin 16 → Vec F S192x1024 .bf16) (K : GSem nD τ sig → ℕ)
  (c : Dev nD)

/-- What signalling peer `k` takes. -/
def sigA (k : Fin 16) : sProp 𝕄 :=
  iprop(dutyTok ER (barCell (pr c k)) 0 k ∗ (∃ X, ownsTc c (rc k) fullShare X) ∗ (∃ X, ownsTc c (yr k) fullShare X)
    ∗ reached ER (dcell c 1 k) 0 ∗ reached ER (dcell c 3 k) 0)

/-- Signalling peer `k` pays one unit and hands over the two blocks the peer will fill. -/
theorem sigStep_run (R : CellTallies nD τ sig Unit) (k : Fin 16) (ks : List (Fin 16)) (hk : k ≠ 0) :
    iprop(ctx cx yx K ∗ ow c (owB c (k :: ks) + R) ∗ sigA (F := F) c k) ⊢ WP c (sigStep c k) (fun _ => iprop(ow c (owB c ks + R) ∗ emp)) := by
  unfold sigStep sigA
  simp only [semSignalWord, Prog.lift]
  iintro ⟨#Hc, HO, Ht, Hx, Hy, Hr, Hs⟩
  iapply (wp_tell cx yx K c hk (sigPeer c k) (sigPeer_eq c k) (owB c ks + R) (owB c (k :: ks) + R)
    (debt_move _ _ _)) $$ [HO Ht Hx Hy Hr Hs]
  · isplitr; · iexact Hc
    isplitl [HO]; · iexact HO
    isplitl [Ht]; · iexact Ht
    isplitl [Hx]; · iexact Hx
    isplitl [Hy]; · iexact Hy
    isplitl [Hr] <;> iassumption
  iintro HO
  iapply (wp_done c)
  isplitl [HO]; · iexact HO
  iempintro

/-- What sending group `k` takes: the peer's block, the block it is sent from, and the two duties. -/
def sendA (k : Fin 16) : sProp 𝕄 :=
  iprop((∃ X, ownsTc (pr c k) (rc (-k)) fullShare X) ∗ reached ER (dcell (pr c k) 1 (-k)) 0
    ∗ (∃ X, ownsTc c (xs k) fullShare X) ∗ dutyTok ER (dcell c 0 k) 0 0 ∗ reached ER (dcell c 0 k) 0
    ∗ dutyTok ER (dcell (pr c k) 1 (-k)) 0 0)

/-- Sending group `k` packs the chunk, pays its credit and leaves the credit of its departure. -/
theorem sendStep_run (val : FVec F S2048x520 .bf16) (flat : IVec S2048 32) (R : CellTallies nD τ sig Unit) (k : Fin 16)
    (ks : List (Fin 16)) (hk : k ≠ 0) (hX : cx c k = pack k.val val flat) :
    iprop(ctx cx yx K ∗ ow c (owX c (k :: ks) + R) ∗ sendA (F := F) c k)
      ⊢ WP c (sendStep (Memref.whole cc0_scratch0) (Memref.isWhole_whole _) (Memref.whole cc0_scratch1) (Memref.isWhole_whole _)
          cc0_scratch4 cc0_scratch5 c val flat (k, -k))
        (fun _ => iprop(ow c (owX c ks + R) ∗ cred (tallyAt (dcell c 0 k) () N1))) := by
  have hk' := neg_ne hk
  unfold sendStep sendA
  simp only [Prog.lift, Prog.bind_op, Prog.bind_ret, Prog.pure_eq_ret]
  iintro ⟨#Hc, HO, Hd, Hr', ⟨%X, Hs⟩, Ht, Hr, Ht'⟩
  iapply (wp_load_own c (Memref.whole cc0_scratch0) (rX k) (fun _ => rfl) X) $$ Hs
  iintro Hs
  iapply (wp_store_own c (Memref.whole cc0_scratch0) (rX k) (fun _ => rfl) X) $$ Hs
  iintro Hs
  iapply (wp_copy_own cx yx K c (a := 0) (a' := 1) hk hk' (sendPeer c k) (pr c k) (sendPeer_eq c k) (src := xs k) (dst := rc (-k))
    (sem4 k) (sem5 (-k)) (credit_rc _) rfl (pack k.val val flat)
    (by unfold dPay; iintro H; iexists _; iexact H)
    (by unfold dPay; simp only [pr_neg, neg_neg16, hX]; exact .rfl)
    (owX c ks + R) (owX c (k :: ks) + R)
    (debt_move _ _ _))
    $$ [HO Hd Hr' Hs Ht Hr Ht']
  · isplitr; · iexact Hc
    isplitl [HO]; · iexact HO
    isplitl [Hs]; · iexact Hs
    isplitl [Hd]; · iexact Hd
    isplitl [Ht]; · iexact Ht
    isplitl [Hr]; · iexact Hr
    isplitl [Ht'] <;> iassumption
  iintro ⟨Hcr, HO⟩
  iapply (wp_done c)
  isplitl [HO]; · iexact HO
  iexact Hcr

/-- The expert layer of a chunk, stored into slot `s`. -/
theorem expertStep_run (d : Given F) (s : Fin 2) (chunk : Vec F S192x520 .bf16) :
    iprop(ownsTc c bEw fullShare d.ew ∗ (∃ X, ownsTc c (zb s) fullShare X))
      ⊢ WP c (expertStep bEw (Memref.whole cc0_scratch3) (Memref.isWhole_whole _) s chunk)
          (fun _ => iprop(ownsTc c bEw fullShare d.ew ∗ ownsTc c (zb s) fullShare (layer d chunk))) := by
  unfold expertStep loadW
  simp only [Prog.lift, Prog.bind_op, Prog.bind_ret, Prog.pure_eq_ret]
  iintro ⟨Hw, ⟨%X, Hz⟩⟩
  iapply (wp_load_in c bEw (rW 0) d.ew) $$ Hw; iintro Hw
  iapply (wp_load_in c bEw (rW 1) d.ew) $$ Hw; iintro Hw
  iapply (wp_load_in c bEw (rW 2) d.ew) $$ Hw; iintro Hw
  iapply (wp_load_in c bEw (rW 3) d.ew) $$ Hw; iintro Hw
  iapply (wp_load_in c bEw (rW 4) d.ew) $$ Hw; iintro Hw
  iapply (wp_load_in c bEw (rW 5) d.ew) $$ Hw; iintro Hw
  iapply (wp_load_in c bEw (rW 6) d.ew) $$ Hw; iintro Hw
  iapply (wp_load_in c bEw (rW 7) d.ew) $$ Hw; iintro Hw
  iapply (wp_load_own c (Memref.whole cc0_scratch3) (rZ s) (fun _ => rfl) X) $$ Hz; iintro Hz
  iapply (wp_store_own c (Memref.whole cc0_scratch3) (rZ s) (fun _ => rfl) X) $$ Hz; iintro Hz
  iapply (wp_done c)
  isplitl [Hw]; · iexact Hw
  iexact Hz

/-- One group's chunk added to the result. -/
theorem addStep_run (k : Nat) (flat : IVec S2048 32) (chunk : FVec F S192x1024 .bf16) (o : Vec F S2048x1024 .f32) :
    (ownsTc c bOut fullShare o : sProp 𝕄) ⊢ WP c (addStep bOut k flat chunk) (fun _ => ownsTc c bOut fullShare (addTo k flat chunk o)) := by
  unfold addStep
  simp only [Prog.lift, Prog.bind_op, Prog.bind_ret, Prog.pure_eq_ret]
  iintro Ho
  iapply (wp_load_in c bOut rO0 o) $$ Ho; iintro Ho
  iapply (wp_load_in c bOut rO0 o) $$ Ho; iintro Ho
  iapply (wp_store_in c bOut rO0 o) $$ Ho; iintro Ho
  iapply (wp_load_in c bOut rO1 (addUp k flat chunk o)) $$ [Ho]; · iexact Ho
  iintro Ho
  iapply (wp_load_in c bOut rO1 (addUp k flat chunk o)) $$ Ho; iintro Ho
  iapply (wp_store_in c bOut rO1 (addUp k flat chunk o)) $$ Ho; iintro Ho
  iapply (wp_done c)
  iexact Ho

/-- A store into the whole of an array replaces it. -/
theorem overlay_full {s : Shape} {α : Type} {off : Fin s.rank → ℕ} (inb : ∀ a, off a + s.size a ≤ s.size a) (X w : s.Idx → α) :
    (Rect.unit off s.size inb).overlay X w = w := by
  funext i
  have h := Rect.overlay_emb (Rect.unit off s.size inb) X w i
  rwa [Rect.emb_unit_full] at h

/-- A load of the whole of an array owned at `X` reads `X`. -/
theorem wp_load_all {α : Type} {s : Shape} {e : EltTy} (m : Memref sig .tc .vmem s e) {off : Fin s.rank → ℕ}
    {inb : ∀ a, off a + s.size a ≤ s.size a} {hl : m.view.LoadsAt (Rect.unit off s.size inb).toLoadRect} {q : PosShare TreeShare}
    (X : s.Idx → Elt F e) {k : (s.Idx → Elt F e) → Prog (TpuEff nD τ sig (Elt F) Λ₀ .tc) α} {Q : α → sProp 𝕄} :
    ownsTc c m q X ⊢ iprop((ownsTc c m q X -∗ WP c (k X) Q) -∗ WP c (.op (.load m (Rect.unit off s.size inb).toLoadRect hl) k) Q) := by
  have h := wp_load_in c m (Rect.unit off s.size inb) (hl := hl) (q := q) X (k := k) (Q := Q)
  rwa [show (fun i => X ((Rect.unit off s.size inb).emb i)) = X from funext fun i => congrArg X (Rect.emb_unit_full inb i)] at h

/-- A store into the whole of an array leaves it owned at what is stored. -/
theorem wp_store_all {α : Type} {s : Shape} {e : EltTy} (m : Memref sig .tc .vmem s e) {off : Fin s.rank → ℕ}
    {inb : ∀ a, off a + s.size a ≤ s.size a} {w : s.Idx → Elt F e} {hx : (m.access (Rect.unit off s.size inb)).Stores Finset.univ}
    {hm : (Finset.univ : Finset (Rect.unit off s.size inb).shape.Idx) = Finset.univ ∨ ∀ a, (Rect.unit off s.size inb).stride a = 1}
    (X : s.Idx → Elt F e) {k : PUnit → Prog (TpuEff nD τ sig (Elt F) Λ₀ .tc) α} {Q : α → sProp 𝕄} :
    ownsTc c m fullShare X
      ⊢ iprop((ownsTc c m fullShare w -∗ WP c (k ⟨⟩) Q) -∗ WP c (.op (.store m (Rect.unit off s.size inb) w Finset.univ hx hm) k) Q) := by
  have h := wp_store_in c m (Rect.unit off s.size inb) (w := w) (hx := hx) (hm := hm) X (k := k) (Q := Q)
  rwa [overlay_full] at h

/-- The shared layer and the device's own group. -/
theorem ownStep_run :
    iprop(ownsTc c bX fullShare (G c).x ∗ ownsTc c bSw fullShare (G c).sw ∗ ownsTc c bEw fullShare (G c).ew
        ∗ (∃ o, ownsTc c bOut fullShare o) ∗ (∃ X, ownsTc c (xs 0) fullShare X) ∗ (∃ X, ownsTc c (zb 0) fullShare X))
      ⊢ WP c (ownStep bX bSw bEw bOut (Memref.whole cc0_scratch0) (Memref.isWhole_whole _) (Memref.whole cc0_scratch3) (Memref.isWhole_whole _)
            (valOf (G c)) (flatOf (G c)))
          (fun _ => iprop(ownsTc c bX fullShare (G c).x ∗ ownsTc c bSw fullShare (G c).sw ∗ ownsTc c bEw fullShare (G c).ew
            ∗ ownsTc c bOut fullShare (outOwn G c) ∗ (∃ X, ownsTc c (xs 0) fullShare X) ∗ (∃ X, ownsTc c (zb 0) fullShare X))) := by
  unfold ownStep
  simp only [Prog.lift, Prog.bind_op, Prog.bind_ret, Prog.pure_eq_ret]
  iintro ⟨Hx, Hs, Hw, ⟨%o, Ho⟩, ⟨%X, Hb⟩, Hz⟩
  iapply (wp_load_all c bX (G c).x) $$ Hx; iintro Hx
  iapply (wp_load_all c bSw (G c).sw) $$ Hs; iintro Hs
  iapply (wp_load_all c bOut o) $$ Ho; iintro Ho
  iapply (wp_store_all c bOut o) $$ Ho; iintro Ho
  iapply (wp_load_own c (Memref.whole cc0_scratch0) (rX 0) (fun _ => rfl) X) $$ Hb; iintro Hb
  iapply (wp_store_own c (Memref.whole cc0_scratch0) (rX 0) (fun _ => rfl) X) $$ Hb; iintro Hb
  iapply (wp_load_own c (Memref.whole cc0_scratch0) (rX 0) (fun _ => rfl) _) $$ Hb; iintro Hb
  ihave Hw' := (expertStep_run c (G c) 0 (chunkOf G c 0)) $$ [Hw Hz]
  · isplitl [Hw] <;> iassumption
  iapply (wp_seq c) $$ Hw'
  iintro %_ ⟨Hw, Hz⟩
  iapply (wp_load_own c (Memref.whole cc0_scratch3) (rZ 0) (fun _ => rfl) _) $$ Hz; iintro Hz
  ihave Ha := (addStep_run c 0 (flatOf (G c)) (layer2 (G c) (chunkOf G c 0)) (sharedOut (G c).x (G c).sw)) $$ Ho
  iapply (wp_wand frame (wpE (defs₀ (F := F)) 𝒱₀ (c : Thread nD τ) none) Set.univ) $$ Ha
  iintro %_ Ho
  isplitl [Hx]; · iexact Hx
  isplitl [Hs]; · iexact Hs
  isplitl [Hw]; · iexact Hw
  isplitl [Ho]; · iexact Ho
  isplitl [Hb]; · iexists _; iexact Hb
  iexists _; iexact Hz

/-- What the return of group `j` takes besides the slot: the peer's block and the two duties. -/
def retA (j : Fin 16) : sProp 𝕄 :=
  iprop((∃ X, ownsTc (pr c j) (yr (-j)) fullShare X) ∗ reached ER (dcell (pr c j) 3 (-j)) 0
    ∗ dutyTok ER (dcell c 2 j) 0 0 ∗ reached ER (dcell c 2 j) 0 ∗ dutyTok ER (dcell (pr c j) 3 (-j)) 0 0)

/-- What waiting for the chunk of group `j` takes. -/
def recvA (j : Fin 16) : sProp 𝕄 := iprop(cred (tallyAt (dcell c 1 j) () N1) ∗ atPos ER (dcell c 1 j) 0 ∅ 0)
/-- And what it leaves in the end. -/
def recvB (j : Fin 16) : sProp 𝕄 := iprop(atPos ER (dcell c 1 j) 1 ∅ 0 ∗ ∃ X, ownsTc c (rc j) fullShare X)

/-- Waiting for the chunk of group `j` gives the block it fills, holding the chunk the peer sent. -/
theorem recvStep_run (R : CellTallies nD τ sig Unit) (hR : Above 2 R) (j : Fin 16) (hj : j ≠ 0) :
    iprop(ctx cx yx K ∗ ow c R ∗ recvA (F := F) c j)
      ⊢ WP c (recvStep (Memref.whole cc0_scratch0) (Memref.isWhole_whole _) (Memref.whole cc0_scratch1) (Memref.isWhole_whole _) cc0_scratch5 j)
        (fun _ => iprop(ow c R ∗ atPos ER (dcell c 1 j) 1 ∅ 0 ∗ ownsTc c (rc j) fullShare (cx (pr c j) (-j)))) := by
  unfold recvStep recvA
  simp only [Prog.lift]
  iintro ⟨#Hc, HO, Hcr, Hat⟩
  iapply (wp_got cx yx K c (a := 1) hj (src := xs 0) (dst := rc j) (sem5 j) (credit_rc j) R (by rw [lev_d1]; exact hR)) $$ [HO Hcr Hat]
  · isplitr; · iexact Hc
    isplitl [HO]; · iexact HO
    isplitl [Hcr]; · iexact Hcr
    iexact Hat
  iintro ⟨HO, Hat, Hp⟩
  iapply (wp_done c)
  isplitl [HO]; · iexact HO
  isplitl [Hat]; · iexact Hat
  iapply (show dPay cx yx c 1 j ⊢ ownsTc c (rc j) fullShare (cx (pr c j) (-j)) from .rfl)
  iexact Hp

/-- The wait until the return of group `i` has left its slot: the slot is free again. -/
theorem leftStep_run (R : CellTallies nD τ sig Unit) (hR : Above 0 R) (i i' : Fin 16) (s : Fin 2) (hi : i ≠ 0) (hs : s = slotOf i) :
    iprop(ctx cx yx K ∗ ow c R ∗ cred (tallyAt (dcell c 2 i) () N2) ∗ atPos ER (dcell c 2 i) 0 ∅ 0)
      ⊢ WP c (leftStep (Memref.whole cc0_scratch2) (Memref.isWhole_whole _) (Memref.whole cc0_scratch3) (Memref.isWhole_whole _) cc0_scratch6 (i, i', s))
        (fun _ => iprop(ow c R ∗ atPos ER (dcell c 2 i) 1 ∅ 0 ∗ ∃ X, ownsTc c (zb s) fullShare X)) := by
  subst hs
  unfold leftStep
  simp only [Prog.lift]
  have hl : lev (.dma (dsem 2 i)) = 0 := by revert i; decide
  iintro ⟨#Hc, HO, Hcr, Hat⟩
  iapply (wp_got cx yx K c (a := 2) hi (src := yr i') (dst := zq (slotOf i)) (sem6 i) (credit_zq _) R (by rw [hl]; exact hR)) $$ [HO Hcr Hat]
  · isplitr; · iexact Hc
    isplitl [HO]; · iexact HO
    isplitl [Hcr]; · iexact Hcr
    iexact Hat
  iintro ⟨HO, Hat, Hp⟩
  iapply (wp_done c)
  isplitl [HO]; · iexact HO
  isplitl [Hat]; · iexact Hat
  iapply (zb_of_zq c (slotOf i))
  iapply (show dPay cx yx c 2 i ⊢ iprop(∃ X, ownsTc c (zq (slotOf i)) fullShare X) from .rfl)
  iexact Hp

/-- The chunk of group `j` through the experts and back to its sender. -/
theorem retStep_run (R : CellTallies nD τ sig Unit) (j : Fin 16) (js : List (Fin 16)) (s : Fin 2) (hj : j ≠ 0) (hs : s = slotOf j)
    (chunk : Vec F S192x520 .bf16) (hY : yx c j = layer2 (G c) chunk) :
    iprop(ctx cx yx K ∗ ow c (owY c (j :: js) + R) ∗ ownsTc c (rc j) fullShare chunk ∗ ownsTc c bEw fullShare (G c).ew
        ∗ (∃ X, ownsTc c (zb s) fullShare X) ∗ retA (F := F) c j)
      ⊢ WP c (retStep bEw (Memref.whole cc0_scratch1) (Memref.whole cc0_scratch2) (Memref.isWhole_whole _) (Memref.whole cc0_scratch3)
          (Memref.isWhole_whole _) cc0_scratch6 cc0_scratch7 c j (-j) s)
        (fun _ => iprop(ow c (owY c js + R) ∗ ownsTc c (rc j) fullShare chunk ∗ ownsTc c bEw fullShare (G c).ew
          ∗ cred (tallyAt (dcell c 2 j) () N2))) := by
  subst hs
  have hj' := neg_ne hj
  unfold retStep retA
  simp only [Prog.lift, Prog.bind_op, Prog.bind_ret, Prog.pure_eq_ret]
  iintro ⟨#Hc, HO, Hx, Hw, Hz, Hd, Hr', Ht, Hr, Ht'⟩
  iapply (wp_load_own c (Memref.whole cc0_scratch1) (rX j) (fun _ => rfl) chunk) $$ Hx; iintro Hx
  ihave Hw' := (expertStep_run c (G c) (slotOf j) chunk) $$ [Hw Hz]
  · isplitl [Hw] <;> iassumption
  iapply (wp_seq c) $$ Hw'
  iintro %_ ⟨Hw, Hz⟩
  ihave Hz := (zq_of_zb c (slotOf j) _) $$ Hz
  iapply (wp_copy_own cx yx K c (a := 2) (a' := 3) hj hj' (retPeer c j) (pr c j) (retPeer_eq c j) (src := zq (slotOf j)) (dst := yr (-j))
    (sem6 j) (sem7 (-j)) (credit_yr _) rfl (layer2 (G c) chunk)
    (by unfold dPay; iintro H; iexists _; iexact H)
    (by unfold dPay; simp only [pr_neg, neg_neg16, hY]; exact .rfl)
    (owY c js + R) (owY c (j :: js) + R)
    (debt_move _ _ _))
    $$ [HO Hd Hr' Hz Ht Hr Ht']
  · isplitr; · iexact Hc
    isplitl [HO]; · iexact HO
    isplitl [Hz]; · iexact Hz
    isplitl [Hd]; · iexact Hd
    isplitl [Ht]; · iexact Ht
    isplitl [Hr]; · iexact Hr
    isplitl [Ht'] <;> iassumption
  iintro ⟨Hcr, HO⟩
  iapply (wp_done c)
  isplitl [HO]; · iexact HO
  isplitl [Hx]; · iexact Hx
  isplitl [Hw]; · iexact Hw
  iexact Hcr

/-- What waiting for the return of group `j` takes. -/
def takeA (j : Fin 16) : sProp 𝕄 := iprop(cred (tallyAt (dcell c 3 j) () N2) ∗ atPos ER (dcell c 3 j) 0 ∅ 0)
/-- And what it leaves. -/
def takeB (j : Fin 16) : sProp 𝕄 := iprop(atPos ER (dcell c 3 j) 1 ∅ 0 ∗ ∃ X, ownsTc c (yr j) fullShare X)

/-- Taking the return of group `j` adds it to the output block and gives back the block it arrived in. -/
theorem takeStep_run (flat : IVec S2048 32) (j : Fin 16) (hj : j ≠ 0) (o : Vec F S2048x1024 .f32) :
    iprop(ctx cx yx K ∗ (ow c 0 ∗ ownsTc c bOut fullShare o) ∗ takeA (F := F) c j)
      ⊢ WP c (takeStep bOut (Memref.whole cc0_scratch2) (Memref.isWhole_whole _) (Memref.whole cc0_scratch3) (Memref.isWhole_whole _) cc0_scratch7 flat j)
        (fun _ => iprop((ow c 0 ∗ ownsTc c bOut fullShare (addTo j.val flat (yx (pr c j) (-j)) o)) ∗ takeB (F := F) c j)) := by
  unfold takeStep takeA takeB
  simp only [Prog.lift, Prog.bind_op, Prog.bind_ret, Prog.pure_eq_ret]
  iintro ⟨#Hc, ⟨HO, Ho⟩, Hcr, Hat⟩
  iapply (wp_got cx yx K c (a := 3) hj (src := zq 0) (dst := yr j) (sem7 j) (credit_yr j) 0 (Above.zero _)) $$ [HO Hcr Hat]
  · isplitr; · iexact Hc
    isplitl [HO]; · iexact HO
    isplitl [Hcr]; · iexact Hcr
    iexact Hat
  iintro ⟨HO, Hat, Hp⟩
  ihave Hp := (show dPay cx yx c 3 j ⊢ ownsTc c (yr j) fullShare (yx (pr c j) (-j)) from .rfl) $$ Hp
  iapply (wp_load_own c (Memref.whole cc0_scratch2) (rY j) (fun _ => rfl) _) $$ Hp; iintro Hp
  ihave Ha := (addStep_run c j.val flat (yx (pr c j) (-j)) o) $$ Ho
  iapply (wp_wand frame (wpE (defs₀ (F := F)) 𝒱₀ (c : Thread nD τ) none) Set.univ) $$ Ha
  iintro %_ Ho
  isplitl [HO Ho]
  · isplitl [HO] <;> iassumption
  isplitl [Hat]; · iexact Hat
  iexists _; iexact Hp

/-- What waiting until the dispatch of group `k` has left takes. -/
def goneA (k : Fin 16) : sProp 𝕄 := iprop(cred (tallyAt (dcell c 0 k) () N1) ∗ atPos ER (dcell c 0 k) 0 ∅ 0)
/-- And what it leaves. -/
def goneB (k : Fin 16) : sProp 𝕄 := iprop(atPos ER (dcell c 0 k) 1 ∅ 0 ∗ ∃ X, ownsTc c (xs k) fullShare X)

/-- Waiting until the dispatch of group `k` has left gives its block back. -/
theorem goneStep_run (k k₂ : Fin 16) (hk : k ≠ 0) :
    iprop(ctx cx yx K ∗ ow c 0 ∗ goneA (F := F) c k)
      ⊢ WP c (goneStep (Memref.whole cc0_scratch0) (Memref.isWhole_whole _) (Memref.whole cc0_scratch1) (Memref.isWhole_whole _) cc0_scratch4 (k, k₂))
        (fun _ => iprop(ow c 0 ∗ goneB (F := F) c k)) := by
  unfold goneStep goneA goneB
  simp only [Prog.lift]
  iintro ⟨#Hc, HO, Hcr, Hat⟩
  iapply (wp_got cx yx K c (a := 0) hk (src := rc k₂) (dst := xs k) (sem4 k) (credit_xs k) 0 (Above.zero _)) $$ [HO Hcr Hat]
  · isplitr; · iexact Hc
    isplitl [HO]; · iexact HO
    isplitl [Hcr]; · iexact Hcr
    iexact Hat
  iintro ⟨HO, Hat, Hp⟩
  iapply (wp_done c)
  isplitl [HO]; · iexact HO
  isplitl [Hat]; · iexact Hat
  iapply (show dPay cx yx c 0 k ⊢ iprop(∃ X, ownsTc c (xs k) fullShare X) from .rfl)
  iexact Hp

end Step

end Cert.KernelIdeal

end
-- ==== Proof.BodyEq.lean ====
module

public import proofs.«01_k».proof.Proof.Body

/-! The kernel's printed body is the composition of the steps. -/

@[expose] public section

set_option maxRecDepth 65536

noncomputable section

namespace Cert.KernelIdeal

open Idealize.ShloMosaic Idealize.ShloMosaic.TcCoe
open Idealize.SL Idealize.SL.Sem
open Facts₀ Facts

variable {F : FTy → Type} [FloatOps F]

/-- Two programs that make the same request and go on alike are the same. -/
theorem op_congr {E : Type → Type _} {α β : Type} {e : E β} {k k' : β → Prog E α} (h : ∀ x, k x = k' x) :
    Prog.op e k = Prog.op e k' := congrArg (Prog.op e) (funext h)

set_option maxHeartbeats 0 in
/-- The printed body and the composition of the steps are the same program. -/
theorem body_eq (arg0 : Memref sig .tc .vmem S2048x520 .bf16) (harg0 : arg0.IsWhole) (arg1 : Memref sig .tc .vmem S1x2048 .i32) (harg1 : arg1.IsWhole) (arg2 : Memref sig .tc .vmem S2048x512 .bf16) (harg2 : arg2.IsWhole) (arg3 : Memref sig .tc .vmem S512x1024 .bf16) (harg3 : arg3.IsWhole) (arg4 : Memref sig .tc .vmem S8x512x1024 .bf16) (harg4 : arg4.IsWhole) (arg5 : Memref sig .tc .vmem S2048x1024 .f32) (harg5 : arg5.IsWhole) (arg6 : Memref sig .tc .vmem S3072x520 .bf16) (harg6 : arg6.IsWhole) (arg7 : Memref sig .tc .vmem S3072x520 .bf16) (harg7 : arg7.IsWhole) (arg8 : Memref sig .tc .vmem S3072x1024 .bf16) (harg8 : arg8.IsWhole) (arg9 : Memref sig .tc .vmem S2x192x1024 .bf16) (harg9 : arg9.IsWhole) (arg10 : DmaSems sig S16) (arg11 : DmaSems sig S16) (arg12 : DmaSems sig S16) (arg13 : DmaSems sig S16) :
    cc0__body (F := F) arg0 harg0 arg1 harg1 arg2 harg2 arg3 harg3 arg4 harg4 arg5 harg5 arg6 harg6 arg7 harg7 arg8 harg8 arg9 harg9 arg10 arg11 arg12 arg13
      = body arg0 arg1 arg2 arg3 arg4 arg5 arg6 harg6 arg7 harg7 arg8 harg8 arg9 harg9 arg10 arg11 arg12 arg13 := by
  repeat refine (op_congr fun x => ?_ : Prog.op _ _ = Prog.op _ _)
  rfl

end Cert.KernelIdeal

end
-- ==== Proof.Run.lean ====
module

public import proofs.«01_k».proof.Proof.Steps
public import proofs.«01_k».proof.Proof.BodyEq

/-! The whole body on one device: from what the device holds when the kernel starts to its result, every
block back and every semaphore's round over. -/

@[expose] public section

set_option maxRecDepth 65536

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

/-! ## Lists -/

/-- A product over a list without repetition does not depend on the list's order. -/
theorem list_perm {l l' : List (Fin 16)} (h : l.Perm l') (hn : l.Nodup) (Φ : Fin 16 → sProp 𝕄) : bigSepL l Φ = bigSepL l' Φ :=
  (bigSep_eq_bigSepL_of_eq l rfl hn Φ).symm.trans (bigSep_eq_bigSepL_of_eq l' (List.toFinset_eq_of_perm _ _ h) (h.nodup_iff.mp hn) Φ)

/-- A product of pairs over a list is the pair of the products. -/
theorem list_sep {I : Type} (l : List I) (Φ Ψ : I → sProp 𝕄) :
    (bigSepL l fun i => iprop(Φ i ∗ Ψ i)) = iprop(bigSepL l Φ ∗ bigSepL l Ψ) := by
  induction l with
  | nil => exact (equiv_iff.mp emp_sep).symm
  | cons i l ih =>
    rw [bigSepL_cons', bigSepL_cons', bigSepL_cons', ih]
    refine equiv_iff.mp ⟨?_, ?_⟩
    · show iprop((Φ i ∗ Ψ i) ∗ bigSepL l Φ ∗ bigSepL l Ψ) ⊢ iprop((Φ i ∗ bigSepL l Φ) ∗ Ψ i ∗ bigSepL l Ψ)
      iintro ⟨⟨H1, H2⟩, H3, H4⟩
      isplitl [H1 H3]; · isplitl [H1] <;> iassumption
      isplitl [H2] <;> iassumption
    · show iprop((Φ i ∗ bigSepL l Φ) ∗ Ψ i ∗ bigSepL l Ψ) ⊢ iprop((Φ i ∗ Ψ i) ∗ bigSepL l Φ ∗ bigSepL l Ψ)
      iintro ⟨⟨H1, H3⟩, H2, H4⟩
      isplitl [H1 H2]; · isplitl [H1] <;> iassumption
      isplitl [H3] <;> iassumption

/-- The fifteen numbers in the order of the returns. -/
abbrev latersJ : List (Fin 16) := [13, 12, 11, 10, 9, 8, 7, 6, 5, 4, 3, 2, 1]

/-- Taking negatives only reorders the numbers 1 to 15. -/
theorem neg_ups (Φ : Fin 16 → sProp 𝕄) : bigSepL ups Φ = bigSepL ups fun k => Φ (-k) := by
  rw [← bigSepL_map (fun k : Fin 16 => -k) ups Φ]
  exact list_perm (by decide) (by decide) Φ

/-- The numbers 1 to 15 are the first members of the pairs of blocks. -/
theorem ups_pairs (Φ : Fin 16 → sProp 𝕄) : bigSepL ups Φ = bigSepL pairs fun kk => Φ kk.1 := by
  rw [← bigSepL_map Prod.fst pairs Φ]; rfl

/-- The numbers 1 to 15 are the first returns and the later ones. -/
theorem ups_rets (Φ : Fin 16 → sProp 𝕄) :
    bigSepL ups Φ = iprop((bigSepL firsts fun a => Φ a.1) ∗ bigSepL laters fun a => Φ a.1.1) := by
  rw [← bigSepL_map (fun a : Fin 16 × Fin 16 × Fin 2 => a.1) firsts Φ,
    ← bigSepL_map (fun a : (Fin 16 × Fin 16) × (Fin 16 × Fin 16 × Fin 2) => a.1.1) laters Φ, ← bigSepL_append]
  exact list_perm (by decide) (by decide) Φ

/-- The numbers 1 to 15 are the returns the later steps wait for and the last ones. -/
theorem ups_left (Φ : Fin 16 → sProp 𝕄) :
    bigSepL ups Φ = iprop((bigSepL laters fun a => Φ a.2.1) ∗ bigSepL lasts fun a => Φ a.1) := by
  rw [← bigSepL_map (fun a : Fin 16 × Fin 16 × Fin 2 => a.1) lasts Φ,
    ← bigSepL_map (fun a : (Fin 16 × Fin 16) × (Fin 16 × Fin 16 × Fin 2) => a.2.1) laters Φ, ← bigSepL_append]
  exact list_perm (by decide) (by decide) Φ

/-- The first returns are two. -/
theorem firsts_two (Φ : Fin 16 × Fin 16 × Fin 2 → sProp 𝕄) : bigSepL firsts Φ = iprop(Φ (15, 1, 0) ∗ Φ (14, 2, 1)) := rfl
/-- The last returns are two. -/
theorem lasts_two (Φ : Fin 16 × Fin 16 × Fin 2 → sProp 𝕄) : bigSepL lasts Φ = iprop(Φ (2, 14, 1) ∗ Φ (1, 15, 0)) := rfl

/-! ## Facts of the lists -/

/-- The head of a list's end is in the list. -/
theorem mem_of_suffix {β : Type} {b : β} {bs l : List β} (h : (b :: bs) <:+ l) : b ∈ l := h.subset List.mem_cons_self

/-- None of the numbers 1 to 15 is 0. -/
theorem ups_ne {k : Fin 16} (h : k ∈ ups) : k ≠ 0 := by revert h; revert k; decide

/-- In each pair of blocks the first is not 0 and the second is its negative. -/
theorem pairs_ok : ∀ b ∈ pairs, b.1 ≠ 0 ∧ b = (b.1, -b.1) := by decide
/-- Each first return names its group, not 0, its block at the peer and its slot. -/
theorem firsts_ok : ∀ b ∈ firsts, b.1 ≠ 0 ∧ b.2.1 = -b.1 ∧ b.2.2 = slotOf b.1 := by decide
/-- Each later return names its group, its block at the peer, and an earlier return that used the same slot. -/
theorem laters_ok : ∀ b ∈ laters, b.1.1 ≠ 0 ∧ b.1.2 = -b.1.1 ∧ b.2.1 ≠ 0 ∧ b.2.2.2 = slotOf b.2.1 ∧ b.2.2.2 = slotOf b.1.1 := by
  simp only [List.forall_mem_cons]
  refine ⟨?_, ?_, ?_, ?_, ?_, ?_, ?_, ?_, ?_, ?_, ?_, ?_, ?_, fun b hb => nomatch hb⟩ <;> refine ⟨?_, ?_, ?_, ?_, ?_⟩ <;> decide
/-- Each last return names its group, not 0, and its slot. -/
theorem lasts_ok : ∀ b ∈ lasts, b.1 ≠ 0 ∧ b.2.2 = slotOf b.1 := by decide

/-- The return that the next of the later steps waits for. -/
def nextLeft : List ((Fin 16 × Fin 16) × (Fin 16 × Fin 16 × Fin 2)) → Fin 16
  | [] => 2
  | b :: _ => b.2.1

/-- After each later step the returns under way are the one after the one it waited for and the one it sent. -/
theorem laters_next : ∀ t ∈ laters.tails, ∀ b ∈ t.head?, nextLeft t.tail = b.2.1 - 1 ∧ nextLeft t.tail - 1 = b.1.1 := by
  intro t ht b hb
  simp only [laters, List.tails_cons, List.tails, List.mem_cons, List.not_mem_nil, or_false] at ht
  rcases ht with rfl | rfl | rfl | rfl | rfl | rfl | rfl | rfl | rfl | rfl | rfl | rfl | rfl | rfl <;>
  first
  | (obtain rfl := Option.some.inj hb; exact ⟨by decide, by decide⟩)
  | exact nomatch hb

/-- The returns owed stand above level 2. -/
theorem above_downs (c : Dev nD) (l : List (Fin 16)) : Above 2 (owY c l) := above_owY (by decide) c l

/-- A debt above a level is above every lower level. -/
theorem Above.mono {b b' : ℕ} {O : CellTallies nD τ sig Unit} (h : Above b' O) (hb : b ≤ b') : Above b O :=
  fun g u hg => ⟨(h g u hg).1, lt_of_le_of_lt hb (h g u hg).2⟩

/-- The returns owed of two lists together are those of the one and those of the other. -/
theorem owY_append (c : Dev nD) (l l' : List (Fin 16)) : owY c (l ++ l') = owY c l + owY c l' := by
  unfold owY; rw [List.map_append, List.sum_append]

/-! ## The body -/

variable (G : Dev nD → Given F) (K : GSem nD τ sig → ℕ) (c : Dev nD)

/-- What a device gives for its sends, besides the peer's blocks. -/
def sendOwn (k : Fin 16) : sProp 𝕄 :=
  iprop((∃ X, ownsTc c (xs k) fullShare X) ∗ dutyTok ER (dcell c 0 k) 0 0 ∗ reached ER (dcell c 0 k) 0
    ∗ dutyTok ER (dcell (pr c k) 1 (-k)) 0 0 ∗ atPos ER (dcell c 0 k) 0 ∅ 0)
/-- What a device gives for its returns, besides the peer's blocks. -/
def retOwn (j : Fin 16) : sProp 𝕄 :=
  iprop(dutyTok ER (dcell c 2 j) 0 0 ∗ reached ER (dcell c 2 j) 0 ∗ dutyTok ER (dcell (pr c j) 3 (-j)) 0 0
    ∗ atPos ER (dcell c 2 j) 0 ∅ 0)

/-- What the device is given, in its buffers. -/
def given : sProp 𝕄 :=
  iprop(ownsTc c bVal fullShare (G c).val ∗ ownsTc c bFlat fullShare (G c).flat ∗ ownsTc c bX fullShare (G c).x
    ∗ ownsTc c bSw fullShare (G c).sw ∗ ownsTc c bEw fullShare (G c).ew)

/-- What the device holds when the kernel starts. -/
def start : sProp 𝕄 :=
  iprop(given G c ∗ (∃ o, ownsTc c bOut fullShare o) ∗ (∃ X, ownsTc c (xs 0) fullShare X) ∗ (∃ X, ownsTc c (zb 0) fullShare X)
    ∗ (∃ X, ownsTc c (zb 1) fullShare X) ∗ ow c (O₀ c) ∗ cred (tallyAt (barCell c) () 15) ∗ atPos ER (barCell c) 0 ∅ 0
    ∗ bigSepL ups (sigA c) ∗ bigSepL ups (sendOwn c) ∗ bigSepL ups (recvA c) ∗ bigSepL ups (retOwn c) ∗ bigSepL ups (takeA c))

/-- What it holds when the kernel ends. -/
def finish : sProp 𝕄 :=
  iprop(given G c ∗ ownsTc c bOut fullShare (outEnd G c) ∗ (∃ X, ownsTc c (xs 0) fullShare X) ∗ (∃ X, ownsTc c (zb 0) fullShare X)
    ∗ (∃ X, ownsTc c (zb 1) fullShare X) ∗ ow c 0 ∗ atPos ER (barCell c) 1 ∅ 0
    ∗ bigSepL ups (goneB c) ∗ bigSepL ups (recvB c) ∗ (bigSepL ups fun j => atPos ER (dcell c 2 j) 1 ∅ 0) ∗ bigSepL ups (takeB c))

/-- What a first return takes. -/
def firstA (a : Fin 16 × Fin 16 × Fin 2) : sProp 𝕄 :=
  iprop(recvA c a.1 ∗ retA c a.1 ∗ ∃ X, ownsTc c (zb a.2.2) fullShare X)
/-- What a first return leaves. -/
def firstB (a : Fin 16 × Fin 16 × Fin 2) : sProp 𝕄 :=
  iprop(recvB c a.1 ∗ cred (tallyAt (dcell c 2 a.1) () N2))
/-- Between the first returns. -/
def firstJ (bs : List (Fin 16 × Fin 16 × Fin 2)) : sProp 𝕄 :=
  iprop(ow c (owY c (bs.map fun a => a.1) + owY c latersJ) ∗ ownsTc c bEw fullShare (G c).ew)

/-- A first return runs from what it takes to what it leaves, and pays its debt. -/
theorem firstStep_run (b) (bs) (hb : (b :: bs) <:+ firsts) :
    iprop(ctx (chunkOf G) (returned G) K ∗ firstJ G c (b :: bs) ∗ firstA c b)
      ⊢ WP c (firstStep bEw (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch5
          cc0_scratch6 cc0_scratch7 c b)
        (fun _ => iprop(firstJ G c bs ∗ firstB c b)) := by
  obtain ⟨j, j', s⟩ := b
  obtain ⟨hj, hj', hs⟩ := firsts_ok _ (mem_of_suffix hb)
  dsimp only at hj hj' hs
  subst hj'
  unfold firstStep firstJ firstA firstB recvB
  dsimp only [List.map_cons]
  iintro ⟨#Hc, ⟨HO, Hw⟩, Hrv, Hrt, Hz⟩
  ihave Hwp := (recvStep_run (chunkOf G) (returned G) K c _ ((above_downs c _).add (above_downs c latersJ)) j hj) $$ [HO Hrv]
  · isplitr; · iexact Hc
    isplitl [HO] <;> iassumption
  iapply (wp_seq c) $$ Hwp
  iintro %_ ⟨HO, Hat, Hx⟩
  ihave Hwp := (retStep_run G (chunkOf G) (returned G) K c (owY c latersJ) j (bs.map fun a => a.1) s hj hs _ rfl) $$ [HO Hw Hrt Hz Hx]
  · isplitr; · iexact Hc
    isplitl [HO]; · iexact HO
    isplitl [Hx]; · iexact Hx
    isplitl [Hw]; · iexact Hw
    isplitl [Hz] <;> iassumption
  iapply (wp_wand frame (wpE (defs₀ (F := F)) 𝒱₀ (c : Thread nD τ) none) Set.univ) $$ Hwp
  iintro %_ ⟨HO, Hx, Hw, Hcr⟩
  isplitl [HO Hw]; · isplitl [HO] <;> iassumption
  isplitr [Hcr]
  · isplitl [Hat]; · iexact Hat
    iexists _; iexact Hx
  iexact Hcr

/-- What a later return takes. -/
def laterA (a : (Fin 16 × Fin 16) × (Fin 16 × Fin 16 × Fin 2)) : sProp 𝕄 :=
  iprop(recvA c a.1.1 ∗ retA c a.1.1 ∗ atPos ER (dcell c 2 a.2.1) 0 ∅ 0)
/-- What a later return leaves. -/
def laterB (a : (Fin 16 × Fin 16) × (Fin 16 × Fin 16 × Fin 2)) : sProp 𝕄 :=
  iprop(recvB c a.1.1 ∗ atPos ER (dcell c 2 a.2.1) 1 ∅ 0)
/-- Between the later returns: the credits of the last two sent. -/
def laterJ (bs : List ((Fin 16 × Fin 16) × (Fin 16 × Fin 16 × Fin 2))) : sProp 𝕄 :=
  iprop(ow c (owY c (bs.map fun a => a.1.1) + 0) ∗ ownsTc c bEw fullShare (G c).ew
    ∗ cred (tallyAt (dcell c 2 (nextLeft bs)) () N2) ∗ cred (tallyAt (dcell c 2 (nextLeft bs - 1)) () N2))

/-- A later return runs from what it takes to what it leaves, and pays its debt. -/
theorem laterStep_run (b) (bs) (hb : (b :: bs) <:+ laters) :
    iprop(ctx (chunkOf G) (returned G) K ∗ laterJ G c (b :: bs) ∗ laterA c b)
      ⊢ WP c (laterStep bEw (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch5
          cc0_scratch6 cc0_scratch7 c b)
        (fun _ => iprop(laterJ G c bs ∗ laterB c b)) := by
  obtain ⟨hn, hn'⟩ := laters_next (b :: bs) (List.mem_tails _ _ |>.mpr hb) b rfl
  obtain ⟨⟨j, j'⟩, i, i', s⟩ := b
  obtain ⟨hj, hj', hi, hs, hs'⟩ := laters_ok _ (mem_of_suffix hb)
  dsimp only [List.tail_cons] at hj hj' hi hs hs' hn hn'
  subst hj'
  unfold laterStep laterJ laterA laterB recvB
  rw [hn', hn]
  dsimp only [List.map_cons, nextLeft]
  iintro ⟨#Hc, ⟨HO, Hw, Hc1, Hc2⟩, Hrv, Hrt, Hai⟩
  ihave Hwp := (recvStep_run (chunkOf G) (returned G) K c _ ((above_downs c _).add (Above.zero _)) j hj) $$ [HO Hrv]
  · isplitr; · iexact Hc
    isplitl [HO] <;> iassumption
  iapply (wp_seq c) $$ Hwp
  iintro %_ ⟨HO, Hat, Hx⟩
  ihave Hwp := (leftStep_run (chunkOf G) (returned G) K c _ (((above_downs c _).add (Above.zero _)).mono (Nat.zero_le _)) i i' s hi hs) $$ [HO Hc1 Hai]
  · isplitr; · iexact Hc
    isplitl [HO]; · iexact HO
    isplitl [Hc1] <;> iassumption
  iapply (wp_seq c) $$ Hwp
  iintro %_ ⟨HO, Hai, Hz⟩
  ihave Hwp := (retStep_run G (chunkOf G) (returned G) K c 0 j (bs.map fun a => a.1.1) s hj hs' _ rfl) $$ [HO Hw Hrt Hz Hx]
  · isplitr; · iexact Hc
    isplitl [HO]; · iexact HO
    isplitl [Hx]; · iexact Hx
    isplitl [Hw]; · iexact Hw
    isplitl [Hz] <;> iassumption
  iapply (wp_wand frame (wpE (defs₀ (F := F)) 𝒱₀ (c : Thread nD τ) none) Set.univ) $$ Hwp
  iintro %_ ⟨HO, Hx, Hw, Hcr⟩
  isplitl [HO Hw Hc2 Hcr]
  · isplitl [HO]; · iexact HO
    isplitl [Hw]; · iexact Hw
    isplitl [Hc2] <;> iassumption
  isplitr [Hai]
  · isplitl [Hat]; · iexact Hat
    iexists _; iexact Hx
  iexact Hai

/-- What the last waits take. -/
def lastA (a : Fin 16 × Fin 16 × Fin 2) : sProp 𝕄 :=
  iprop(cred (tallyAt (dcell c 2 a.1) () N2) ∗ atPos ER (dcell c 2 a.1) 0 ∅ 0)
/-- And what they leave. -/
def lastB (a : Fin 16 × Fin 16 × Fin 2) : sProp 𝕄 :=
  iprop(atPos ER (dcell c 2 a.1) 1 ∅ 0 ∗ ∃ X, ownsTc c (zb a.2.2) fullShare X)

/-- What the sends hold before the barrier and what the peers gave make what the sends take. -/
theorem sends_join : iprop((bigSepL ups (sendOwn (F := F) c)) ∗ bigSepL ups (fun k => barPay c k))
    ⊢ iprop((bigSepL pairs fun kk => sendA c kk.1) ∗ (bigSepL ups fun k => atPos ER (dcell c 0 k) 0 ∅ 0)
      ∗ bigSepL ups fun k => iprop((∃ X, ownsTc (pr c k) (yr (-k)) fullShare X) ∗ reached ER (dcell (pr c k) 3 (-k)) 0)) := by
  rw [neg_ups (fun k => barPay c k), ← ups_pairs (fun k => sendA c k), ← list_sep, ← list_sep, ← list_sep]
  refine bigSepL_mono fun k _ => ?_
  unfold sendOwn barPay sendA
  rw [neg_neg16]
  show iprop(_ ∗ _) ⊢ iprop(_ ∗ _ ∗ _)
  iintro ⟨⟨Hx, Hd, Hr, Hd', Ha⟩, Hrc, Hyr, Hr1, Hr3⟩
  isplitr [Ha Hyr Hr3]
  · isplitl [Hrc]; · iexact Hrc
    isplitl [Hr1]; · iexact Hr1
    isplitl [Hx]; · iexact Hx
    isplitl [Hd]; · iexact Hd
    isplitl [Hr] <;> iassumption
  isplitl [Ha]; · iexact Ha
  isplitl [Hyr] <;> iassumption

/-- What the returns hold and what the peers gave for them make what the returns take. -/
theorem rets_join : iprop((bigSepL ups (retOwn (F := F) c))
      ∗ bigSepL ups fun k => iprop((∃ X, ownsTc (pr c k) (yr (-k)) fullShare X) ∗ reached ER (dcell (pr c k) 3 (-k)) 0))
    ⊢ iprop((bigSepL ups fun j => retA c j) ∗ (bigSepL ups fun j => atPos ER (dcell c 2 j) 0 ∅ 0)) := by
  rw [← list_sep, ← list_sep]
  refine bigSepL_mono fun k _ => ?_
  unfold retOwn retA
  show iprop(_ ∗ _) ⊢ iprop(_ ∗ _)
  iintro ⟨⟨Hd, Hr, Hd', Ha⟩, Hyr, Hr3⟩
  isplitr [Ha]
  · isplitl [Hyr]; · iexact Hyr
    isplitl [Hr3]; · iexact Hr3
    isplitl [Hd]; · iexact Hd
    isplitl [Hr] <;> iassumption
  iexact Ha

/-- A list's assertions, one more conjunct each. -/
theorem list_add {I : Type} (l : List I) (Φ Ψ : I → sProp 𝕄) :
    iprop(bigSepL l Φ ∗ bigSepL l Ψ) ⊢ bigSepL l fun i => iprop(Φ i ∗ Ψ i) := Entails.of_eq (list_sep l Φ Ψ).symm

set_option maxHeartbeats 1600000 in
/-- The body: from `start` to `finish`. -/
theorem body_run :
    iprop(ctx (chunkOf G) (returned G) K ∗ start G c)
      ⊢ WP c (body bVal bFlat bX bSw bEw bOut (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7)
        (fun _ => finish G c) := by
  unfold body start finish given
  iintro ⟨#Hc, ⟨Hval, Hflat, Hx, Hsw, Hew⟩, Hout, Hx0, Hz0, Hz1, HO, Hcb, Hab, Hsig, Hsend, Hrecv, Hret, Htake⟩
  simp only [Prog.lift, Prog.bind_op, Prog.bind_ret, semWaitWord]
  iapply (Entails.of_eq (wp_deviceId 𝒱₀ (c : Thread nD τ) none Set.univ).symm)
  -- the signals
  ihave Hwp := (wp_steps c (sigStep c) (ctx (chunkOf G) (returned G) K) (sigA c) (fun _ => iprop(emp))
    (fun ks (_ : Unit) => ow c (owB c ks + (owX c ups + owY c downs))) (fun s _ => s) ups
    (fun k ks hk _ => sigStep_run (chunkOf G) (returned G) K c _ k ks (ups_ne (mem_of_suffix hk))) ()) $$ [HO Hsig]
  · isplitr; · iexact Hc
    isplitl [HO]; · iexact HO
    iexact Hsig
  iapply (wp_seq c) $$ Hwp
  iintro %_ ⟨HO, -⟩
  ihave HO := (show ow c (owB c [] + (owX c ups + owY c downs)) ⊢ (ow c (owX c ups + owY c downs) : sProp 𝕄) from
    Entails.of_eq (by rw [show owB c [] = 0 from rfl, zero_add])) $$ HO
  -- the barrier
  iapply (wp_all (chunkOf G) (returned G) K c _ ((above_owX (by decide) c ups).add (above_owY (by decide) c downs))) $$ [HO Hcb Hab]
  · isplitr; · iexact Hc
    isplitl [HO]; · iexact HO
    isplitl [Hcb] <;> iassumption
  iintro ⟨HO, Hab, Hpay⟩
  ihave Hj := (sends_join c) $$ [Hsend Hpay]
  · isplitl [Hsend] <;> iassumption
  icases Hj with ⟨Hsend, Hat0, Hpeer⟩
  ihave Hj := (rets_join c) $$ [Hret Hpeer]
  · isplitl [Hret] <;> iassumption
  icases Hj with ⟨Hret, Hat2⟩
  iapply (wp_load_all c bVal (G c).val) $$ Hval; iintro Hval
  iapply (wp_load_all c bFlat (G c).flat) $$ Hflat; iintro Hflat
  -- the sends
  ihave Hwp := (wp_steps c _ (ctx (chunkOf G) (returned G) K) (fun kk : Fin 16 × Fin 16 => sendA c kk.1)
    (fun kk : Fin 16 × Fin 16 => cred (tallyAt (dcell c 0 kk.1) () N1))
    (fun ks (_ : Unit) => ow c (owX c (ks.map fun kk : Fin 16 × Fin 16 => kk.1) + owY c downs)) (fun s _ => s) pairs
    (fun kk ks hk _ => by
      obtain ⟨h0, h1⟩ := pairs_ok _ (mem_of_suffix hk)
      rw [h1]
      exact sendStep_run (chunkOf G) (returned G) K c (valOf (G c)) (flatOf (G c)) _ kk.1 (ks.map fun kk : Fin 16 × Fin 16 => kk.1) h0 rfl) ()) $$ [HO Hsend]
  · isplitr; · iexact Hc
    isplitl [HO]; · iexact HO
    iexact Hsend
  iapply (wp_seq c) $$ Hwp
  iintro %_ ⟨HO, Hsent⟩
  -- the own group
  ihave Hwp := (ownStep_run G c) $$ [Hx Hsw Hew Hout Hx0 Hz0]
  · isplitl [Hx]; · iexact Hx
    isplitl [Hsw]; · iexact Hsw
    isplitl [Hew]; · iexact Hew
    isplitl [Hout]; · iexact Hout
    isplitl [Hx0] <;> iassumption
  iapply (wp_seq c) $$ Hwp
  iintro %_ ⟨Hx, Hsw, Hew, Hout, Hx0, Hz0⟩
  -- the first returns
  ihave Hrecv := (Entails.of_eq (ups_rets (recvA c))) $$ Hrecv
  icases Hrecv with ⟨Hrv1, Hrv2⟩
  ihave Hret := (Entails.of_eq (ups_rets (retA c))) $$ Hret
  icases Hret with ⟨Hrt1, Hrt2⟩
  ihave Hat2 := (Entails.of_eq (ups_left (fun j => atPos ER (dcell c 2 j) 0 ∅ 0))) $$ Hat2
  icases Hat2 with ⟨Hat2, Hat2'⟩
  ihave Hrt1 := (list_add firsts (fun a => retA c a.1) (fun a => iprop(∃ X, ownsTc c (zb a.2.2) fullShare X))) $$ [Hrt1 Hz0 Hz1]
  · isplitl [Hrt1]; · iexact Hrt1
    iapply (Entails.of_eq (firsts_two _).symm)
    isplitl [Hz0]; · iexact Hz0
    iexact Hz1
  ihave Hrt1 := (list_add firsts (fun a => recvA c a.1) _) $$ [Hrv1 Hrt1]
  · isplitl [Hrv1] <;> iassumption
  ihave HO := (show ow c (owX c (List.map (fun kk : Fin 16 × Fin 16 => kk.1) []) + owY c downs)
      ⊢ (ow c (owY c (firsts.map fun a => a.1) + owY c latersJ) : sProp 𝕄) from
    Entails.of_eq (by rw [← owY_append, show owX c (List.map (fun kk : Fin 16 × Fin 16 => kk.1) []) = 0 from rfl, zero_add]; rfl)) $$ HO
  ihave Hwp := (wp_steps c _ (ctx (chunkOf G) (returned G) K) (firstA c) (firstB c) (fun bs (_ : Unit) => firstJ G c bs) (fun s _ => s) firsts
    (fun b bs hb _ => firstStep_run G K c b bs hb) ()) $$ [HO Hew Hrt1]
  · isplitr; · iexact Hc
    isplitr [Hrt1]
    · unfold firstJ; isplitl [HO] <;> iassumption
    iexact Hrt1
  iapply (wp_seq c) $$ Hwp
  iintro %_ ⟨HJ, HB⟩
  unfold firstJ
  icases HJ with ⟨HO, Hew⟩
  ihave HB := (show bigSepL firsts (firstB c) ⊢ iprop(_ ∗ _) from Entails.of_eq (list_sep firsts (fun a => recvB c a.1) (fun a => cred (tallyAt (dcell c 2 a.1) () N2)))) $$ HB
  icases HB with ⟨Hrb1, Hcr⟩
  ihave Hcr := (Entails.of_eq (firsts_two (fun a => cred (tallyAt (dcell c 2 a.1) () N2)))) $$ Hcr
  icases Hcr with ⟨Hc1, Hc2⟩
  -- the later returns
  ihave Hrt2 := (list_add laters (fun a => retA c a.1.1) (fun a => atPos ER (dcell c 2 a.2.1) 0 ∅ 0)) $$ [Hrt2 Hat2]
  · isplitl [Hrt2] <;> iassumption
  ihave Hrt2 := (list_add laters (fun a => recvA c a.1.1) _) $$ [Hrv2 Hrt2]
  · isplitl [Hrv2] <;> iassumption
  ihave HO := (show ow c (owY c (List.map (fun a : Fin 16 × Fin 16 × Fin 2 => a.1) []) + owY c latersJ)
      ⊢ (ow c (owY c (laters.map fun a => a.1.1) + 0) : sProp 𝕄) from
    Entails.of_eq (by rw [show owY c (List.map (fun a : Fin 16 × Fin 16 × Fin 2 => a.1) []) = 0 from rfl, zero_add, add_zero]; rfl)) $$ HO
  ihave Hwp := (wp_steps c _ (ctx (chunkOf G) (returned G) K) (laterA c) (laterB c) (fun bs (_ : Unit) => laterJ G c bs) (fun s _ => s) laters
    (fun b bs hb _ => laterStep_run G K c b bs hb) ()) $$ [HO Hew Hrt2 Hc1 Hc2]
  · isplitr; · iexact Hc
    isplitr [Hrt2]
    · unfold laterJ
      isplitl [HO]; · iexact HO
      isplitl [Hew]; · iexact Hew
      isplitl [Hc1]; · iexact Hc1
      iexact Hc2
    iexact Hrt2
  iapply (wp_seq c) $$ Hwp
  iintro %_ ⟨HJ, HB⟩
  unfold laterJ
  icases HJ with ⟨HO, Hew, Hc1, Hc2⟩
  ihave HB := (show bigSepL laters (laterB c) ⊢ iprop(_ ∗ _) from Entails.of_eq (list_sep laters (fun a => recvB c a.1.1) (fun a => atPos ER (dcell c 2 a.2.1) 1 ∅ 0))) $$ HB
  icases HB with ⟨Hrb2, Hat2⟩
  ihave HO := (show ow c (owY c (List.map (fun a : (Fin 16 × Fin 16) × (Fin 16 × Fin 16 × Fin 2) => a.1.1) []) + 0) ⊢ (ow c 0 : sProp 𝕄) from
    Entails.of_eq (by rw [add_zero]; rfl)) $$ HO
  ihave Hrecv := (Entails.of_eq (ups_rets (recvB c)).symm) $$ [Hrb1 Hrb2]
  · isplitl [Hrb1] <;> iassumption
  -- the results of the peers
  ihave Hwp := (wp_steps c _ (ctx (chunkOf G) (returned G) K) (takeA c) (takeB c)
    (fun _ (o : Vec F S2048x1024 .f32) => iprop(ow c 0 ∗ ownsTc c bOut fullShare o)) (addRet G c) ups
    (fun j _ hj o => takeStep_run (chunkOf G) (returned G) K c (flatOf (G c)) j (ups_ne (mem_of_suffix hj)) o) (outOwn G c)) $$ [HO Hout Htake]
  · isplitr; · iexact Hc
    isplitr [Htake]
    · isplitl [HO] <;> iassumption
    iexact Htake
  iapply (wp_seq c) $$ Hwp
  iintro %_ ⟨⟨HO, Hout⟩, Htake⟩
  -- the sends are over
  ihave Hat0 := (Entails.of_eq (ups_pairs (fun k => atPos ER (dcell c 0 k) 0 ∅ 0))) $$ Hat0
  ihave Hgone := (list_add pairs (fun kk => cred (tallyAt (dcell c 0 kk.1) () N1)) (fun kk => atPos ER (dcell c 0 kk.1) 0 ∅ 0)) $$ [Hsent Hat0]
  · isplitl [Hsent] <;> iassumption
  ihave Hwp := (wp_steps c _ (ctx (chunkOf G) (returned G) K) (fun kk : Fin 16 × Fin 16 => goneA c kk.1) (fun kk : Fin 16 × Fin 16 => goneB c kk.1)
    (fun _ (_ : Unit) => ow c 0) (fun s _ => s) pairs
    (fun kk _ hk _ => goneStep_run (chunkOf G) (returned G) K c kk.1 kk.2 (pairs_ok _ (mem_of_suffix hk)).1) ()) $$ [HO Hgone]
  · isplitr; · iexact Hc
    isplitl [HO]; · iexact HO
    iexact Hgone
  iapply (wp_seq c) $$ Hwp
  iintro %_ ⟨HO, Hgone⟩
  ihave Hgone := (Entails.of_eq (ups_pairs (goneB c)).symm) $$ Hgone
  -- the last returns are over
  ihave Hlast := (list_add lasts (fun a => cred (tallyAt (dcell c 2 a.1) () N2)) (fun a => atPos ER (dcell c 2 a.1) 0 ∅ 0)) $$ [Hc1 Hc2 Hat2']
  · isplitr [Hat2']
    · iapply (Entails.of_eq (lasts_two _).symm)
      isplitl [Hc1]; · iexact Hc1
      iexact Hc2
    iexact Hat2'
  ihave Hwp := (wp_steps c _ (ctx (chunkOf G) (returned G) K) (lastA c) (lastB c)
    (fun _ (_ : Unit) => ow c 0) (fun s _ => s) lasts
    (fun a _ ha _ => leftStep_run (chunkOf G) (returned G) K c 0 (Above.zero _) a.1 a.2.1 a.2.2 (lasts_ok _ (mem_of_suffix ha)).1
      (lasts_ok _ (mem_of_suffix ha)).2) ()) $$ [HO Hlast]
  · isplitr; · iexact Hc
    isplitl [HO]; · iexact HO
    iexact Hlast
  iapply (wp_wand frame (wpE (defs₀ (F := F)) 𝒱₀ (c : Thread nD τ) none) Set.univ) $$ Hwp
  iintro %_ ⟨HO, HB⟩
  ihave HB := (show bigSepL lasts (lastB c) ⊢ iprop(_ ∗ _) from Entails.of_eq (list_sep lasts (fun a => atPos ER (dcell c 2 a.1) 1 ∅ 0) (fun a => iprop(∃ X, ownsTc c (zb a.2.2) fullShare X)))) $$ HB
  icases HB with ⟨Hat2', Hz⟩
  ihave Hz := (Entails.of_eq (lasts_two (fun a => iprop(∃ X, ownsTc c (zb a.2.2) fullShare X)))) $$ Hz
  icases Hz with ⟨Hz1, Hz0⟩
  ihave Hat2 := (Entails.of_eq (ups_left (fun j => atPos ER (dcell c 2 j) 1 ∅ 0)).symm) $$ [Hat2 Hat2']
  · isplitl [Hat2]; · iexact Hat2
    iexact Hat2'
  isplitl [Hval Hflat Hx Hsw Hew]
  · isplitl [Hval]; · iexact Hval
    isplitl [Hflat]; · iexact Hflat
    isplitl [Hx]; · iexact Hx
    isplitl [Hsw] <;> iassumption
  isplitl [Hout]; · iexact Hout
  isplitl [Hx0]; · iexact Hx0
  isplitl [Hz0]; · iexact Hz0
  isplitl [Hz1]; · iexact Hz1
  isplitl [HO]; · iexact HO
  isplitl [Hab]; · iexact Hab
  isplitl [Hgone]; · iexact Hgone
  isplitl [Hrecv]; · iexact Hrecv
  isplitl [Hat2]; · iexact Hat2
  iexact Htake

end Cert.KernelIdeal

end
-- ==== Proof.Store.lean ====
module

public import proofs.«01_k».proof.Proof.Run
public import Idealize.ShloMosaic.Lib.Ring

/-! Around the body: the four scratch buffers cut into their blocks and joined again, the semaphores of the
kernel taken into the protocol before the body and given back at zero after it. -/

@[expose] public section

set_option maxRecDepth 65536

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.Ring (lead_disjoint lead_cover)

variable {F : FTy → Type} [FloatOps F]

local notation "𝕄" => MT nD τ sig Unit (Elt F) ℕ UU ℕ

/-! ## The scratch buffers and their blocks -/

/-- A whole buffer at some contents. -/
abbrev any (c : Dev nD) (b : Ref sig .tc) : sProp 𝕄 := iprop(∃ f, ((c : Thread nD τ).loc b) ↦{fullShare} f)

/-- A buffer at some contents is each block of a disjoint cover at some contents, -/
theorem cut {T : Type} [Fintype T] [DecidableEq T] (c : Dev nD) (b : Ref sig .tc) (r : T → Rect b.ty.shape) (hr : ∀ t a, (r t).stride a = 1)
    (hd : ∀ t t', t ≠ t' → Disjoint (r t).set (r t').set) (hcov : Finset.univ.biUnion (fun t => (r t).set) = Finset.univ) :
    any (F := F) c b ⊢ bigSep Finset.univ fun t => iprop(∃ X, ownsTc c ((Memref.whole b).slice (r t) (hr t)) fullShare X) := by
  iintro ⟨%f, H⟩
  ihave H := (Entails.of_eq (owns_whole (c : Thread nD τ) b fullShare f).symm) $$ H
  ihave H := (owns_rects (c : Thread nD τ) (Memref.whole b) fullShare r hr hd hcov f) $$ H
  have hm : (bigSep Finset.univ fun t => (ownsTc c ((Memref.whole b).slice (r t) (hr t)) fullShare (fun j => f ((r t).emb j)) : sProp 𝕄))
      ⊢ bigSep Finset.univ fun t => iprop(∃ X, ownsTc c ((Memref.whole b).slice (r t) (hr t)) fullShare X) :=
    BI.bigSep_mono fun t _ => Laws.exists_intro (Φ := fun X => (ownsTc c ((Memref.whole b).slice (r t) (hr t)) fullShare X : sProp 𝕄)) _
  iapply hm $$ H

/-- and the blocks at some contents make the buffer at some contents. -/
theorem join {T : Type} [Fintype T] [DecidableEq T] (c : Dev nD) (b : Ref sig .tc) (r : T → Rect b.ty.shape) (hr : ∀ t a, (r t).stride a = 1)
    (hd : ∀ t t', t ≠ t' → Disjoint (r t).set (r t').set) (hcov : Finset.univ.biUnion (fun t => (r t).set) = Finset.univ) :
    (bigSep Finset.univ fun t => iprop(∃ X, ownsTc c ((Memref.whole b).slice (r t) (hr t)) fullShare X)) ⊢ any (F := F) c b := by
  refine (bigSep_exists_pi Finset.univ (fun t (X : (r t).shape.Idx → Elt F b.ty.elt) => (ownsTc c ((Memref.whole b).slice (r t) (hr t)) fullShare X : sProp 𝕄))).trans ?_
  iintro ⟨%X, H⟩
  have hX : ∃ Y : b.ty.shape.Idx → Elt F b.ty.elt, ∀ t j, Y ((r t).emb j) = X t j := by
    classical
    refine ⟨fun i => if h : ∃ t, i ∈ (r t).set then (r h.choose).overlay (fun _ => Classical.arbitrary _) (X h.choose) i else Classical.arbitrary _, fun t j => ?_⟩
    have hm : (r t).emb j ∈ (r t).set := by rw [← Rect.map_emb_univ]; exact Finset.mem_map_of_mem _ (Finset.mem_univ j)
    have h : ∃ t', (r t).emb j ∈ (r t').set := ⟨t, hm⟩
    show (if h : ∃ t', (r t).emb j ∈ (r t').set then (r h.choose).overlay (fun _ => Classical.arbitrary _) (X h.choose) ((r t).emb j) else _) = _
    rw [dif_pos h]
    have ht : h.choose = t := by
      by_contra hne
      exact (Finset.disjoint_left.mp (hd _ _ hne) h.choose_spec) hm
    rw [ht, Rect.overlay_emb]
  obtain ⟨Y, hY⟩ := hX
  ihave H := (show (bigSep Finset.univ fun t => (ownsTc c ((Memref.whole b).slice (r t) (hr t)) fullShare (X t) : sProp 𝕄))
      ⊢ ownsTc c (Memref.whole b) fullShare Y from by
    rw [bigSep_congr (Ψ := fun t => (ownsTc c ((Memref.whole b).slice (r t) (hr t)) fullShare (fun j => Y ((r t).emb j)) : sProp 𝕄))
      fun t _ => by rw [show X t = fun j => Y ((r t).emb j) from funext fun j => (hY t j).symm]]
    exact owns_of_rects (c : Thread nD τ) (Memref.whole b) fullShare r hr hd hcov Y) $$ H
  iexists Y
  iapply (Entails.of_eq (owns_whole (c : Thread nD τ) b fullShare Y)) $$ H

/-- Different blocks of a dispatch buffer have no entry in common. -/
theorem rX_disj (k k' : Fin 16) (h : k ≠ k') : Disjoint (rX k).set (rX k').set :=
  lead_disjoint (s := S3072x520) (0 : Fin 2) 192 (fun k : Fin 16 => ![192 * k.val, 0]) S192x520.size inbX (fun _ => rfl) rfl k k' h
/-- The blocks of a dispatch buffer cover it. -/
theorem rX_cover : Finset.univ.biUnion (fun k : Fin 16 => (rX k).set) = Finset.univ :=
  lead_cover (s := S3072x520) (0 : Fin 2) 192 (fun k : Fin 16 => ![192 * k.val, 0]) S192x520.size inbX (fun _ => rfl) (by decide) rfl (by decide) (by decide)
/-- Different blocks of the return buffer have no entry in common. -/
theorem rY_disj (k k' : Fin 16) (h : k ≠ k') : Disjoint (rY k).set (rY k').set :=
  lead_disjoint (s := S3072x1024) (0 : Fin 2) 192 (fun k : Fin 16 => ![192 * k.val, 0]) S192x1024.size inbY (fun _ => rfl) rfl k k' h
/-- The blocks of the return buffer cover it. -/
theorem rY_cover : Finset.univ.biUnion (fun k : Fin 16 => (rY k).set) = Finset.univ :=
  lead_cover (s := S3072x1024) (0 : Fin 2) 192 (fun k : Fin 16 => ![192 * k.val, 0]) S192x1024.size inbY (fun _ => rfl) (by decide) rfl (by decide) (by decide)
/-- The two slots of the two-slot buffer have no entry in common. -/
theorem rZ_disj (k k' : Fin 2) (h : k ≠ k') : Disjoint (rZ k).set (rZ k').set :=
  lead_disjoint (s := S2x192x1024) (0 : Fin 3) 1 (fun k : Fin 2 => ![k.val, 0, 0]) S1x192x1024.size inbZ (fun k => by simp) rfl k k' h
/-- The two slots cover the two-slot buffer. -/
theorem rZ_cover : Finset.univ.biUnion (fun k : Fin 2 => (rZ k).set) = Finset.univ :=
  lead_cover (s := S2x192x1024) (0 : Fin 3) 1 (fun k : Fin 2 => ![k.val, 0, 0]) S1x192x1024.size inbZ (fun k => by simp) (by decide) rfl (by decide) (by decide)

/-- Sixteen summands are the one numbered 0 and the fifteen others. -/
theorem univ_ups (Φ : Fin 16 → sProp 𝕄) : bigSep Finset.univ Φ = iprop(Φ 0 ∗ bigSepL ups Φ) :=
  bigSep_eq_bigSepL_of_eq (0 :: ups) (by decide) (by decide) Φ

/-- The four scratch buffers at some contents. -/
def scratch (c : Dev nD) : sProp 𝕄 :=
  iprop(any c cc0_scratch0 ∗ any c cc0_scratch1 ∗ any c cc0_scratch2 ∗ any c cc0_scratch3)
/-- Their blocks. -/
def blocks (c : Dev nD) : sProp 𝕄 :=
  iprop(((∃ X, ownsTc c (xs 0) fullShare X) ∗ bigSepL ups fun k => iprop(∃ X, ownsTc c (xs k) fullShare X))
    ∗ ((∃ X, ownsTc c (rc 0) fullShare X) ∗ bigSepL ups fun k => iprop(∃ X, ownsTc c (rc k) fullShare X))
    ∗ ((∃ X, ownsTc c (yr 0) fullShare X) ∗ bigSepL ups fun k => iprop(∃ X, ownsTc c (yr k) fullShare X))
    ∗ (∃ X, ownsTc c (zb 0) fullShare X) ∗ ∃ X, ownsTc c (zb 1) fullShare X)

/-- The four scratch buffers can be cut into their blocks. -/
theorem scratch_cut (c : Dev nD) : scratch (F := F) c ⊢ blocks c := by
  unfold scratch blocks
  rw [← univ_ups (fun k => iprop(∃ X, ownsTc c (xs k) fullShare X)), ← univ_ups (fun k => iprop(∃ X, ownsTc c (rc k) fullShare X)),
    ← univ_ups (fun k => iprop(∃ X, ownsTc c (yr k) fullShare X)), ← bigSep_univ_two (fun s => iprop(∃ X, ownsTc c (zb s) fullShare X))]
  exact BI.sep_mono (cut c cc0_scratch0 rX (fun _ _ => rfl) rX_disj rX_cover) (BI.sep_mono (cut c cc0_scratch1 rX (fun _ _ => rfl) rX_disj rX_cover)
    (BI.sep_mono (cut c cc0_scratch2 rY (fun _ _ => rfl) rY_disj rY_cover) (cut c cc0_scratch3 rZ (fun _ _ => rfl) rZ_disj rZ_cover)))

/-- The blocks make up the four scratch buffers. -/
theorem scratch_join (c : Dev nD) : blocks (F := F) c ⊢ scratch c := by
  unfold scratch blocks
  rw [← univ_ups (fun k => iprop(∃ X, ownsTc c (xs k) fullShare X)), ← univ_ups (fun k => iprop(∃ X, ownsTc c (rc k) fullShare X)),
    ← univ_ups (fun k => iprop(∃ X, ownsTc c (yr k) fullShare X)), ← bigSep_univ_two (fun s => iprop(∃ X, ownsTc c (zb s) fullShare X))]
  exact BI.sep_mono (join c cc0_scratch0 rX (fun _ _ => rfl) rX_disj rX_cover) (BI.sep_mono (join c cc0_scratch1 rX (fun _ _ => rfl) rX_disj rX_cover)
    (BI.sep_mono (join c cc0_scratch2 rY (fun _ _ => rfl) rY_disj rY_cover) (join c cc0_scratch3 rZ (fun _ _ => rfl) rZ_disj rZ_cover)))

/-! ## The semaphores -/

/-- The kernel's own semaphores: four families of sixteen. -/
def osem (p : Fin 4 × Fin 16) : SemLoc sig := .dma (dsem p.1 p.2)

/-- Sums over the families. -/
theorem univ_fam (Φ : Fin 4 × Fin 16 → sProp 𝕄) : bigSep Finset.univ Φ
    = iprop(((Φ (0, 0) ∗ bigSepL ups fun k => Φ (0, k)) ∗ (Φ (1, 0) ∗ bigSepL ups fun k => Φ (1, k)))
      ∗ (Φ (2, 0) ∗ bigSepL ups fun k => Φ (2, k)) ∗ (Φ (3, 0) ∗ bigSepL ups fun k => Φ (3, k))) := by
  rw [bigSep_univ_prod, bigSep_eq_bigSepL_of_eq [(0 : Fin 4), 1, 2, 3] (by decide) (by decide)]
  simp only [univ_ups]
  have e (A B C D : sProp 𝕄) : iprop(A ∗ B ∗ C ∗ D) = iprop((A ∗ B) ∗ C ∗ D) := (BI.equiv_iff.mp ⟨BI.sep_assoc, BI.sep_assoc'⟩).symm
  exact e _ _ _ _

section Cells

variable (cx : Dev nD → Fin 16 → Vec F S192x520 .bf16) (yx : Dev nD → Fin 16 → Vec F S192x1024 .bf16) (K : GSem nD τ sig → ℕ) (c : Dev nD)

/-- The duties a device pays in its dealings with peer `k`. -/
def toks (k : Fin 16) : sProp 𝕄 :=
  iprop(dutyTok ER (barCell (pr c k)) 0 k ∗ dutyTok ER (dcell c 0 k) 0 0 ∗ dutyTok ER (dcell (pr c k) 1 (-k)) 0 0
    ∗ dutyTok ER (dcell c 2 k) 0 0 ∗ dutyTok ER (dcell (pr c k) 3 (-k)) 0 0)

/-- The credits a device is owed. -/
def creds : sProp 𝕄 :=
  iprop(cred (tallyAt (barCell c) () 15) ∗ (bigSepL ups fun j => cred (tallyAt (dcell c 1 j) () N1))
    ∗ bigSepL ups fun j => cred (tallyAt (dcell c 3 j) () N2))

/-- What a device holds of the protocol before the kernel: the kernel's semaphores still to be taken in. -/
def unopened : sProp 𝕄 :=
  iprop(atPos ER (barCell c) 0 ∅ 0 ∗ (bigSep Finset.univ fun p : Fin 4 × Fin 16 => openTok ER (dcell c p.1 p.2))
    ∗ bigSepL ups (toks c) ∗ creds c)
/-- And when they have been. -/
def opened : sProp 𝕄 :=
  iprop(atPos ER (barCell c) 0 ∅ 0
    ∗ (bigSep Finset.univ fun p : Fin 4 × Fin 16 => iprop(atPos ER (dcell c p.1 p.2) 0 ∅ 0 ∗ reached ER (dcell c p.1 p.2) 0))
    ∗ bigSepL ups (toks c) ∗ creds c)

/-- Every one of the kernel's semaphores, at zero, is taken into the protocol. -/
theorem open_all : iprop(ctx cx yx K ∗ unopened (F := F) c ∗ Pipeline.ownSems0 osem c) ⊢ |={Set.univ}=> opened c := by
  unfold unopened opened Pipeline.ownSems0
  iintro ⟨#Hc, ⟨Ha, Ho, Ht, Hcr⟩, Hs⟩
  ihave H := (Entails.of_eq (bigSep_sep' Finset.univ (fun p : Fin 4 × Fin 16 => (openTok ER (dcell c p.1 p.2) : sProp 𝕄))
    (fun p : Fin 4 × Fin 16 => (semVal ((c : Thread nD τ), osem p) 0 : sProp 𝕄))).symm) $$ [Ho Hs]
  · isplitl [Ho] <;> iassumption
  ihave H := (bigSep_with_persistent (S := Finset.univ) (R := ctx cx yx K)
    (Φ := fun p : Fin 4 × Fin 16 => iprop(openTok ER (dcell c p.1 p.2) ∗ semVal ((c : Thread nD τ), osem p) 0))
    (Ψ := fun p => iprop(|={Set.univ}=> (atPos ER (dcell c p.1 p.2) 0 ∅ 0 ∗ reached ER (dcell c p.1 p.2) 0)))
    (fun p _ => by
      iintro ⟨#Hc, Ho, Hs⟩
      iapply (Rounds.cell_open ER (Rd cx yx) (g := dcell c p.1 p.2) (Set.mem_univ (K (dcell c p.1 p.2))))
      isplitr; · iapply (ctx_d cx yx K c p.1 p.2) $$ Hc
      isplitl [Ho]; · iexact Ho
      iexact Hs)) $$ [H]
  · isplitr; · iexact Hc
    iexact H
  imod (bigSep_fupd Finset.univ _) $$ H with H
  imodintro
  isplitl [Ha]; · iexact Ha
  isplitl [H]; · iexact H
  isplitl [Ht] <;> iassumption

/-- Where a device stands at a semaphore of its own when the body is over. -/
def over (p : Fin 4 × Fin 16) : sProp 𝕄 := atPos ER (dcell c p.1 p.2) (if p.2 = 0 then 0 else 1) ∅ 0

/-- All semaphores come back at zero. -/
theorem close_all : iprop(ctx cx yx K ∗ atPos ER (barCell c) 1 ∅ 0 ∗ bigSep Finset.univ (over (F := F) c))
    ⊢ |={Set.univ}=> (semVal (barCell c) 0 ∗ Pipeline.ownSems0 osem c) := by
  unfold Pipeline.ownSems0
  iintro ⟨#Hc, Ha, H⟩
  ihave H := (bigSep_with_persistent (S := Finset.univ) (R := ctx cx yx K) (Φ := over c)
    (Ψ := fun p : Fin 4 × Fin 16 => iprop(|={Set.univ}=> (semVal ((c : Thread nD τ), osem p) 0)))
    (fun p _ => by
      unfold over
      iintro ⟨#Hc, Ha⟩
      iapply (Rounds.cell_close ER (Rd cx yx) (g := dcell c p.1 p.2) (Set.mem_univ (K (dcell c p.1 p.2))) (fun h => h)
        (R := if p.2 = 0 then 0 else 1) (fun r hr => by
          split at hr
          · next h => rw [h]; exact duties_zero cx yx c p.1 r
          · exact duties_later cx yx _ r hr))
      isplitr; · iapply (ctx_d cx yx K c p.1 p.2) $$ Hc
      iexact Ha)) $$ [H]
  · isplitr; · iexact Hc
    iexact H
  imod (bigSep_fupd Finset.univ _) $$ H with H
  ihave #Hb := (ctx_bar cx yx K c) $$ Hc
  icases Hb with ⟨#Hb, -⟩
  imod (Rounds.cell_close ER (Rd cx yx) (g := barCell c) (Set.mem_univ (K (barCell c))) (fun h => h) (R := 1)
    (duties_later cx yx _)) $$ [Ha] with Hv
  · isplitr; · iexact Hb
    iexact Ha
  imodintro
  isplitl [Hv] <;> iassumption

end Cells

/-! ## The body between the two -/

variable (G : Dev nD → Given F) (K : GSem nD τ sig → ℕ) (c : Dev nD)

/-- What stays aside while the body runs. -/
def aside : sProp 𝕄 :=
  iprop((∃ X, ownsTc c (rc 0) fullShare X) ∗ (∃ X, ownsTc c (yr 0) fullShare X)
    ∗ atPos ER (dcell c 0 0) 0 ∅ 0 ∗ atPos ER (dcell c 1 0) 0 ∅ 0 ∗ atPos ER (dcell c 2 0) 0 ∅ 0 ∗ atPos ER (dcell c 3 0) 0 ∅ 0)

set_option maxHeartbeats 1600000 in
/-- The blocks, the opened semaphores and the arrays are what the body starts from. -/
theorem start_of : iprop(opened (F := F) c ∗ scratch c ∗ given G c ∗ (∃ o, ownsTc c bOut fullShare o) ∗ ow c (O₀ c))
    ⊢ iprop(start G c ∗ aside c) := by
  iintro ⟨Ho, Hs, Hg, Hout, HO⟩
  ihave Hb := (scratch_cut c) $$ Hs
  unfold opened blocks toks creds
  icases Hb with ⟨⟨Hx0, Hx⟩, ⟨Hr0, Hr⟩, ⟨Hy0, Hy⟩, Hz0, Hz1⟩
  icases Ho with ⟨Ha, Hp, Ht, Hcb, Hc1, Hc3⟩
  ihave Hp := (Entails.of_eq (univ_fam (F := F) (fun p => iprop(atPos ER (dcell c p.1 p.2) 0 ∅ 0 ∗ reached ER (dcell c p.1 p.2) 0)))) $$ Hp
  icases Hp with ⟨⟨⟨⟨Ha00, -⟩, Hp0⟩, ⟨⟨Ha10, -⟩, Hp1⟩⟩, ⟨⟨Ha20, -⟩, Hp2⟩, ⟨⟨Ha30, -⟩, Hp3⟩⟩
  have eq4 : iprop(bigSepL ups (fun k => iprop(atPos ER (dcell c 0 k) 0 ∅ 0 ∗ reached ER (dcell c 0 k) 0))
        ∗ bigSepL ups (fun k => iprop(atPos ER (dcell c 1 k) 0 ∅ 0 ∗ reached ER (dcell c 1 k) 0))
        ∗ bigSepL ups (fun k => iprop(atPos ER (dcell c 2 k) 0 ∅ 0 ∗ reached ER (dcell c 2 k) 0))
        ∗ bigSepL ups (fun k => iprop(atPos ER (dcell c 3 k) 0 ∅ 0 ∗ reached ER (dcell c 3 k) 0))
        ∗ bigSepL ups (fun k => iprop(∃ X, ownsTc c (xs k) fullShare X)) ∗ bigSepL ups (fun k => iprop(∃ X, ownsTc c (rc k) fullShare X))
        ∗ bigSepL ups (fun k => iprop(∃ X, ownsTc c (yr k) fullShare X))
        ∗ bigSepL ups (fun j => cred (tallyAt (dcell c 1 j) () N1)) ∗ bigSepL ups (fun j => cred (tallyAt (dcell c 3 j) () N2))
        ∗ bigSepL ups (fun k => iprop(dutyTok ER (barCell (pr c k)) 0 k ∗ dutyTok ER (dcell c 0 k) 0 0 ∗ dutyTok ER (dcell (pr c k) 1 (-k)) 0 0
          ∗ dutyTok ER (dcell c 2 k) 0 0 ∗ dutyTok ER (dcell (pr c k) 3 (-k)) 0 0)))
      ⊢ (iprop(bigSepL ups (sigA c) ∗ bigSepL ups (sendOwn c) ∗ bigSepL ups (recvA c) ∗ bigSepL ups (retOwn c) ∗ bigSepL ups (takeA c)) : sProp 𝕄) := by
    simp only [← list_sep]
    refine bigSepL_mono fun k _ => ?_
    unfold sigA sendOwn recvA retOwn takeA
    show iprop(_ ∗ _) ⊢ iprop(_ ∗ _)
    iintro ⟨⟨A0, R0⟩, ⟨A1, #R1⟩, ⟨A2, R2⟩, ⟨A3, #R3⟩, X, R, Y, C1, C3, T0, T1, T2, T3, T4⟩
    isplitl [T0 R Y]
    · isplitl [T0]; · iexact T0
      isplitl [R]; · iexact R
      isplitl [Y]; · iexact Y
      isplitl []; · iexact R1
      iexact R3
    isplitl [X T1 R0 T2 A0]
    · isplitl [X]; · iexact X
      isplitl [T1]; · iexact T1
      isplitl [R0]; · iexact R0
      isplitl [T2] <;> iassumption
    isplitl [C1 A1]
    · isplitl [C1] <;> iassumption
    isplitl [T3 R2 T4 A2]
    · isplitl [T3]; · iexact T3
      isplitl [R2]; · iexact R2
      isplitl [T4] <;> iassumption
    isplitl [C3] <;> iassumption
  ihave Hall := eq4 $$ [Hp0 Hp1 Hp2 Hp3 Hx Hr Hy Hc1 Hc3 Ht]
  · isplitl [Hp0]; · iexact Hp0
    isplitl [Hp1]; · iexact Hp1
    isplitl [Hp2]; · iexact Hp2
    isplitl [Hp3]; · iexact Hp3
    isplitl [Hx]; · iexact Hx
    isplitl [Hr]; · iexact Hr
    isplitl [Hy]; · iexact Hy
    isplitl [Hc1]; · iexact Hc1
    isplitl [Hc3]; · iexact Hc3
    iexact Ht
  unfold start aside
  isplitr [Hr0 Hy0 Ha00 Ha10 Ha20 Ha30]
  · isplitl [Hg]; · iexact Hg
    isplitl [Hout]; · iexact Hout
    isplitl [Hx0]; · iexact Hx0
    isplitl [Hz0]; · iexact Hz0
    isplitl [Hz1]; · iexact Hz1
    isplitl [HO]; · iexact HO
    isplitl [Hcb]; · iexact Hcb
    isplitl [Ha]; · iexact Ha
    iexact Hall
  isplitl [Hr0]; · iexact Hr0
  isplitl [Hy0]; · iexact Hy0
  isplitl [Ha00]; · iexact Ha00
  isplitl [Ha10]; · iexact Ha10
  isplitl [Ha20] <;> iassumption

/-- Semaphores other than the zeroth stand at round 1. -/
theorem over_ups (a : Fin 4) : (bigSepL ups fun k => (atPos ER (dcell c a k) 1 ∅ 0 : sProp 𝕄)) ⊢ bigSepL ups fun k => over c (a, k) :=
  Entails.of_eq (by
    rw [← bigSep_eq_bigSepL_of_eq (S := Finset.univ.erase 0) ups (by decide) (by decide), ← bigSep_eq_bigSepL_of_eq (S := Finset.univ.erase 0) ups (by decide) (by decide)]
    exact bigSep_congr fun k hk => by
      unfold over
      rw [if_neg (show ¬ (a, k).2 = 0 from Finset.ne_of_mem_erase hk)])

/-- The zeroth stands at round 0. -/
theorem over_zero (a : Fin 4) : (atPos ER (dcell c a 0) 0 ∅ 0 : sProp 𝕄) ⊢ over c (a, 0) := by
  unfold over
  rw [if_pos rfl]

set_option maxHeartbeats 1600000 in
/-- What the body ends with is the scratch buffers, the positions at every semaphore, and the arrays. -/
theorem finish_of : iprop(finish G c ∗ aside c)
    ⊢ iprop((atPos ER (barCell c) 1 ∅ 0 ∗ bigSep Finset.univ (over (F := F) c)) ∗ scratch c ∗ given G c
      ∗ ownsTc c bOut fullShare (outEnd G c) ∗ ow c 0) := by
  unfold finish aside
  iintro ⟨⟨Hg, Hout, Hx0, Hz0, Hz1, HO, Ha, Hgone, Hrecv, Ha2, Htake⟩, Hr0, Hy0, Ha00, Ha10, Ha20, Ha30⟩
  ihave Hgone := (show bigSepL ups (goneB c) ⊢ iprop(_ ∗ _) from Entails.of_eq (list_sep ups (fun k => atPos ER (dcell c 0 k) 1 ∅ 0) (fun k => iprop(∃ X, ownsTc c (xs k) fullShare X)))) $$ Hgone
  icases Hgone with ⟨Ha0, Hx⟩
  ihave Hrecv := (show bigSepL ups (recvB c) ⊢ iprop(_ ∗ _) from Entails.of_eq (list_sep ups (fun k => atPos ER (dcell c 1 k) 1 ∅ 0) (fun k => iprop(∃ X, ownsTc c (rc k) fullShare X)))) $$ Hrecv
  icases Hrecv with ⟨Ha1, Hr⟩
  ihave Htake := (show bigSepL ups (takeB c) ⊢ iprop(_ ∗ _) from Entails.of_eq (list_sep ups (fun k => atPos ER (dcell c 3 k) 1 ∅ 0) (fun k => iprop(∃ X, ownsTc c (yr k) fullShare X)))) $$ Htake
  icases Htake with ⟨Ha3, Hy⟩
  isplitl [Ha Ha00 Ha10 Ha20 Ha30 Ha0 Ha1 Ha2 Ha3]
  · isplitl [Ha]; · iexact Ha
    iapply (Entails.of_eq (univ_fam (F := F) (over c)).symm)
    isplitl [Ha00 Ha10 Ha0 Ha1]
    · isplitl [Ha00 Ha0]
      · isplitl [Ha00]; · iapply (over_zero c 0) $$ Ha00
        iapply (over_ups c 0) $$ Ha0
      isplitl [Ha10]; · iapply (over_zero c 1) $$ Ha10
      iapply (over_ups c 1) $$ Ha1
    isplitl [Ha20 Ha2]
    · isplitl [Ha20]; · iapply (over_zero c 2) $$ Ha20
      iapply (over_ups c 2) $$ Ha2
    isplitl [Ha30]; · iapply (over_zero c 3) $$ Ha30
    iapply (over_ups c 3) $$ Ha3
  isplitl [Hx0 Hx Hr0 Hr Hy0 Hy Hz0 Hz1]
  · iapply (scratch_join c)
    unfold blocks
    isplitl [Hx0 Hx]; · isplitl [Hx0] <;> iassumption
    isplitl [Hr0 Hr]; · isplitl [Hr0] <;> iassumption
    isplitl [Hy0 Hy]; · isplitl [Hy0] <;> iassumption
    isplitl [Hz0] <;> iassumption
  isplitl [Hg]; · iexact Hg
  isplitl [Hout] <;> iassumption

/-- The body from the opened semaphores and whole buffers to everything given back. -/
theorem whole_run :
    iprop(ctx (chunkOf G) (returned G) K ∗ opened (F := F) c ∗ scratch c ∗ given G c ∗ (∃ o, ownsTc c bOut fullShare o) ∗ ow c (O₀ c))
      ⊢ WP c (body bVal bFlat bX bSw bEw bOut (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7)
        (fun _ => iprop((semVal (barCell c) 0 ∗ Pipeline.ownSems0 osem c) ∗ scratch c ∗ given G c
          ∗ ownsTc c bOut fullShare (outEnd G c) ∗ ow c 0)) := by
  iintro ⟨#Hc, H⟩
  ihave H := (start_of G c) $$ H
  icases H with ⟨Hs, Hx⟩
  ihave Hwp := (body_run G K c) $$ [Hs]
  · isplitr; · iexact Hc
    iexact Hs
  iapply (wp_fupd (Fr := frame) (wpE := wpE (defs₀ (F := F)) 𝒱₀ (c : Thread nD τ) none) (E := Set.univ))
  iapply (wp_wand frame (wpE (defs₀ (F := F)) 𝒱₀ (c : Thread nD τ) none) Set.univ) $$ Hwp
  iintro %_ Hf
  ihave H := (finish_of G c) $$ [Hf Hx]
  · isplitl [Hf] <;> iassumption
  icases H with ⟨⟨Ha, Hp⟩, H⟩
  imod (close_all (chunkOf G) (returned G) K c) $$ [Ha Hp] with Hv
  · isplitr; · iexact Hc
    isplitl [Ha] <;> iassumption
  imodintro
  isplitl [Hv]; · iexact Hv
  iexact H

end Cert.KernelIdeal

end
-- ==== Proof.Deal.lean ====
module

public import proofs.«01_k».proof.Proof.Store
public import Idealize.ShloMosaic.Lib.Pipeline.Kit

/-! What the launch deals to the devices: the cells of the protocol, the tokens of its duties, each to the device
that pays the duty, and the credits that the devices' debts come to at each cell. -/

@[expose] public section

set_option maxRecDepth 65536

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

/-! ## The cells and the tokens -/

/-- The barrier semaphore is none of the copies' semaphores. -/
theorem bar_ne_own (p : Fin 4 × Fin 16) : (SemLoc.reg barS : SemLoc sig) ≠ osem p := nofun

/-- Semaphores of different families or numbers differ. -/
theorem dsem_inj {a b : Fin 4} {j k : Fin 16} (h : dsem a j = dsem b k) : a = b ∧ j = k := by
  have h' : some (a, j) = some (b, k) := by rw [← fam_dsem, ← fam_dsem, h]
  exact ⟨congrArg Prod.fst (Option.some.inj h'), congrArg Prod.snd (Option.some.inj h')⟩

/-- The list of the kernel's own semaphores has no repetition. -/
theorem osem_inj : Function.Injective osem := fun p q h => by
  have := dsem_inj (SemLoc.dma.inj h)
  exact Prod.ext this.1 this.2

/-- The barrier cells. -/
def barEmb : Dev nD ↪ GSem nD τ sig := ⟨fun c => barCell c, fun _ _ h => congrArg (fun g : GSem nD τ sig => g.1.1) h⟩
/-- The cells of the kernel's own semaphores. -/
def ownEmb : Dev nD × Fin 4 × Fin 16 ↪ GSem nD τ sig :=
  ⟨fun x => dcell x.1 x.2.1 x.2.2, fun _ _ h =>
    Prod.ext (congrArg (fun g : GSem nD τ sig => g.1.1) h) (osem_inj (congrArg (fun g : GSem nD τ sig => g.2) h))⟩

abbrev barCells : Finset (GSem nD τ sig) := Finset.univ.map barEmb
abbrev ownCells : Finset (GSem nD τ sig) := Finset.univ.map ownEmb

/-- No barrier cell is a cell of a copy's semaphore. -/
theorem cells_disjoint : Disjoint barCells ownCells := by
  rw [Finset.disjoint_left]
  intro g h h'
  obtain ⟨c, -, rfl⟩ := Finset.mem_map.mp h
  obtain ⟨x, -, e⟩ := Finset.mem_map.mp h'
  exact bar_ne_own x.2 (congrArg (fun g : GSem nD τ sig => g.2) e).symm

/-- The tokens of the barriers' duties. -/
def barTok : Dev nD × Fin 16 ↪ GSem nD τ sig × ℕ × Fin 16 :=
  ⟨fun x => (barCell x.1, 0, x.2), fun _ _ h =>
    Prod.ext (congrArg (fun t : GSem nD τ sig × ℕ × Fin 16 => t.1.1.1) h) (congrArg (fun t : GSem nD τ sig × ℕ × Fin 16 => t.2.2) h)⟩
/-- The tokens of the other duties. -/
def ownTok : Dev nD × Fin 4 × Fin 16 ↪ GSem nD τ sig × ℕ × Fin 16 :=
  ⟨fun x => (dcell x.1 x.2.1 x.2.2, 0, 0), fun _ _ h => ownEmb.injective (congrArg Prod.fst h)⟩

def allToks : Finset (GSem nD τ sig × ℕ × Fin 16) := Finset.univ.map barTok ∪ Finset.univ.map ownTok

/-- No token of a barrier's duty is a token of another duty. -/
theorem toks_disjoint : Disjoint (Finset.univ.map barTok) (Finset.univ.map ownTok) := by
  rw [Finset.disjoint_left]
  intro t h h'
  obtain ⟨c, -, rfl⟩ := Finset.mem_map.mp h
  obtain ⟨x, -, e⟩ := Finset.mem_map.mp h'
  exact bar_ne_own x.2 (congrArg (fun t : GSem nD τ sig × ℕ × Fin 16 => t.1.2) e).symm

/-- Who pays a unit of a barrier: `(c, k)` pays unit `k` of the barrier of the device `k` further on. -/
def barDeal : Dev nD × Fin 16 ≃ Dev nD × Fin 16 where
  toFun x := (pr x.1 x.2, x.2)
  invFun x := (pr x.1 (-x.2), x.2)
  left_inv x := Prod.ext (pr_neg x.1 x.2) rfl
  right_inv x := Prod.ext (pr_neg' x.1 x.2) rfl

/-- Who pays the other duties: those of sending are the sender's own, those of receiving are the peer's. -/
def ownDeal : Dev nD × Fin 4 × Fin 16 ≃ Dev nD × Fin 4 × Fin 16 where
  toFun x := if x.2.1 = 1 ∨ x.2.1 = 3 then (pr x.1 x.2.2, x.2.1, -x.2.2) else x
  invFun x := if x.2.1 = 1 ∨ x.2.1 = 3 then (pr x.1 x.2.2, x.2.1, -x.2.2) else x
  left_inv x := by
    by_cases h : x.2.1 = 1 ∨ x.2.1 = 3
    · simp only [if_pos h]; rw [pr_neg, neg_neg16]
    · simp only [if_neg h]
  right_inv x := by
    by_cases h : x.2.1 = 1 ∨ x.2.1 = 3
    · simp only [if_pos h]; rw [pr_neg, neg_neg16]
    · simp only [if_neg h]

/-- Every token to the device that pays the duty. -/
theorem toks_dealt : bigSep allToks (fun t => (dutyTok ER t.1 t.2.1 t.2.2 : sProp 𝕄))
    ⊢ bigSep Finset.univ fun c : Dev nD => bigSepL ups (toks (F := F) c) := by
  have e1 : bigSep Finset.univ (fun x : Dev nD × Fin 16 => (dutyTok ER (barCell x.1) 0 x.2 : sProp 𝕄))
      = bigSep Finset.univ fun c : Dev nD => bigSep Finset.univ fun k => dutyTok ER (barCell (pr c k)) 0 k := by
    rw [bigSep_univ_equiv barDeal, bigSep_univ_prod]
    rfl
  have e2 : bigSep Finset.univ (fun x : Dev nD × Fin 4 × Fin 16 => (dutyTok ER (dcell x.1 x.2.1 x.2.2) 0 0 : sProp 𝕄))
      = bigSep Finset.univ fun c : Dev nD => bigSep Finset.univ fun p : Fin 4 × Fin 16 =>
        dutyTok ER (dcell (ownDeal (c, p)).1 (ownDeal (c, p)).2.1 (ownDeal (c, p)).2.2) 0 0 := by
    rw [bigSep_univ_equiv ownDeal, bigSep_univ_prod]
  unfold allToks
  rw [bigSep_union toks_disjoint, bigSep_map, bigSep_map]
  show iprop(bigSep Finset.univ (fun x : Dev nD × Fin 16 => (dutyTok ER (barCell x.1) 0 x.2 : sProp 𝕄))
    ∗ bigSep Finset.univ (fun x : Dev nD × Fin 4 × Fin 16 => (dutyTok ER (dcell x.1 x.2.1 x.2.2) 0 0 : sProp 𝕄))) ⊢ _
  rw [e1, e2, ← bigSep_sep']
  refine bigSep_mono fun c _ => ?_
  rw [univ_ups, univ_fam]
  have e4 : iprop(bigSepL ups (fun k => (dutyTok ER (barCell (pr c k)) 0 k : sProp 𝕄)) ∗ bigSepL ups (fun k => dutyTok ER (dcell c 0 k) 0 0)
        ∗ bigSepL ups (fun k => dutyTok ER (dcell (pr c k) 1 (-k)) 0 0) ∗ bigSepL ups (fun k => dutyTok ER (dcell c 2 k) 0 0)
        ∗ bigSepL ups (fun k => dutyTok ER (dcell (pr c k) 3 (-k)) 0 0)) ⊢ bigSepL ups (toks c) := by
    simp only [← list_sep]
    exact bigSepL_mono fun k _ => .rfl
  refine BIBase.Entails.trans (Q := _) ?_ e4
  iintro ⟨⟨-, H0⟩, ⟨⟨-, H1⟩, ⟨-, H2⟩⟩, ⟨-, H3⟩, ⟨-, H4⟩⟩
  isplitl [H0]; · iexact H0
  isplitl [H1]; · iexact H1
  isplitl [H2]; · iexact H2
  isplitl [H3]; · iexact H3
  iexact H4

/-! ## The credits -/

/-- `c` is `k` places after `d` exactly when `d` is `k` places before `c`. -/
theorem pr_eq_iff {d c : Dev nD} {k : Fin 16} : pr d k = c ↔ d = pr c (-k) :=
  ⟨fun h => by rw [← h, pr_neg], fun h => by rw [h, pr_neg']⟩

/-- The tally of a list of equal debts at a cell: `n` for every member whose cell it is. -/
theorem sum_tally {β : Type} (f : β → GSem nD τ sig) (n : ℕ) (l : List β) (g : GSem nD τ sig) :
    (l.map fun k => (tallyAt (f k) () n : CellTallies nD τ sig Unit)).sum g () = (l.map fun k => if g = f k then n else 0).sum := by
  induction l with
  | nil => rfl
  | cons k l ih =>
    rw [List.map_cons, List.sum_cons, List.map_cons, List.sum_cons, ← ih, Pi.add_apply, Finsupp.add_apply, tallyAt_apply]
    simp only [and_true]

/-- A sum over the devices of the sum of a list is the sum of the list of the sums over the devices. -/
theorem sum_swap {β : Type} (f : Dev nD → β → ℕ) (l : List β) :
    (∑ d, (l.map fun k => f d k).sum) = (l.map fun k => ∑ d, f d k).sum := by
  induction l with
  | nil => exact Finset.sum_const_zero
  | cons k l ih => simp only [List.map_cons, List.sum_cons, Finset.sum_add_distrib, ih]

/-- Two devices' barrier cells are equal only if the devices are. -/
theorem bar_eq {c d : Dev nD} : barCell c = barCell d ↔ d = c :=
  ⟨fun h => (congrArg (fun g : GSem nD τ sig => g.1.1) h).symm, fun h => by rw [h]⟩
/-- Two cells of copies' semaphores are equal only if device, family and number are. -/
theorem dcell_eq {c d : Dev nD} {a b : Fin 4} {j k : Fin 16} : dcell c a j = dcell d b k ↔ d = c ∧ a = b ∧ j = k :=
  ⟨fun h => ⟨(congrArg (fun g : GSem nD τ sig => g.1.1) h).symm, dsem_inj (SemLoc.dma.inj (congrArg (fun g : GSem nD τ sig => g.2) h))⟩,
    fun ⟨h, h', h''⟩ => by rw [h, h', h'']⟩
/-- A barrier cell is no cell of a copy's semaphore. -/
theorem bar_ne_dcell (c d : Dev nD) (a : Fin 4) (k : Fin 16) : barCell c ≠ dcell d a k :=
  fun h => bar_ne_own (a, k) (congrArg (fun g : GSem nD τ sig => g.2) h)

/-- Exactly one device has `c` as its peer `k`, so a sum over the devices of what only that one gives is that. -/
theorem sum_one (c : Dev nD) (k : Fin 16) (p : Prop) [Decidable p] (n : ℕ) :
    (∑ d : Dev nD, if pr d k = c ∧ p then n else 0) = if p then n else 0 := by
  by_cases hp : p
  · simp only [hp, and_true, if_true, pr_eq_iff]
    rw [Finset.sum_ite_eq' Finset.univ (pr c (-k)) fun _ => n, if_pos (Finset.mem_univ _)]
  · simp only [hp, and_false, if_false, Finset.sum_const_zero]

/-- A list in which the members equal to `-j` give `n` each sums to their number times `n`. -/
theorem pick (l : List (Fin 16)) (j : Fin 16) (n : ℕ) :
    (l.map fun k => if j = -k then n else 0).sum = (l.map fun k => if j = -k then 1 else 0).sum * n := by
  induction l with
  | nil => exact (Nat.zero_mul n).symm
  | cons k l ih =>
    rw [List.map_cons, List.sum_cons, List.map_cons, List.sum_cons, ih, Nat.add_mul]
    split
    · rw [Nat.one_mul]
    · rw [Nat.zero_mul]

/-- What device `d` owes at a cell: a barrier's units, the chunks' credits and the returns' credits. -/
theorem owed_apply (d : Dev nD) (g : GSem nD τ sig) : O₀ d g () = (ups.map fun k => if g = barCell (pr d k) then 1 else 0).sum
    + ((ups.map fun k => if g = dcell (pr d k) 1 (-k) then N1 else 0).sum + (downs.map fun k => if g = dcell (pr d k) 3 (-k) then N2 else 0).sum) := by
  unfold O₀ owB owX owY
  rw [Pi.add_apply, Finsupp.add_apply, Pi.add_apply, Finsupp.add_apply, sum_tally, sum_tally, sum_tally]

/-- A list of zeros sums to zero. -/
theorem zeros {β : Type} (l : List β) : (l.map fun _ => 0).sum = 0 := by
  induction l with
  | nil => rfl
  | cons _ l ih => rw [List.map_cons, List.sum_cons, ih]

/-- All devices together owe a barrier 15 units, -/
theorem owed_bar (c : Dev nD) : ∑ d, O₀ d (barCell c) () = 15 := by
  simp only [owed_apply, bar_ne_dcell, bar_eq, if_false, zeros, Nat.add_zero]
  rw [sum_swap]
  have h (k : Fin 16) : (∑ d : Dev nD, if pr d k = c then 1 else 0) = 1 := by
    have := sum_one c k True 1
    simpa only [and_true, if_true] using this
  simp only [h]
  rfl

/-- a dispatch one chunk, -/
theorem owed_dispatch (c : Dev nD) {j : Fin 16} (hj : j ≠ 0) : ∑ d, O₀ d (dcell c 1 j) () = N1 := by
  simp only [owed_apply, (bar_ne_dcell _ _ _ _).symm, dcell_eq, if_false, zeros, Nat.add_zero, Nat.zero_add,
    show ((1 : Fin 4) = 3) = False from by decide, false_and, and_false, true_and]
  rw [sum_swap]
  simp only [sum_one]
  rw [pick, show (ups.map fun k => if j = -k then 1 else 0).sum = 1 by revert j; decide, Nat.one_mul]

/-- and a return one. -/
theorem owed_return (c : Dev nD) {j : Fin 16} (hj : j ≠ 0) : ∑ d, O₀ d (dcell c 3 j) () = N2 := by
  simp only [owed_apply, (bar_ne_dcell _ _ _ _).symm, dcell_eq, if_false, zeros, Nat.add_zero, Nat.zero_add,
    show ((3 : Fin 4) = 1) = False from by decide, false_and, and_false, true_and]
  rw [sum_swap]
  simp only [sum_one]
  rw [pick, show (downs.map fun k => if j = -k then 1 else 0).sum = 1 by revert j; decide, Nat.one_mul]

/-- The launch credit of a cell to which all devices owe `n`. -/
theorem credit_of {g : GSem nD τ sig} {n : ℕ} (h : ∑ d, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

/-- The barrier semaphore is not among the kernel's own semaphores. -/
theorem bar_notMem : SemLoc.reg barS ∉ (Finset.univ.map ⟨osem, osem_inj⟩ : Finset (SemLoc sig)) := fun h => by
  obtain ⟨p, -, e⟩ := Finset.mem_map.mp h
  exact bar_ne_own p e.symm

/-- The launch's credits of a device are those it is owed. -/
theorem creds_dealt (c : Dev nD) : (Pipeline.launchCred O₀ c : sProp 𝕄) ⊢ creds c := by
  unfold Pipeline.launchCred creds
  refine (bigSep_subset (t := insert (SemLoc.reg barS) (Finset.univ.map ⟨osem, osem_inj⟩)) (Finset.subset_univ _)).trans ?_
  rw [bigSep_insert bar_notMem, bigSep_map]
  show iprop(_ ∗ bigSep Finset.univ fun p : Fin 4 × Fin 16 =>
    cred (tallyOn (dcell c p.1 p.2) (launchCredit (Pipeline.owing O₀) 0 (dcell c p.1 p.2)))) ⊢ _
  rw [univ_fam, credit_of (owed_bar c)]
  iintro ⟨Hb, ⟨-, ⟨-, H1⟩⟩, -, ⟨-, H3⟩⟩
  isplitl [Hb]; · iexact Hb
  have hk : ∀ k ∈ ups, k ≠ 0 := fun k hk => ups_ne hk
  have m1 : bigSepL ups (fun k => (cred (tallyOn (dcell c 1 k) (launchCredit (Pipeline.owing O₀) 0 (dcell c 1 k))) : sProp 𝕄))
      ⊢ bigSepL ups fun j => cred (tallyAt (dcell c 1 j) () N1) :=
    bigSepL_mono fun k h => by rw [credit_of (owed_dispatch c (hk k h))]
  have m3 : bigSepL ups (fun k => (cred (tallyOn (dcell c 3 k) (launchCredit (Pipeline.owing O₀) 0 (dcell c 3 k))) : sProp 𝕄))
      ⊢ bigSepL ups fun j => cred (tallyAt (dcell c 3 j) () N2) :=
    bigSepL_mono fun k h => by rw [credit_of (owed_return c (hk k h))]
  isplitl [H1]
  · iapply m1 $$ H1
  iapply m3 $$ H3

end Cert.KernelIdeal

end
-- ==== Proof.RegionData.lean ====
module

public import proofs.«01_k».proof.Proof.BodyEq
public import proofs.«01_k».proof.Proof.Store
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.Value

/-! The data of the kernel call as one region of the program: its arrays before and after, what the kernel owes, and
what its buffers hold when it starts. -/

@[expose] public section

set_option maxRecDepth 65536

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Facts₀ Facts
open Gen (V0 V11 adm N_0 t0_0 fin_N0)

variable {F : FTy → Type} [FloatOps F]

local notation "𝕄" => MT nD τ sig Unit (Elt F) ℕ UU ℕ

variable (m : (ℓ : Loc nD τ sig) → Buf (Elt F) ℓ)

/-- Device `c`'s buffers when the host operations before the kernel are done. -/
def VV (c : Dev nD) : Valuation τ sig (Elt F) := V11 m c

/-- What each device's kernel is given: what the host operations before it left. -/
def GG (c : Dev nD) : Given F where
  val := VV m c main_v59
  flat := VV m c main_v60
  x := VV m c main_v61
  sw := VV m c main_v62
  ew := VV m c main_v63

/-- What device `c` ends with. -/
def result (c : Dev nD) : Vec F S2048x1024 .f32 := outEnd (GG m) c

/-- The buffers after the kernel: its result array holds what the device ends with. -/
abbrev Vend (c : Dev nD) : Valuation τ sig (Elt F) := Function.update (VV m c) main_v64 (result m c)

/-- The protocol's part of what a device enters the kernel with, before its semaphores are taken in, -/
def Tk (c : Dev nD) : sProp 𝕄 := iprop(∃ K, ctx (chunkOf (GG m)) (returned (GG m)) K ∗ unopened c)
/-- and after. -/
def Xk (c : Dev nD) : sProp 𝕄 := iprop(∃ K, ctx (chunkOf (GG m)) (returned (GG m)) K ∗ opened c)
/-- What of it leaves the kernel: the barrier at zero. -/
def Yk (c : Dev nD) : sProp 𝕄 := semVal (barCell c) 0

/-- The kernel's own state before its one point (`0`) and after it. -/
def around (c : Dev nD) (n : ℕ) : sProp 𝕄 :=
  if n = 0 then iprop(Xk m c ∗ scratch c ∗ ∃ r, prngReg c r)
  else iprop((semVal (barCell c) 0 ∗ Pipeline.ownSems0 osem c) ∗ scratch c ∗ ∃ r, prngReg c r)

/-- The region's data: each array it reads as the host left it and unchanged by the body, its result array what the device ends with;
it starts owing `O₀` and ends owing nothing. -/
def dat (c : Dev nD) : Dat τ (Elt F) Unit ℕ UU ℕ cfg0 c where
  A w := VV m c (Proc.devRef .tc (Pipeline.arrRef spec0 w))
  after w _ := match w with
    | 0 => (GG m c).val
    | 1 => (GG m c).flat
    | 2 => (GG m c).x
    | 3 => (GG m c).sw
    | 4 => (GG m c).ew
    | 5 => result m c
    | ⟨_ + 6, h⟩ => absurd h (Nat.not_lt.2 (Nat.le_add_left _ _))
  Φ t := around m c t.val
  q _ := fullShare
  owed t := if t.val = 0 then O₀ c else 0

def pdats : (p : Fin 1) → (c : Dev nD) → Dat τ (Elt F) Unit ℕ UU ℕ (Pipeline.pin (pcfgs (F := F)) adm p) c
  | 0 => dat m

/-- Before the kernel's one point a device owes everything. -/
theorem owed_start (c : Dev nD) (t : Fin cfg0.N) : (dat m c).owed t.castSucc = O₀ c := by
  obtain rfl := fin_N0 t
  show (if (t0_0.castSucc : Fin (cfg0.N + 1)).val = 0 then O₀ c else 0) = O₀ c
  exact if_pos rfl
/-- After it a device owes nothing. -/
theorem owed_end (c : Dev nD) (t : Fin cfg0.N) : (dat m c).owed t.succ = 0 := by
  show (if (t.succ : Fin (cfg0.N + 1)).val = 0 then O₀ c else 0) = 0
  exact if_neg (by rw [Fin.val_succ]; exact Nat.succ_ne_zero _)
/-- Before the point the kernel's state is the protocol's state and the scratch buffers. -/
theorem phi_start (c : Dev nD) (t : Fin cfg0.N) : (dat m c).Φ t.castSucc = iprop(Xk m c ∗ scratch c ∗ ∃ r, prngReg c r) := by
  obtain rfl := fin_N0 t
  exact show around m c 0 = _ from if_pos rfl
/-- After the point it is the semaphores at zero and the scratch buffers. -/
theorem phi_end (c : Dev nD) (t : Fin cfg0.N) : (dat m c).Φ t.succ
    = iprop((semVal (barCell c) 0 ∗ Pipeline.ownSems0 osem c) ∗ scratch c ∗ ∃ r, prngReg c r) := by
  show around m c (t.succ : Fin (cfg0.N + 1)).val = _
  unfold around
  exact if_neg (by rw [Fin.val_succ]; exact Nat.succ_ne_zero _)

/-- The core's debts at a point, whatever it has waited on, are what the region's data say. -/
theorem owes_of (c : Dev nD) (t : Fin (cfg0.N + 1)) : ow c ((dat m c).owed t) ⊢ ((dat m c).owesAt () t : sProp 𝕄) := by
  unfold Dat.owesAt Pipeline.owesWithin Dat.bound ow
  iintro ⟨%W, H⟩
  iexists W
  isplitr
  · ipureintro; exact fun _ _ => Or.inl trivial
  iexact H
/-- A device's debts as the region states them are debts whatever it has waited on. -/
theorem owes_to (c : Dev nD) (t : Fin (cfg0.N + 1)) : ((dat m c).owesAt () t : sProp 𝕄) ⊢ ow c ((dat m c).owed t) := by
  unfold Dat.owesAt Pipeline.owesWithin ow
  iintro ⟨%W, -, H⟩
  iexists W
  iexact H

set_option maxHeartbeats 1600000 in
/-- A window over a whole array reads all of it. -/
theorem found (c : Dev nD) (t : Fin cfg0.N) (d0 d1 d2 d3 d4) :
    (dat m c).before 0 t d0 = (GG m c).val ∧ (dat m c).before 1 t d1 = (GG m c).flat ∧ (dat m c).before 2 t d2 = (GG m c).x
      ∧ (dat m c).before 3 t d3 = (GG m c).sw ∧ (dat m c).before 4 t d4 = (GG m c).ew := by
  rw [(dat m c).before_fetched 0 t (Gen.fetch0_0 t), (dat m c).before_fetched 1 t (Gen.fetch0_1 t),
    (dat m c).before_fetched 2 t (Gen.fetch0_2 t), (dat m c).before_fetched 3 t (Gen.fetch0_3 t), (dat m c).before_fetched 4 t (Gen.fetch0_4 t)]
  obtain rfl := fin_N0 t
  refine ⟨?_, ?_, ?_, ?_, ?_⟩
  · exact View.ld_unit_zero (funext fun a => Nat.zero_mul _) _ (VV m c main_v59)
  · exact View.ld_unit_zero (funext fun a => Nat.zero_mul _) _ (VV m c main_v60)
  · exact View.ld_unit_zero (funext fun a => Nat.zero_mul _) _ (VV m c main_v61)
  · exact View.ld_unit_zero (funext fun a => Nat.zero_mul _) _ (VV m c main_v62)
  · exact View.ld_unit_zero (funext fun a => Nat.zero_mul _) _ (VV m c main_v63)

end Cert.KernelIdeal

end
-- ==== Proof.Region.lean ====
module

public import proofs.«01_k».proof.Proof.RegionData

/-! The kernel call as one region of the program: its arrays before and after, the body at its one point, and
what enters and leaves it. -/

@[expose] public section

set_option maxRecDepth 65536

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Facts₀ Facts
open Gen (V0 V11 adm N_0 t0_0 fin_N0)

variable {F : FTy → Type} [FloatOps F]

local notation "𝕄" => MT nD τ sig Unit (Elt F) ℕ UU ℕ

variable (m : (ℓ : Loc nD τ sig) → Buf (Elt F) ℓ)

set_option maxHeartbeats 1600000 in
/-- The body at the region's point. -/
theorem body_at (c : Dev nD) : BodyObligation (dat m c) defs₀ 𝒱₀ () Set.univ := fun t => by
  rw [Gen.bigSep_W0, Gen.bigSep_W0, phi_start, phi_end]
  have hb : (Gen.bodyAt0 t : Prog (TpuEff nD τ sig (Elt F) Λ₀ .tc) PUnit)
      = body bVal bFlat bX bSw bEw bOut (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 := by
    obtain rfl := fin_N0 t
    exact body_eq ..
  unfold Xk
  iintro ⟨⟨⟨%K, #Hc, Ho⟩, Hs, Hreg⟩, HO, ⟨%d0, H0⟩, ⟨%d1, H1⟩, ⟨%d2, H2⟩, ⟨%d3, H3⟩, ⟨%d4, H4⟩, ⟨%d5, H5⟩⟩
  ihave HO := (owes_to m c t.castSucc) $$ HO
  rw [owed_start]
  obtain ⟨e0, e1, e2, e3, e4⟩ := found m c t d0 d1 d2 d3 d4
  rw [e0, e1, e2, e3, e4]
  iapply (Entails.of_eq (congrArg (fun p => wp frame (wpE (defs₀ (F := F)) 𝒱₀ (c : Thread nD τ) none) Set.univ p _) hb.symm))
  ihave Hwp := (whole_run (GG m) K c) $$ [Ho Hs HO H0 H1 H2 H3 H4 H5]
  · isplitr; · iexact Hc
    isplitl [Ho]; · iexact Ho
    isplitl [Hs]; · iexact Hs
    isplitl [H0 H1 H2 H3 H4]
    · unfold given
      isplitl [H0]; · iexact H0
      isplitl [H1]; · iexact H1
      isplitl [H2]; · iexact H2
      isplitl [H3]; · iexact H3
      iexact H4
    isplitl [H5]; · iexists _; iexact H5
    iexact HO
  iapply (wp_wand frame (wpE (defs₀ (F := F)) 𝒱₀ (c : Thread nD τ) none) Set.univ) $$ Hwp
  iintro %_ ⟨Hv, Hs, Hg, Hout, HO⟩
  unfold given
  icases Hg with ⟨H0, H1, H2, H3, H4⟩
  isplitl [Hv Hs Hreg]
  · isplitl [Hv]; · iexact Hv
    isplitl [Hs]; · iexact Hs
    iexact Hreg
  isplitl [HO]
  · iapply (owes_of m c t.succ)
    rw [owed_end]
    iexact HO
  isplitl [H0]; · iexact H0
  isplitl [H1]; · iexact H1
  isplitl [H2]; · iexact H2
  isplitl [H3]; · iexact H3
  isplitl [H4]; · iexact H4
  iexact Hout

end Cert.KernelIdeal

end
-- ==== Proof.Segment.lean ====
module

public import proofs.«01_k».proof.Proof.Region

/-! The kernel call as a segment of the program, between the buffers the host operations leave and the buffers at
the end. -/

@[expose] public section

set_option maxRecDepth 65536

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Facts₀ Facts
open Gen (adm N_0 t0_0 fin_N0)

variable {F : FTy → Type} [FloatOps F]

local notation "𝕄" => MT nD τ sig Unit (Elt F) ℕ UU ℕ

variable (m : (ℓ : Loc nD τ sig) → Buf (Elt F) ℓ)

/-- The result's one block is all of its array. -/
theorem all_read (X : Vec F S2048x1024 .f32) : X = ((cfg0.win 5).blk t0_0).view.read (Elt F) X :=
  (View.ld_unit_zero (funext fun a => Nat.zero_mul _) _ X).symm

attribute [local irreducible] result in
/-- The whole result array is written: it ends at what the device ends with. -/
theorem written (c : Dev nD) : (dat m c).arrAt 5 cfg0.N = result m c := by
  refine (dat m c).arrAt_eq_of_cover 5 (result m c) (fun t _ => ?_) (fun i => ⟨t0_0, Gen.flush0_5 t0_0, ?_⟩)
  · obtain rfl := fin_N0 t
    exact all_read (result m c)
  · refine Finset.mem_map.mpr ⟨i, Finset.mem_univ _, funext fun a => Fin.ext ?_⟩
    show 0 * _ + 1 * (i a).val = (i a).val
    rw [Nat.zero_mul, Nat.zero_add, Nat.one_mul]

/-- An input array is left as it was. -/
theorem kept (c : Dev nD) (w : Fin cfg0.W) (hw : (cfg0.win w).isOut = false) : ∀ n, (dat m c).arrAt w n = (dat m c).A w
  | 0 => rfl
  | n + 1 => by
    show (if h : n < cfg0.N then (if (cfg0.win w).flush ⟨n, h⟩ then _ else (dat m c).arrAt w n) else (dat m c).arrAt w n) = _
    split
    · rw [(cfg0.win w).flush_in hw, if_neg Bool.false_ne_true]; exact kept c w hw n
    · exact kept c w hw n

/-- The arrays at the end are the buffers at the end. -/
theorem arrays_end (c : Dev nD) (w : Fin cfg0.W) : (dat m c).arrAt w cfg0.N = Vend m c (Proc.devRef .tc (Pipeline.arrRef spec0 w)) := by
  have hne : ∀ r : Ref sig .tc, r ≠ main_v64 → Vend m c r = VV m c r := fun r h =>
    Function.update_of_ne (StableHlo.devRef_ne_of_ne h) _ _
  match w with
  | 0 => exact (kept m c 0 rfl _).trans (hne main_v59 (by decide)).symm
  | 1 => exact (kept m c 1 rfl _).trans (hne main_v60 (by decide)).symm
  | 2 => exact (kept m c 2 rfl _).trans (hne main_v61 (by decide)).symm
  | 3 => exact (kept m c 3 rfl _).trans (hne main_v62 (by decide)).symm
  | 4 => exact (kept m c 4 rfl _).trans (hne main_v63 (by decide)).symm
  | 5 => exact (written m c).trans (Function.update_self (f := VV m c) (Proc.devRef .tc main_v64) (result m c)).symm
  | ⟨_ + 6, h⟩ => exact absurd h (Nat.not_lt.2 (Nat.le_add_left _ _))

/-- The buffers of the program that are not the kernel's arrays. -/
def others : Finset (DevRef τ sig) := Pipeline.ucRefs τ sig \ Pipeline.arrRefs (τ := τ) spec0

/-- A buffer that is none of the kernel's arrays is not its result. -/
theorem mem_others {b : DevRef τ sig} (h : b ∈ others) : b ≠ Proc.devRef .tc main_v64 := fun e =>
  (Finset.mem_sdiff.mp h).2 (by
    subst e
    exact Finset.mem_map_of_mem _ (Finset.mem_image_of_mem _ (Finset.mem_univ (5 : Fin 6))))

/-- The kernel's own semaphores are allocated by the call, are listed once each, and are none of the staging's. -/
theorem osem_facts : Pipeline.OwnSemFacts spec0 osem := by decide +kernel

/-- The semaphores the arrays are moved with stand at level 0. -/
theorem staging_level : ∀ (w : Fin 6) (s : Fin (spec0 w).nbuf), lev (.dma ((spec0 w).sem s)) = 0 := by decide +kernel

/-- Everything a device owes at the start stands above level 0. -/
theorem above_O₀ (c : Dev nD) : Above 0 (O₀ c) :=
  (above_owB c _).add ((above_owX (by decide) c _).add (above_owY (by decide) c _))

/-- Every debt at a point of the region stands above level 0. -/
theorem above_owed (c : Dev nD) (t : Fin (cfg0.N + 1)) : Above 0 ((dat m c).owed t) := by
  show Above 0 (if t.val = 0 then O₀ c else 0)
  split
  · exact above_O₀ c
  · exact Above.zero 0

/-- The kernel's semaphores are taken into the protocol. -/
theorem hopen (c : Dev nD) : iprop(Tk m c ∗ Pipeline.ownSems0 osem c ∗ levAts L lv) ⊢ (|={Set.univ}=> Xk m c : sProp 𝕄) := by
  unfold Tk Xk
  iintro ⟨⟨%K, #Hc, Hu⟩, Hs, -⟩
  imod (open_all (chunkOf (GG m)) (returned (GG m)) K c) $$ [Hu Hs] with H
  · isplitr; · iexact Hc
    isplitl [Hu] <;> iassumption
  imodintro
  iexists K
  isplitr; · iexact Hc
  iexact H

/-- What the kernel's call allocates besides its staging is the four scratch buffers. -/
theorem scoped_eq (c : Dev nD) : (Pipeline.scopedRest (Ix := Unit) (Name := ℕ) (U := UU) (Lvl := ℕ) (Val := Elt F) (Pipeline.pin (pcfgs (F := F)) adm 0).spec c : sProp 𝕄)
    = scratch c := Gen.scopedRest0_eq c

/-- Holding no buffer is holding nothing. -/
theorem held_none (c : Dev nD) (V : Valuation τ sig (Elt F)) : (StableHlo.held (c.tc : Thread nD τ) ∅ V : sProp 𝕄) = BI.emp := by
  unfold StableHlo.held
  exact BI.bigSep_empty

/-- What the call hands the kernel is its state before its point. -/
theorem hin (c : Dev nD) : iprop(Pipeline.scopedRest (Pipeline.pin (pcfgs (F := F)) adm 0).spec c ∗ (∃ r, prngReg c r)
      ∗ StableHlo.held (c.tc : Thread nD τ) ∅ (VV m c) ∗ Xk m c) ⊢ (pdats m 0 c).Φ 0 := by
  rw [show (pdats m 0 c).Φ 0 = iprop(Xk m c ∗ scratch c ∗ ∃ r, prngReg c r) from show around m c 0 = _ from if_pos rfl, scoped_eq]
  iintro ⟨Hs, Hp, -, HX⟩
  isplitl [HX]; · iexact HX
  isplitl [Hs] <;> iassumption

/-- The kernel's state after its point is what the call takes back. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (Vend m c) ∗ Pipeline.ownSems0 osem c ∗ Yk c) := by
  rw [show (pdats m 0 c).Φ (Fin.last _) = iprop((semVal (barCell c) 0 ∗ Pipeline.ownSems0 osem c) ∗ scratch c ∗ ∃ r, prngReg c r) from
    phi_end m c t0_0, scoped_eq, held_none]
  unfold Yk
  iintro ⟨⟨Hb, Ho⟩, Hs, Hp⟩
  isplitl [Hs]; · iexact Hs
  isplitl [Hp]; · iexact Hp
  isplitr; · iempintro
  isplitl [Ho] <;> iassumption

/-- The facts of the kernel's windows that the launch asks for. -/
theorem kit : Pipeline.PLaunchFacts (nD := nD) (τ := τ) (pcfgs (F := F)) 0 where
  cellOf_inj a := by rw [Subsingleton.elim a adm]; exact Gen.cellOf_inj
  win := Gen.winFacts0
  pre := Pipeline.PreFacts.none _
  block_pos := Gen.block_pos0
  arr_whole := Gen.arr_whole0
  stage_whole := Gen.stage_whole0

set_option backward.isDefEq.respectTransparency.types false in
/-- The kernel call as a segment. -/
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ others (Finset.empty_subset _) kit rfl (fun c => (body_at m c).loose)
    (fun _ => 0) O₀ (fun c => (owed_start m c t0_0).trans (zero_add _).symm) (fun c => owed_end m c t0_0) (fun _ => rfl)
    (fun c w => by unfold Dat.share; exact ite_self _)
    (VV m) (Vend m) (fun c b hb => Function.update_of_ne (mem_others (Finset.mem_sdiff.mp hb).1) _ _)
    (Tk m) Yk (Xk m) Yk (hopen m) (hin m) (hout m)
    (fun c => by iintro H; imodintro; iexact H)
    (fun _ => 0)
    ⟨fun c w s => by rw [L_tc]; exact Finset.mem_singleton_self _,
      fun c w s => Nat.le_of_eq (staging_level w s),
      fun c t g i h => ⟨by unfold L; rw [if_pos (above_owed m c t g i h).1]; exact Finset.mem_singleton_self _, (above_owed m c t g i h).2⟩⟩
    (fun _ => iprop(emp))
    (fun c w => rfl) (fun c w => arrays_end m c w)

end Cert.KernelIdeal

end
-- ==== Proof.Around.lean ====
module

public import proofs.«01_k».proof.Proof.Store
public import proofs.«01_k».proof.Proof.Segment
public import proofs.«01_k».proof.Proof.Gen.KernelIdeal.Regions

/-! The kernel's region between the state before it and the state after it, and the arguments through the run. -/

@[expose] public section

set_option maxRecDepth 65536

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Facts₀ Facts

variable {F : FTy → Type} [FloatOps F]

local notation "𝕄" => MT nD τ sig Unit (Elt F) ℕ UU ℕ

variable (m : (l : Loc nD τ sig) → Buf (Elt F) l)

/-! ## The region's ends -/

/-- What a device holds besides its arrays: before the kernel the protocol's state and its debts, after it the
    barrier at zero and no debt. -/
def EE : Fin 2 → Dev nD → sProp 𝕄 :=
  ![fun c => iprop(Tk m c ∗ (∃ r, prngReg c r) ∗ ow c (O₀ c)), fun c => iprop(semVal (barCell c) 0 ∗ ow c 0)]

/-- A device's buffers are the kernel's arrays and the others. -/
theorem held_parts (c : Dev nD) (V : Valuation τ sig (Elt F)) :
    (StableHlo.held (c : Thread nD τ) (Pipeline.ucRefs τ sig) V : sProp 𝕄)
      = iprop(StableHlo.held (c : Thread nD τ) (Pipeline.arrRefs spec0) V ∗ StableHlo.held (c : Thread nD τ) others V) :=
  StableHlo.held_sub_split (c : Thread nD τ) (Pipeline.arrRefs_sub_ucRefs spec0 (by decide)) V

/-- The buffers after the host's operations, with what a device holds before the kernel, are what the kernel's call takes. -/
theorem reg_pre (c : Dev nD) : iprop(StableHlo.held (c : Thread nD τ) (Pipeline.ucRefs τ sig) (V11 m c) ∗ EE m 0 c) ⊢ (reg m).pre c := by
  show iprop(StableHlo.held (c : Thread nD τ) (Pipeline.ucRefs τ sig) (VV m c) ∗ (Tk m c ∗ (∃ r, prngReg c r) ∗ ow c (O₀ c)))
    ⊢ iprop(StableHlo.held (c : Thread nD τ) (Pipeline.arrRefs spec0) (VV m c) ∗ (∃ r, prngReg c r)
      ∗ (StableHlo.held (c : Thread nD τ) others (VV m c) ∗ emp) ∗ Tk m c ∗ ∃ W, owes (c : Thread nD τ) (0 + O₀ c) W)
  rw [held_parts, zero_add]
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- What the kernel's call leaves is the buffers after the kernel, with what a device holds after it. -/
theorem reg_post (c : Dev nD) : (reg m).post c ⊢ iprop(StableHlo.held (c : Thread nD τ) (Pipeline.ucRefs τ sig) (Vend m c) ∗ EE m 1 c) := by
  show iprop(StableHlo.held (c : Thread nD τ) (Pipeline.arrRefs spec0) (Vend m c) ∗ (∃ r, prngReg c r)
      ∗ (StableHlo.held (c : Thread nD τ) others (Vend m c) ∗ emp) ∗ Yk c ∗ ∃ W, owes (c : Thread nD τ) (0 : CellTallies nD τ sig Unit) W)
    ⊢ iprop(StableHlo.held (c : Thread nD τ) (Pipeline.ucRefs τ sig) (Vend m c) ∗ (semVal (barCell c) 0 ∗ ow c 0))
  rw [held_parts]
  iintro ⟨Ha, -, ⟨Hr, -⟩, HY, HO⟩
  isplitl [Ha Hr]
  · isplitl [Ha] <;> iassumption
  unfold Yk
  isplitl [HY]; · iexact HY
  iexact HO

/-- Arguments stay as launched. -/
theorem Vend_args (c : Dev nD) : Vend m c main_arg0 = m ((c : Thread nD τ).loc main_arg0)
    ∧ Vend m c main_arg1 = m ((c : Thread nD τ).loc main_arg1) ∧ Vend m c main_arg2 = m ((c : Thread nD τ).loc main_arg2)
    ∧ Vend m c main_arg3 = m ((c : Thread nD τ).loc main_arg3) ∧ Vend m c main_arg4 = m ((c : Thread nD τ).loc main_arg4) := by
  have h (r : Ref sig .tc) (hr : r ∉ ([main_v64] : List (Ref sig .tc))) : Vend m c r = V12 m (fun _ r c => V11 m c r) c r :=
    (Function.update_of_ne (StableHlo.devRef_ne_of_ne (List.ne_of_not_mem_cons hr) : (Proc.devRef .tc r : DevRef τ sig) ≠ Proc.devRef .tc main_v64) _ _).trans
      (V12_of m (fun _ r c => V11 m c r) c r hr).symm
  exact ⟨(h _ (by decide)).trans (V12_main_arg0 m _ c), (h _ (by decide)).trans (V12_main_arg1 m _ c),
    (h _ (by decide)).trans (V12_main_arg2 m _ c), (h _ (by decide)).trans (V12_main_arg3 m _ c), (h _ (by decide)).trans (V12_main_arg4 m _ c)⟩

end Cert.KernelIdeal

end
-- ==== Proof.Launch.lean ====
module

public import proofs.«01_k».proof.Proof.Deal
public import proofs.«01_k».proof.Proof.Around
public import proofs.«01_k».proof.Proof.Gen.KernelIdeal.Regions

/-! The run of the whole program from any memory with every counter at zero: it ends, the arguments are unchanged,
the result holds what the kernel's run leaves in it, and every counter is at zero again. -/

@[expose] public section

set_option maxRecDepth 65536

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Facts₀ Facts

variable {F : FTy → Type} [FloatOps F]

local notation "𝕄" => MT nD τ sig Unit (Elt F) ℕ UU ℕ

variable (m : (l : Loc nD τ sig) → Buf (Elt F) l)

/-! ## The launch -/

abbrev uX : URounds (GSem nD τ sig) (Fin 16) := launchOf barCells ownCells allToks
/-- What the protocol starts from: held by the first device until it is dealt. -/
def GG₀ (c : Dev nD) : sProp 𝕄 := if c = 0 then BI.own (ER uX) else BI.emp

/-- What the devices hold of the protocol's start together is all of it. -/
theorem sum_GG₀ : bigSep Finset.univ (GG₀ (F := F)) = BI.own (ER uX) := by
  have h : bigSep (Finset.univ.erase (0 : Dev nD)) (GG₀ (F := F)) = bigSep (Finset.univ.erase (0 : Dev nD)) fun _ => (BI.emp : sProp 𝕄) :=
    bigSep_congr fun d hd => if_neg (Finset.mem_erase.mp hd).1
  rw [bigSep_univ_at _ (0 : Dev nD), h, bigSep_emp_const]
  exact equiv_iff.mp sep_emp

/-- The barrier is the only semaphore that outlives the kernel's call. -/
theorem regulars : (Finset.univ.filter fun sm : SemLoc sig => ¬ sm.isScoped .tc) = {SemLoc.reg barS} := by decide

/-- So what a device is launched with of such semaphores is its barrier at zero. -/
theorem unscopedSems0_eq (c : Dev nD) : (unscopedSems0 c : sProp 𝕄) = semVal (barCell c) 0 := by
  unfold unscopedSems0
  rw [regulars, bigSep_singleton]

/-- What a device brings of its own. -/
def brought (c : Dev nD) : sProp 𝕄 := iprop(creds c ∗ (∃ r, prngReg c r) ∗ ow c (O₀ c))

variable (ρ : Dev nD → PrngReg)

/-- What a device is launched with is what it brings of its own, its barrier at zero and its part of the protocol's start. -/
theorem brings (c : Dev nD) : iprop(unscopedSems0 c ∗ owes (c : Thread nD τ) (O₀ c) ∅ ∗ Pipeline.launchCred O₀ c ∗ prngReg c (ρ c) ∗ GG₀ c)
    ⊢ (iprop(brought c ∗ (semVal (barCell c) 0 ∗ GG₀ c)) : sProp 𝕄) := by
  rw [unscopedSems0_eq]
  unfold brought ow
  iintro ⟨Hs, HO, Hc, Hp, HG⟩
  ihave Hc' := (creds_dealt c) $$ Hc
  isplitl [HO Hc' Hp]
  · isplitl [Hc']; · iexact Hc'
    isplitl [Hp]; · iexists (ρ c); iexact Hp
    iexists ∅; iexact HO
  isplitl [Hs] <;> iassumption

/-- What is dealt to a device. -/
def dealt (c : Dev nD) : sProp 𝕄 :=
  iprop(atPos ER (barCell c) 0 ∅ 0 ∗ (bigSep Finset.univ fun p : Fin 4 × Fin 16 => openTok ER (dcell c p.1 p.2)) ∗ bigSepL ups (toks c))

/-- What a device is dealt and what it brings are what it holds before the kernel. -/
theorem part_of (K : GSem nD τ sig → ℕ) (c : Dev nD) :
    iprop(ctx (chunkOf (GG m)) (returned (GG m)) K ∗ (dealt c ∗ brought c)) ⊢ EE m 0 c := by
  show _ ⊢ iprop(Tk m c ∗ (∃ r, prngReg c r) ∗ ow c (O₀ c))
  unfold dealt brought Tk unopened
  iintro ⟨HC, ⟨Ha, Ho, Ht⟩, Hc, Hp, HO⟩
  isplitl [HC Ha Ho Ht Hc]
  · iexists K
    isplitl [HC]; · iexact HC
    isplitl [Ha]; · iexact Ha
    isplitl [Ho]; · iexact Ho
    isplitl [Ht] <;> iassumption
  isplitl [Hp] <;> iassumption

/-- The invariants of all the cells, the barriers' first rounds and the levels are the shared context. -/
theorem ctx_intro (K : GSem nD τ sig → ℕ) :
    iprop(bigSep (barCells ∪ ownCells : Finset (GSem nD τ sig)) (fun g => cellInv ER (Rd (chunkOf (GG m)) (returned (GG m))) (K g) g)
      ∗ bigSep barCells (fun g => (reached ER g 0 : sProp 𝕄)) ∗ levAts L lv) ⊢ ctx (chunkOf (GG m)) (returned (GG m)) K := by
  generalize chunkOf (GG m) = cx
  generalize returned (GG m) = yx
  have hb : bigSep barCells (fun g => cellInv ER (Rd cx yx) (K g) g) = bigSep Finset.univ fun d : Dev nD => cellInv ER (Rd cx yx) (K (barCell d)) (barCell d) :=
    bigSep_map _
  have hr : bigSep barCells (fun g => (reached ER g 0 : sProp 𝕄)) = bigSep Finset.univ fun d : Dev nD => reached ER (barCell d) 0 := bigSep_map _
  have ho : bigSep ownCells (fun g => cellInv ER (Rd cx yx) (K g) g) = bigSep Finset.univ fun p : Dev nD × Fin 4 × Fin 16 =>
      cellInv ER (Rd cx yx) (K (dcell p.1 p.2.1 p.2.2)) (dcell p.1 p.2.1 p.2.2) := bigSep_map _
  unfold ctx
  rw [bigSep_sep', ← hb, ← hr, ← ho]
  iintro ⟨H, H3, H4⟩
  ihave H := (show bigSep (barCells ∪ ownCells : Finset (GSem nD τ sig)) (fun g => cellInv ER (Rd cx yx) (K g) g)
    ⊢ iprop(bigSep barCells (fun g => cellInv ER (Rd cx yx) (K g) g) ∗ bigSep ownCells (fun g => cellInv ER (Rd cx yx) (K g) g))
      from Entails.of_eq (bigSep_union cells_disjoint)) $$ H
  icases H with ⟨H1, H2⟩
  isplitl [H1 H3]
  · isplitl [H1]; · iexact H1
    iexact H3
  isplitl [H2]; · iexact H2
  iexact H4

/-- Two families over the devices are one family of pairs. -/
theorem pair (Φ Ψ : Dev nD → sProp 𝕄) : iprop(bigSep Finset.univ Φ ∗ bigSep Finset.univ Ψ) ⊢ bigSep Finset.univ fun c => iprop(Φ c ∗ Ψ c) :=
  Entails.of_eq (bigSep_sep' Finset.univ Φ Ψ).symm

set_option maxHeartbeats 1000000 in
/-- From what the devices are launched with, every device gets its part. -/
theorem launched : iprop((bigSep Finset.univ fun c : Dev nD => iprop(unscopedSems0 c ∗ owes (c : Thread nD τ) (O₀ c) ∅ ∗ Pipeline.launchCred O₀ c ∗ prngReg c (ρ c) ∗ GG₀ c)) ∗ levAts L lv)
    ⊢ (|={Set.univ}=> bigSep Finset.univ (EE m 0) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun p : Fin 4 × Fin 16 => (openTok ER (dcell c p.1 p.2) : sProp 𝕄)) :=
    Entails.of_eq (by rw [bigSep_map, bigSep_univ_prod]; rfl)
  have hb : (bigSep Finset.univ fun c : Dev nD => iprop(unscopedSems0 c ∗ owes (c : Thread nD τ) (O₀ c) ∅ ∗ Pipeline.launchCred O₀ c ∗ prngReg c (ρ c) ∗ GG₀ c))
      ⊢ (bigSep Finset.univ fun c : Dev nD => iprop(brought c ∗ (semVal (barCell c) 0 ∗ GG₀ c)) : sProp 𝕄) := bigSep_mono fun c _ => brings ρ c
  iintro ⟨H, Hlev⟩
  ihave H' := hb $$ H
  ihave H2 := (Entails.of_eq (bigSep_sep' Finset.univ (brought (F := F)) fun c => iprop(semVal (barCell c) 0 ∗ GG₀ c))) $$ H'; icases H2 with ⟨HB, H3⟩
  ihave H4 := (Entails.of_eq (bigSep_sep' Finset.univ (fun c : Dev nD => (semVal (barCell c) 0 : sProp 𝕄)) GG₀)) $$ H3; icases H4 with ⟨Hv, HG⟩
  ihave Hu := (show bigSep Finset.univ (GG₀ (F := F)) ⊢ BI.own (ER uX) from Entails.of_eq sum_GG₀) $$ HG
  imod (Rounds.fund_launch ER (Rd (chunkOf (GG m)) (returned (GG m))) cells_disjoint (fun g _ h => h) allToks) $$ [Hv Hu] with ⟨%κ, -, Hinv, Hr, Hat, Hopen, Htok⟩
  · isplitl [Hv]
    · iapply hv $$ Hv
    · iexact Hu
  imodintro
  ihave HC := (ctx_intro m κ) $$ [Hinv Hr Hlev]
  · isplitl [Hinv]; · iexact Hinv
    isplitl [Hr] <;> iassumption
  iapply (bigSep_with_persistent (R := ctx (chunkOf (GG m)) (returned (GG m)) κ) (Φ := fun c => iprop(dealt c ∗ brought c)) fun c _ => part_of m κ c)
  isplitl [HC]; · iexact HC
  iapply pair
  isplitr [HB]
  · unfold dealt
    iapply pair; isplitl [Hat]; · iapply hat $$ Hat
    iapply pair; isplitl [Hopen]; · iapply hopen $$ Hopen
    iapply toks_dealt $$ Htok
  · iexact HB

/-! ## The run -/

/-- A semaphore that outlives the kernel's call is the barrier. -/
theorem unscoped_bar (sm : SemLoc sig) (h : sm.isScoped .tc = false) : sm = .reg barS :=
  Finset.mem_singleton.mp (regulars ▸ Finset.mem_filter.mpr ⟨Finset.mem_univ _, by rw [h]; exact Bool.false_ne_true⟩)

/-- What every run ends with on device `c`. -/
def Ends (c : Dev nD) (s : MemSt nD τ sig (Elt F)) : Prop :=
  (s.mem ((c.tc : Thread nD τ).loc main_v64) = result m c
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4))
  ∧ s.sem (barCell c) = 0

/-- The launch element: the staging's and the protocol's. -/
abbrev u₀ : UU := (initOf (Pipeline.cells (Pipeline.pin (pcfgs (F := F)) adm) cellOf_inj) (Pipeline.launchToks (Pipeline.pin (pcfgs (F := F)) adm) cellOf_inj), uX)

/-- The launch element splits into the staging's part and the devices' parts of the protocol's start. -/
theorem launch_split : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ GG₀) := by
  rw [sum_GG₀]
  iintro Hu
  ihave H := (ownU_pair _ _) $$ Hu
  icases H with ⟨HP, HX⟩
  imodintro
  isplitl [HP]; · iexact HP
  iexact HX

/-- What the program is launched with gives every device its buffers and what it holds before the kernel. -/
theorem init : iprop((bigSep Finset.univ fun c : Dev nD => iprop(unscopedBufs c (fun b => m ((c.tc : Thread nD τ).loc b)) ∗ unscopedSems0 c
      ∗ owes (c.tc : Thread nD τ) (O₀ c) ∅ ∗ Pipeline.launchCred O₀ c ∗ prngReg c (ρ c) ∗ GG₀ c)) ∗ levAts L lv)
    ⊢ |={Set.univ}=> bigSep Finset.univ fun c : Dev nD => (iprop(StableHlo.held (c : Thread nD τ) (Pipeline.ucRefs τ sig) (V0 m c) ∗ EE m 0 c) : sProp 𝕄) := by
  have hb (c : Dev nD) : (unscopedBufs c (fun b => m ((c.tc : Thread nD τ).loc b)) : sProp 𝕄) = StableHlo.held (c : Thread nD τ) (Pipeline.ucRefs τ sig) (V0 m c) :=
    Pipeline.unscopedBufs_held c (V0 m c)
  simp only [hb]
  rw [bigSep_sep' Finset.univ (fun c : Dev nD => StableHlo.held (c : Thread nD τ) (Pipeline.ucRefs τ sig) (V0 m c)),
    bigSep_sep' Finset.univ (fun c : Dev nD => StableHlo.held (c : Thread nD τ) (Pipeline.ucRefs τ sig) (V0 m c))]
  iintro ⟨⟨Hh, Hr⟩, Hl⟩
  imod (launched m ρ) $$ [Hr Hl] with HE
  · isplitl [Hr]; · iexact Hr
    iexact Hl
  imodintro
  isplitl [Hh]; · iexact Hh
  iexact HE

/-- Holding the buffers after the kernel and the barrier at zero, the memory is as every run is to end. -/
theorem ends_of (c : Dev nD) (s' : Phys nD τ sig (Elt F)) :
    iprop((StableHlo.held (c : Thread nD τ) (Pipeline.ucRefs τ sig) (Vend m c) ∗ semVal (barCell c) 0) ∗ SI s')
      ⊢ (|={Set.univ}=> iprop(⌜Ends m c s'.mem⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (Vend m c) s') $$ [Hh HSI]
  · isplitl [Hh] <;> iassumption
  icases Hr with ⟨%h, HSI⟩
  imodintro
  isplitr
  · ipureintro
    have ha := Vend_args m c
    have hm (r : Ref sig .tc) (hr : ¬ (Proc.devRef .tc r : DevRef τ sig).isScoped) := h (Proc.devRef .tc r) (Finset.mem_filter.mpr ⟨StableHlo.devRef_mem_tcRefs r, hr⟩)
    exact ⟨⟨(hm main_v64 (by decide)).trans (Function.update_self _ _ _), (hm main_arg0 (by decide)).trans ha.1,
      (hm main_arg1 (by decide)).trans ha.2.1, (hm main_arg2 (by decide)).trans ha.2.2.1,
      (hm main_arg3 (by decide)).trans ha.2.2.2.1, (hm main_arg4 (by decide)).trans ha.2.2.2.2⟩, by simpa using hb⟩
  · iexact HSI

end Cert.KernelIdeal

end
-- ==== Proof.RunMain.lean ====
module

public import proofs.«01_k».proof.Proof.Launch

/-! The run of the whole program. -/

@[expose] public section

set_option maxRecDepth 65536

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Facts₀ Facts

variable {F : FTy → Type} [FloatOps F]

local notation "𝕄" => MT nD τ sig Unit (Elt F) ℕ UU ℕ

variable (m : (l : Loc nD τ sig) → Buf (Elt F) l) (ρ : Dev nD → PrngReg)

set_option backward.isDefEq.respectTransparency.types false in
/-- From any memory with every counter at zero every run ends; then each device's result is what the kernel's run
    leaves in it, its arguments are unchanged, and every counter is at zero. -/
theorem run_main : θ_run defs (onTc (τ := τ) (main (F := F))) ⟨m, fun _ => 0, ρ⟩ (fun r => (∀ c : Dev nD,
      r.2.mem ((c.tc : Thread nD τ).loc main_v64) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_regions_kit_dev_sems (pcfgs (F := F)) adm (pdats m) () cellOf_inj EP defs₀ 𝒱₀ L lv m ρ main
    (segs m 𝒱₀ L lv (EE m) () (pdats m) (reg m))
    (fun c Q => by
      rewrite [main_chain c, Pipeline.Seg.run_eq_chain,
        show (segs m 𝒱₀ L lv (EE m) () (pdats m) (reg m) c).map Pipeline.Seg.prog = [
          StableHlo.seq (hostOps0 c), StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_of_ne GG₀ u₀ launch_split
    (T₀ := fun c => iprop(StableHlo.held (c : Thread nD τ) (Pipeline.ucRefs τ sig) (V0 m c) ∗ EE m 0 c))
    (Tₙ := fun c => iprop(StableHlo.held (c : Thread nD τ) (Pipeline.ucRefs τ sig) (Vend m c) ∗ semVal (barCell c) 0))
    (hch := fun c => ⟨.rfl, .rfl, .rfl, .rfl, .rfl, .rfl, .rfl, .rfl, .rfl, .rfl, .rfl, reg_pre m c,
      (reg_post m c).trans (Entails.of_eq (equiv_iff.mp ⟨BI.sep_assoc, BI.sep_assoc'⟩).symm)⟩)
    (hinit := init m ρ) (QY := Ends m) (hfin := ends_of m)
    (hQ := fun s h hs => ⟨fun c => (h c).1, sem_eq_zero hs fun c sm hsm => by
      obtain rfl := unscoped_bar sm hsm
      exact (h c).2⟩)

end Cert.KernelIdeal

end
-- ==== Proof.SameText.lean ====
module

public import proofs.«01_k».proof.Proof.BodyEq
public import proofs.«01_k».proof.Proof.Gen.Kernel.Launch
public import proofs.«01_k».proof.Proof.Gen.KernelIdeal.Launch

/-! The program whose floats are words and the program whose floats are extended reals have the same text: for any
float values their procedures and their main programs are equal. -/

@[expose] public section

set_option maxRecDepth 65536

noncomputable section

namespace Cert.Kernel

open Idealize.ShloMosaic Idealize.ShloMosaic.TcCoe
open Idealize.SL Idealize.SL.Sem
open Facts₀ Facts

variable {F : FTy → Type} [FloatOps F]

set_option maxHeartbeats 0 in
/-- The first program's kernel body is the composition of the steps, too. -/
theorem body_eq (arg0 : Memref sig .tc .vmem S2048x520 .bf16) (harg0 : arg0.IsWhole) (arg1 : Memref sig .tc .vmem S1x2048 .i32) (harg1 : arg1.IsWhole) (arg2 : Memref sig .tc .vmem S2048x512 .bf16) (harg2 : arg2.IsWhole) (arg3 : Memref sig .tc .vmem S512x1024 .bf16) (harg3 : arg3.IsWhole) (arg4 : Memref sig .tc .vmem S8x512x1024 .bf16) (harg4 : arg4.IsWhole) (arg5 : Memref sig .tc .vmem S2048x1024 .f32) (harg5 : arg5.IsWhole) (arg6 : Memref sig .tc .vmem S3072x520 .bf16) (harg6 : arg6.IsWhole) (arg7 : Memref sig .tc .vmem S3072x520 .bf16) (harg7 : arg7.IsWhole) (arg8 : Memref sig .tc .vmem S3072x1024 .bf16) (harg8 : arg8.IsWhole) (arg9 : Memref sig .tc .vmem S2x192x1024 .bf16) (harg9 : arg9.IsWhole) (arg10 : DmaSems sig S16) (arg11 : DmaSems sig S16) (arg12 : DmaSems sig S16) (arg13 : DmaSems sig S16) :
    cc0__body (F := F) arg0 harg0 arg1 harg1 arg2 harg2 arg3 harg3 arg4 harg4 arg5 harg5 arg6 harg6 arg7 harg7 arg8 harg8 arg9 harg9 arg10 arg11 arg12 arg13
      = Cert.KernelIdeal.body (F := F) arg0 arg1 arg2 arg3 arg4 arg5 arg6 harg6 arg7 harg7 arg8 harg8 arg9 harg9 arg10 arg11 arg12 arg13 := by
  repeat refine (Cert.KernelIdeal.op_congr fun x => ?_ : Prog.op _ _ = Prog.op _ _)
  rfl

/-- The kernels' procedures are equal. -/
theorem defs₀_eq : defs₀ (F := F) = Cert.KernelIdeal.defs₀ (F := F) := by
  refine congrArg (Defs.onTc (nD := nD) (τ := τ) (sig := sig) (Val := Elt F) (Λ := Λ₀)) (funext fun l => funext fun a => ?_)
  match l, a with
  | 0, (t, s) => exact (body_eq ..).trans (Cert.KernelIdeal.body_eq ..).symm

/-- The procedures with the staging's are equal. -/
theorem defs_eq : defs (F := F) = Cert.KernelIdeal.defs (F := F) :=
  congrArg (Pipeline.defs pcfgs) defs₀_eq

/-- The first part of the host's operations is the same. -/
theorem ops0_eq (c : Dev nD) : Gen.hostOps0 (F := F) c = Cert.KernelIdeal.Gen.hostOps0 (F := F) c := rfl
/-- Part 2 of the host's operations is the same. -/
theorem ops1_eq : Gen.hostOps0_1 (F := F) = Cert.KernelIdeal.Gen.hostOps0_1 (F := F) := rfl
/-- Part 3 of the host's operations is the same. -/
theorem ops2_eq : Gen.hostOps0_2 (F := F) = Cert.KernelIdeal.Gen.hostOps0_2 (F := F) := rfl
/-- Part 4 of the host's operations is the same. -/
theorem ops3_eq : Gen.hostOps0_3 (F := F) = Cert.KernelIdeal.Gen.hostOps0_3 (F := F) := rfl
/-- Part 5 of the host's operations is the same. -/
theorem ops4_eq : Gen.hostOps0_4 (F := F) = Cert.KernelIdeal.Gen.hostOps0_4 (F := F) := rfl
/-- Part 6 of the host's operations is the same. -/
theorem ops5_eq : Gen.hostOps0_5 (F := F) = Cert.KernelIdeal.Gen.hostOps0_5 (F := F) := rfl
/-- Part 7 of the host's operations is the same. -/
theorem ops6_eq : Gen.hostOps0_6 (F := F) = Cert.KernelIdeal.Gen.hostOps0_6 (F := F) := rfl
/-- Part 8 of the host's operations is the same. -/
theorem ops7_eq : Gen.hostOps0_7 (F := F) = Cert.KernelIdeal.Gen.hostOps0_7 (F := F) := rfl
/-- Part 9 of the host's operations is the same. -/
theorem ops8_eq : Gen.hostOps0_8 (F := F) = Cert.KernelIdeal.Gen.hostOps0_8 (F := F) := rfl
/-- Part 10 of the host's operations is the same. -/
theorem ops9_eq : Gen.hostOps0_9 (F := F) = Cert.KernelIdeal.Gen.hostOps0_9 (F := F) := rfl
/-- Part 11 of the host's operations is the same. -/
theorem ops10_eq : Gen.hostOps0_10 (F := F) = Cert.KernelIdeal.Gen.hostOps0_10 (F := F) := rfl

/-- The main programs are equal. -/
theorem main_eq : main (F := F) = Cert.KernelIdeal.main (F := F) := by
  funext c
  refine (Gen.main_chain c).trans (Eq.trans ?_ (Cert.KernelIdeal.Gen.main_chain c).symm)
  rw [ops0_eq, ops1_eq, ops2_eq, ops3_eq, ops4_eq, ops5_eq, ops6_eq, ops7_eq, ops8_eq, ops9_eq, ops10_eq]

end Cert.Kernel

end
-- ==== Proof.HostVal.lean ====
module

public import proofs.«01_k».proof.Proof.RegionData
public import Idealize.ShloMosaic.Lib.StableHlo.Run
public import Idealize.ShloMosaic.Lib.Routing.Model

/-! What the host hands the body: its operations as plain functions of the device's arguments. -/

@[expose] public section

noncomputable section

namespace Cert.KernelIdeal

open Idealize.ShloMosaic Idealize.ShloMosaic.TcCoe Idealize.ShloMosaic.StableHlo
open Facts₀ Facts
open Gen (V0 V1 V2 V3 V4 V5 V6 V7 V8 V9 V10 V11 hostOps0 hostOps0_1 hostOps0_2 hostOps0_3 hostOps0_4 hostOps0_5 hostOps0_6 hostOps0_7 hostOps0_8 hostOps0_9 hostOps0_10)

variable {F : FTy → Type} [FloatOps F]

/-- The device's own number, as the host reads it. -/
def meWord (c : Dev nD) : IVec S_ 32 :=
  Host.remui (Host.divui (constantI S_ 32 (Dev.word c)) (constantI S_ 32 1#32)) (constantI S_ 32 16#32)

/-- The exponentials of the scores, shifted by the row's largest. -/
def expScores (s : FVec F S2048x128 .f32) : FVec F S2048x128 .f32 :=
  Host.exp (subf s (broadcastInDim S2048x128 ![0, 1] bcast_S2048x1_S2048x128_0_1 (broadcastInDim S2048x1 ![0] bcast_S2048_S2048x1_0
    (Host.reduce FloatOps.maximumf s (constant S_ .f32 0xFF800000#32) reducesTo_S2048x128_S2048_d1 h_S_))))

/-- The router's probabilities. -/
def probs (s : FVec F S2048x128 .f32) : FVec F S2048x128 .f32 :=
  Host.divf (expScores s) (broadcastInDim S2048x128 ![0, 1] bcast_S2048x1_S2048x128_0_1 (broadcastInDim S2048x1 ![0] bcast_S2048_S2048x1_0
    (Host.reduceAdd (expScores s) (constant S_ .f32 0x00000000#32) reducesTo_S2048x128_S2048_d1 h_S_)))

/-- Every token's probability at the expert it is routed to. -/
def gate (s : FVec F S2048x128 .f32) (e : IVec S2048 32) : FVec F S2048 .f32 :=
  Host.reduceAdd (mulf (probs s) (uitofp .f32 (cmpi .eq
    (broadcastInDim S2048x128 ![0, 1] bcast_S2048x1_S2048x128_0_1 (broadcastInDim S2048x1 ![0] bcast_S2048_S2048x1_0 e))
    (broadcastInDim S2048x128 ![0, 1] bcast_S1x128_S2048x128_0_1 (broadcastInDim S1x128 ![1] bcast_S128_S1x128_1 (iotaInDim S128 32 0))))))
    (constant S_ .f32 0x00000000#32) reducesTo_S2048x128_S2048_d1 h_S_

/-- The experts the tokens are routed to, as a vector. -/
def experts (r : IVec S2048x1 32) : IVec S2048 32 := shapeCast S2048 r shapeCasts_S2048x1_S2048

/-- The scores of a device's tokens. -/
def scores (x : FVec F S2048x512 .f32) (w : FVec F S512x128 .f32) : FVec F S2048x128 .f32 :=
  Host.dotGeneral dot_S2048x512_S512x128_S2048x128_1_0_0_1_n_n none x w

variable (V : Valuation τ sig (Elt F))

/-- What each stretch of the host's operations leaves in the buffers that are read later: the device's number, -/
theorem v4_at (c : Dev nD) : after (hostOps0 c) V main_v4 = meWord c := by
  after_results_simp <;> rfl
/-- the experts as a vector, -/
theorem v15_at (c : Dev nD) : after (hostOps0 c) V main_v15 = experts (V main_arg2) := by
  after_results_simp <;> rfl
/-- the size of a group, -/
theorem c3_at (c : Dev nD) : after (hostOps0 c) V main_c_3 = constantI S_ 32 8#32 := by
  after_results_simp <;> rfl
/-- the gates, -/
theorem v24_at (c : Dev nD) : after (hostOps0 c) V main_v24
    = gate (scores (V main_arg0) (V main_arg1)) (experts (V main_arg2)) := by
  after_results_simp <;> rfl

/-- the destinations, -/
theorem v25_at : after hostOps0_1 V main_v25 = Routing.pyDiv bcast_S_S2048 (V main_v15) (V main_c_3) := by
  simp only [hostOps0_1, TRef.binary, TRef.nullary, TRef.reshape, TRef.ternary, TRef.unary, TRef.toBuf, TRef.ofBuf, cast_eq]
  after_results_simp <;> rfl

/-- the size of a group again, -/
theorem c4_at : after hostOps0_2 V main_c_4 = constantI S_ 32 8#32 := by
  after_results_simp <;> rfl

/-- the experts within the groups, -/
theorem v26_at : after hostOps0_3 V main_v26 = Routing.pyRem bcast_S_S2048 (V main_v15) (V main_c_4) := by
  simp only [hostOps0_3, TRef.binary, TRef.nullary, TRef.reshape, TRef.ternary, TRef.unary, TRef.toBuf, TRef.ofBuf, cast_eq]
  after_results_simp <;> rfl

/-- the destinations less the device's number, -/
theorem v28_at : after hostOps0_4 V main_v28 = subi (V main_v25) (broadcastInDim S2048 ![] bcast_S_S2048 (V main_v4)) := by
  after_results_simp <;> rfl

/-- the number of devices, -/
theorem c5_at : after hostOps0_4 V main_c_5 = constantI S_ 32 16#32 := by
  after_results_simp <;> rfl

/-- and that difference around the ring. -/
theorem v29_at : after hostOps0_5 V main_v29 = Routing.pyRem bcast_S_S2048 (V main_v28) (V main_c_5) := by
  simp only [hostOps0_5, TRef.binary, TRef.nullary, TRef.reshape, TRef.ternary, TRef.unary, TRef.toBuf, TRef.ofBuf, cast_eq]
  after_results_simp <;> rfl

/-- The one-hot matrix of the destinations, as words. -/
def dstHot (d : IVec S2048 32) : IVec S2048x16 32 :=
  extui 32 (cmpi .eq
    (broadcastInDim S2048x16 ![0, 1] bcast_S2048x1_S2048x16_0_1 (broadcastInDim S2048x1 ![0] bcast_S2048_S2048x1_0 d))
    (broadcastInDim S2048x16 ![0, 1] bcast_S1x16_S2048x16_0_1 (broadcastInDim S1x16 ![1] bcast_S16_S1x16_1 (iotaInDim S16 32 0)))) natLt_1_32

/-- The one-hot matrix, -/
theorem v36_at : after hostOps0_6 V main_v36 = dstHot (V main_v25) := by
  after_results_simp <;> rfl

/-- Column by column the running counts of a matrix. -/
def runningCount (x : IVec S2048x16 32) : IVec S2048x16 32 :=
  Host.reduceWindow IntOp.addi ![2048, 1] ![1, 1] ![2047, 0] ![0, 0] x (broadcastInDim S_ ![] bcast_S_S_ (constantI S_ 32 0#32))
    reduceWindows_S2048x16_S2048x16_w2048s1p2047_0_w1s1p0_0 h_S_

/-- its running counts, -/
theorem v37_at : after hostOps0_7 V main_v37 = runningCount (V main_v36) := by
  simp only [hostOps0_7, TRef.binary, TRef.nullary, TRef.reshape, TRef.ternary, TRef.unary, TRef.toBuf, TRef.ofBuf, cast_eq]
  after_results_simp <;> rfl

/-- A token's place among those of its device going to the same destination. -/
def place (run hot : IVec S2048x16 32) : IVec S2048 32 :=
  subi (Host.reduce IntOp.addi (muli run hot) (constantI S_ 32 0#32) reducesTo_S2048x16_S2048_d1 h_S_)
    (broadcastInDim S2048 ![] bcast_S_S2048 (constantI S_ 32 1#32))

/-- Whether a token has a place, -/
theorem v43_at : after hostOps0_8 V main_v43
    = cmpi .slt (place (V main_v37) (V main_v36)) (broadcastInDim S2048 ![] bcast_S_S2048 (constantI S_ 32 192#32)) := by
  after_results_simp <;> rfl

/-- its slot if so, -/
theorem v46_at : after hostOps0_8 V main_v46
    = addi (muli (V main_v29) (broadcastInDim S2048 ![] bcast_S_S2048 (constantI S_ 32 192#32))) (place (V main_v37) (V main_v36)) := by
  after_results_simp <;> rfl

/-- the slot of a token without a place, -/
theorem c10_at : after hostOps0_8 V main_c_10 = constantI S_ 32 3072#32 := by
  after_results_simp <;> rfl

/-- and the one of the two that holds. -/
theorem v47_at : after hostOps0_9 V main_v47 = select (V main_v43) (V main_v46) (broadcastInDim S2048 ![] bcast_S_S2048 (V main_c_10)) := by
  simp only [hostOps0_9, TRef.binary, TRef.nullary, TRef.reshape, TRef.ternary, TRef.unary, TRef.toBuf, TRef.ofBuf, cast_eq]
  after_results_simp <;> rfl

/-- The payload: the tokens scaled by their gates, and beside them the one-hot rows of their experts within the group. -/
def payload (x : FVec F S2048x512 .f32) (g : FVec F S2048 .f32) (e : IVec S2048 32) : FVec F S2048x520 .bf16 :=
  concatenate S2048x520 1
    [⟨S2048x512, truncf .bf16 (mulf x (broadcastInDim S2048x512 ![0, 1] bcast_S2048x1_S2048x512_0_1 (broadcastInDim S2048x1 ![0] bcast_S2048_S2048x1_0 g))) bitsLt_bf16_f32⟩,
     ⟨S2048x8, uitofp .bf16 (cmpi .eq
        (broadcastInDim S2048x8 ![0, 1] bcast_S2048x1_S2048x8_0_1 (broadcastInDim S2048x1 ![0] bcast_S2048_S2048x1_0 e))
        (broadcastInDim S2048x8 ![0, 1] bcast_S1x8_S2048x8_0_1 (broadcastInDim S1x8 ![1] bcast_S8_S1x8_1 (iotaInDim S8 32 0))))⟩]
    concatenates_S2048x512_S2048x8_S2048x520_d1

/-- The payload, -/
theorem v59_at : after hostOps0_10 V main_v59 = payload (V main_arg0) (V main_v24) (V main_v26) := by
  after_results_simp <;> rfl
/-- the slots as a row, -/
theorem v60_at : after hostOps0_10 V main_v60 = broadcastInDim S1x2048 ![1] bcast_S2048_S1x2048_1 (V main_v47) := by
  after_results_simp <;> rfl
/-- and the tokens, -/
theorem v61_at : after hostOps0_10 V main_v61 = (truncf .bf16 (V main_arg0 : FVec F S2048x512 .f32) bitsLt_bf16_f32 : FVec F S2048x512 .bf16) := by
  after_results_simp <;> rfl
/-- the shared matrix -/
theorem v62_at : after hostOps0_10 V main_v62 = (truncf .bf16 (V main_arg4 : FVec F S512x1024 .f32) bitsLt_bf16_f32 : FVec F S512x1024 .bf16) := by
  after_results_simp <;> rfl
/-- and the experts' matrices in the short format. -/
theorem v63_at : after hostOps0_10 V main_v63 = (truncf .bf16 (V main_arg3 : FVec F S8x512x1024 .f32) bitsLt_bf16_f32 : FVec F S8x512x1024 .bf16) := by
  after_results_simp <;> rfl

/-! ## The kernel's operands -/

variable (m : (ℓ : Loc nD τ sig) → Buf (Elt F) ℓ) (c : Dev nD)

/-- A device's arguments. -/
abbrev argX : FVec F S2048x512 .f32 := V0 m c main_arg0
abbrev argR : FVec F S512x128 .f32 := V0 m c main_arg1
abbrev argI : IVec S2048x1 32 := V0 m c main_arg2
abbrev argE : FVec F S8x512x1024 .f32 := V0 m c main_arg3
abbrev argS : FVec F S512x1024 .f32 := V0 m c main_arg4

/-- The destinations of a device's tokens: the group of eight experts each is routed to. -/
def dests (r : IVec S2048x1 32) : IVec S2048 32 := Routing.pyDiv bcast_S_S2048 (experts r) (constantI S_ 32 8#32)
/-- The experts within the groups. -/
def locals (r : IVec S2048x1 32) : IVec S2048 32 := Routing.pyRem bcast_S_S2048 (experts r) (constantI S_ 32 8#32)
/-- The destinations counted from the device itself. -/
def rels (c : Dev nD) (r : IVec S2048x1 32) : IVec S2048 32 :=
  Routing.pyRem bcast_S_S2048 (subi (dests r) (broadcastInDim S2048 ![] bcast_S_S2048 (meWord c))) (constantI S_ 32 16#32)
/-- The places of the tokens. -/
def places (r : IVec S2048x1 32) : IVec S2048 32 := place (runningCount (dstHot (dests r))) (dstHot (dests r))
/-- The slots of the tokens: by group, then by place; past all groups for a token that has no place. -/
def slots (c : Dev nD) (r : IVec S2048x1 32) : IVec S2048 32 :=
  select (cmpi .slt (places r) (broadcastInDim S2048 ![] bcast_S_S2048 (constantI S_ 32 192#32)))
    (addi (muli (rels c r) (broadcastInDim S2048 ![] bcast_S_S2048 (constantI S_ 32 192#32))) (places r))
    (broadcastInDim S2048 ![] bcast_S_S2048 (constantI S_ 32 3072#32))

/-- What the buffers hold, stretch after stretch, in terms of the device's arguments. -/
theorem V1_v15 : V1 m c main_v15 = experts (argI m c) := v15_at (V0 m c) c

/-- The destinations when they are computed, -/
theorem V2_v25 : V2 m c main_v25 = dests (argI m c) := by
  refine (v25_at (V1 m c)).trans ?_
  rw [V1_v15, show V1 m c main_c_3 = constantI S_ 32 8#32 from c3_at (V0 m c) c]
  rfl

/-- the experts within the groups, -/
theorem V4_v26 : V4 m c main_v26 = locals (argI m c) := by
  refine (v26_at (V3 m c)).trans ?_
  rw [show V3 m c main_c_4 = constantI S_ 32 8#32 from c4_at (V2 m c), Gen.V3_of m c main_v15 (by decide), Gen.V2_of m c main_v15 (by decide), V1_v15]
  rfl

/-- the destinations where they are read, -/
theorem V4_v25 : V4 m c main_v25 = dests (argI m c) := by
  rw [Gen.V4_of m c main_v25 (by decide), Gen.V3_of m c main_v25 (by decide), V2_v25]

/-- the destinations counted from the device, -/
theorem V6_v29 : V6 m c main_v29 = rels c (argI m c) := by
  refine (v29_at (V5 m c)).trans ?_
  rw [show V5 m c main_c_5 = constantI S_ 32 16#32 from c5_at (V4 m c), show V5 m c main_v28 = _ from v28_at (V4 m c), V4_v25,
    Gen.V4_of m c main_v4 (by decide), Gen.V3_of m c main_v4 (by decide), Gen.V2_of m c main_v4 (by decide),
    show V1 m c main_v4 = meWord c from v4_at (V0 m c) c]
  rfl

/-- the one-hot matrix when it is computed -/
theorem V7_v36 : V7 m c main_v36 = dstHot (dests (argI m c)) := by
  refine (v36_at (V6 m c)).trans ?_
  rw [Gen.V6_of m c main_v25 (by decide), Gen.V5_of m c main_v25 (by decide), V4_v25]

/-- and where it is read, -/
theorem V8_v36 : V8 m c main_v36 = dstHot (dests (argI m c)) := by
  rw [Gen.V8_of m c main_v36 (by decide), V7_v36]

/-- its running counts, -/
theorem V8_v37 : V8 m c main_v37 = runningCount (dstHot (dests (argI m c))) := by
  refine (v37_at (V7 m c)).trans ?_
  rw [V7_v36]

/-- the relative destinations where they are read, -/
theorem V8_v29 : V8 m c main_v29 = rels c (argI m c) := by
  rw [Gen.V8_of m c main_v29 (by decide), Gen.V7_of m c main_v29 (by decide), V6_v29]

/-- the slots, -/
theorem V10_v47 : V10 m c main_v47 = slots c (argI m c) := by
  refine (v47_at (V9 m c)).trans ?_
  rw [show V9 m c main_v43 = _ from v43_at (V8 m c), show V9 m c main_v46 = _ from v46_at (V8 m c), show V9 m c main_c_10 = _ from c10_at (V8 m c),
    V8_v36, V8_v37, V8_v29]
  rfl

/-- A buffer that the later stretches leave alone holds what the first left in it. -/
theorem V10_of_V1 (r : Ref sig .tc) (h1 : r ∉ Gen.hostOps0_1_W) (h2 : r ∉ Gen.hostOps0_2_W) (h3 : r ∉ Gen.hostOps0_3_W) (h4 : r ∉ Gen.hostOps0_4_W)
    (h5 : r ∉ Gen.hostOps0_5_W) (h6 : r ∉ Gen.hostOps0_6_W) (h7 : r ∉ Gen.hostOps0_7_W) (h8 : r ∉ Gen.hostOps0_8_W) (h9 : r ∉ Gen.hostOps0_9_W) :
    V10 m c r = V1 m c r := by
  rw [Gen.V10_of m c r h9, Gen.V9_of m c r h8, Gen.V8_of m c r h7, Gen.V7_of m c r h6, Gen.V6_of m c r h5, Gen.V5_of m c r h4,
    Gen.V4_of m c r h3, Gen.V3_of m c r h2, Gen.V2_of m c r h1]

/-- The tokens, -/
theorem V10_arg0 : V10 m c main_arg0 = argX m c := by
  rw [V10_of_V1 m c main_arg0 (by decide) (by decide) (by decide) (by decide) (by decide) (by decide) (by decide) (by decide) (by decide),
    Gen.V1_of m c main_arg0 (by decide)]
/-- the experts' matrices -/
theorem V10_arg3 : V10 m c main_arg3 = argE m c := by
  rw [V10_of_V1 m c main_arg3 (by decide) (by decide) (by decide) (by decide) (by decide) (by decide) (by decide) (by decide) (by decide),
    Gen.V1_of m c main_arg3 (by decide)]
/-- and the shared matrix are still the arguments; -/
theorem V10_arg4 : V10 m c main_arg4 = argS m c := by
  rw [V10_of_V1 m c main_arg4 (by decide) (by decide) (by decide) (by decide) (by decide) (by decide) (by decide) (by decide) (by decide),
    Gen.V1_of m c main_arg4 (by decide)]

/-- the gates -/
theorem V10_v24 : V10 m c main_v24 = gate (scores (argX m c) (argR m c)) (experts (argI m c)) := by
  rw [V10_of_V1 m c main_v24 (by decide) (by decide) (by decide) (by decide) (by decide) (by decide) (by decide) (by decide) (by decide)]
  exact v24_at (V0 m c) c

/-- and the experts within the groups are still those computed. -/
theorem V10_v26 : V10 m c main_v26 = locals (argI m c) := by
  rw [Gen.V10_of m c main_v26 (by decide), Gen.V9_of m c main_v26 (by decide), Gen.V8_of m c main_v26 (by decide), Gen.V7_of m c main_v26 (by decide),
    Gen.V6_of m c main_v26 (by decide), Gen.V5_of m c main_v26 (by decide), V4_v26]

/-- What the kernel is given: the payload, -/
theorem GG_val : (GG m c).val = payload (argX m c) (gate (scores (argX m c) (argR m c)) (experts (argI m c))) (locals (argI m c)) := by
  refine (v59_at (V10 m c)).trans ?_
  rw [V10_arg0, V10_v24, V10_v26]
/-- the slots, -/
theorem GG_flat : (GG m c).flat = broadcastInDim S1x2048 ![1] bcast_S2048_S1x2048_1 (slots c (argI m c)) := by
  unfold GG
  dsimp only
  unfold VV
  have h := v60_at (V10 m c)
  rw [V10_v47] at h
  exact h
/-- the tokens, -/
theorem GG_x : (GG m c).x = (truncf .bf16 (argX m c) bitsLt_bf16_f32 : FVec F S2048x512 .bf16) := by
  have h := v61_at (V10 m c)
  rw [V10_arg0] at h
  exact h
/-- the shared weights, -/
theorem GG_sw : (GG m c).sw = (truncf .bf16 (argS m c) bitsLt_bf16_f32 : FVec F S512x1024 .bf16) := by
  have h := v62_at (V10 m c)
  rw [V10_arg4] at h
  exact h
/-- and the experts' weights. -/
theorem GG_ew : (GG m c).ew = (truncf .bf16 (argE m c) bitsLt_bf16_f32 : FVec F S8x512x1024 .bf16) := by
  have h := v63_at (V10 m c)
  rw [V10_arg3] at h
  exact h

end Cert.KernelIdeal

end
-- ==== Proof.Slots.lean ====
module

public import proofs.«01_k».proof.Proof.HostVal
public import Idealize.ShloMosaic.Lib.Routing.Ops
public import Idealize.ShloMosaic.Lib.Routing.Words
public import Idealize.ShloMosaic.Lib.Pointwise.Tactic
public import Idealize.ShloMosaic.Lib.Pointwise.Reshape
public import Idealize.ShloMosaic.Lib.Pointwise.Reduce
public import Idealize.ShloMosaic.Lib.Pointwise.IndexBridge
public import Idealize.ShloMosaic.Lib.WordCmp

/-! The slots of a device's tokens: `16` groups by `192` places. -/

@[expose] public section

noncomputable section

namespace Cert.KernelIdeal

open Idealize.ShloMosaic
open Facts₀ Facts

/-- The device's number is its word. -/
theorem meWord_at (c : Dev nD) (i : S_.Idx) : meWord c i = BitVec.ofNat 32 c.val := by
  have key : ∀ c : Fin 16, IntOp.remui .host (IntOp.divui .host (BitVec.ofNat 32 c.val) 1#32) 16#32 = BitVec.ofNat 32 c.val := by
    decide +kernel
  exact key c

/-- The destination of a token routed to expert `a` is `a / 8`, -/
theorem dests_at (r : IVec S2048x1 32) (i : S2048.Idx) {a : Nat} (h : experts r i = BitVec.ofNat 32 a) (ha : a < 128) :
    dests r i = BitVec.ofNat 32 (a / 8) :=
  Routing.pyDiv_ap bcast_S_S2048 (experts r) _ i h rfl (by omega) (by decide) (by decide)

/-- and within the group it is expert `a % 8`. -/
theorem locals_at (r : IVec S2048x1 32) (i : S2048.Idx) {a : Nat} (h : experts r i = BitVec.ofNat 32 a) (ha : a < 128) :
    locals r i = BitVec.ofNat 32 (a % 8) :=
  Routing.pyRem_ap bcast_S_S2048 (experts r) _ i h rfl (by omega) (by decide) (by decide)

/-- The remainder of a difference of two numbers below sixteen, which may be negative. -/
theorem rem_diff (x : IVec S2048 32) (i : S2048.Idx) (a b : Fin 16) (h : x i = BitVec.ofNat 32 a.val - BitVec.ofNat 32 b.val) :
    Routing.pyRem bcast_S_S2048 x (constantI S_ 32 16#32) i = BitVec.ofNat 32 (a - b).val := by
  have key : ∀ a b : Fin 16, Scalar.select
      (IntOp.andi
        (IntOp.cmpi .ne (IntOp.cmpi .slt (IntOp.remsi .host (BitVec.ofNat 32 a.val - BitVec.ofNat 32 b.val) 16#32) 0#32) (IntOp.cmpi .slt 16#32 0#32))
        (IntOp.cmpi .ne (IntOp.remsi .host (BitVec.ofNat 32 a.val - BitVec.ofNat 32 b.val) 16#32) 0#32))
      (IntOp.remsi .host (BitVec.ofNat 32 a.val - BitVec.ofNat 32 b.val) 16#32 + 16#32)
      (IntOp.remsi .host (BitVec.ofNat 32 a.val - BitVec.ofNat 32 b.val) 16#32) = BitVec.ofNat 32 (a - b).val := by
    decide +kernel
  unfold Routing.pyRem
  simp only [WordCmp.select_at, WordCmp.cmpi_at, WordCmp.andi_at, Routing.addi_ap, Host.remsi_apply, Routing.bc0, WordCmp.constantI_at, h]
  exact key a b

/-- Its destination counted from the device, around the ring. -/
theorem rels_at (c : Dev nD) (r : IVec S2048x1 32) (i : S2048.Idx) {a : Nat} (h : experts r i = BitVec.ofNat 32 a) (ha : a < 128) :
    rels c r i = BitVec.ofNat 32 ((⟨a / 8, by omega⟩ : Fin 16) - (show Fin 16 from c)).val := by
  refine rem_diff _ i ⟨a / 8, by omega⟩ (show Fin 16 from c) ?_
  show dests r i - _ = _
  rw [dests_at r i h ha]
  congr 1
  exact meWord_at c _

/-- An entry of the one-hot matrix. -/
theorem dstHot_at (d : IVec S2048 32) (t : Fin 2048) (g : Fin 16) {a : Nat} (h : d (ix1 t) = BitVec.ofNat 32 a) (ha : a < 16) :
    dstHot d (ix2 t g) = BitVec.ofNat 32 (if a = g.val then 1 else 0) := by
  unfold dstHot
  pointwise
  rw [h, WordCmp.cmpi_eq_ofNat (w := 32) (by omega) (by omega), Routing.setWidth_ofBool]

/-- Row by row the running counts of a column. -/
theorem runningCount_at (x : IVec S2048x16 32) (f : Nat → Nat) (g : Fin 16) (hx : ∀ i : Fin 2048, x (ix2 i g) = BitVec.ofNat 32 (f i.val)) (j : Fin 2048) :
    runningCount x (ix2 j g) = BitVec.ofNat 32 (∑ i ∈ Finset.range (j.val + 1), f i) := by
  have hn : (⟨2, ![2048, 1]⟩ : Shape).numel = 2048 := by decide
  have hsym (n : Fin (⟨2, ![2048, 1]⟩ : Shape).numel) : ((⟨2, ![2048, 1]⟩ : Shape).rowMajor.symm n 0).val = n.val
      ∧ ((⟨2, ![2048, 1]⟩ : Shape).rowMajor.symm n 1).val = 0 := by
    have e : (⟨2, ![2048, 1]⟩ : Shape).rowMajor.symm n = ix2 (n.cast hn) (0 : Fin 1) :=
      ((⟨2, ![2048, 1]⟩ : Shape).rowMajor.symm_apply_eq).2 (Fin.ext (by
        rw [Shape.rowMajor_val_two]
        show n.val = n.val * 1 + 0
        omega))
    rw [e]
    exact ⟨rfl, rfl⟩
  unfold runningCount Host.reduceWindow
  refine (Routing.foldl_addi_ofNat _ _ (fun n => if 2047 ≤ j.val + n.val then f (j.val + n.val - 2047) else 0) (fun n _ => ?_) _ 0 rfl).trans ?_
  · obtain ⟨h0, h1⟩ := hsym n
    have hlt : n.val < 2048 := (n.cast hn).isLt
    dsimp only
    split
    · next hin =>
      have hi := hin 0
      change 2047 ≤ j.val * 1 + ((⟨2, ![2048, 1]⟩ : Shape).rowMajor.symm n 0).val
        ∧ j.val * 1 + ((⟨2, ![2048, 1]⟩ : Shape).rowMajor.symm n 0).val - 2047 < 2048 at hi
      rw [h0] at hi
      rw [if_pos (by omega)]
      refine (congrArg x (funext fun a => Fin.ext ?_)).trans (hx ⟨j.val + n.val - 2047, by omega⟩)
      match a with
      | ⟨0, _⟩ =>
        show j.val * 1 + ((⟨2, ![2048, 1]⟩ : Shape).rowMajor.symm n 0).val - 2047 = j.val + n.val - 2047
        rw [h0, Nat.mul_one]
      | ⟨1, _⟩ =>
        show g.val * 1 + ((⟨2, ![2048, 1]⟩ : Shape).rowMajor.symm n 1).val - 0 = g.val
        rw [h1]; omega
    · next hin =>
      rw [if_neg fun hle => hin fun a => by
        match a with
        | ⟨0, _⟩ =>
          show 2047 ≤ j.val * 1 + ((⟨2, ![2048, 1]⟩ : Shape).rowMajor.symm n 0).val
            ∧ j.val * 1 + ((⟨2, ![2048, 1]⟩ : Shape).rowMajor.symm n 0).val - 2047 < 2048
          rw [h0]; omega
        | ⟨1, _⟩ =>
          show 0 ≤ g.val * 1 + ((⟨2, ![2048, 1]⟩ : Shape).rowMajor.symm n 1).val
            ∧ g.val * 1 + ((⟨2, ![2048, 1]⟩ : Shape).rowMajor.symm n 1).val - 0 < 16
          rw [h1]; omega]
      rfl
  · rw [Nat.zero_add, Routing.map_finRange_val _ (fun w => if 2047 ≤ j.val + w then f (j.val + w - 2047) else 0)]
    refine congrArg (BitVec.ofNat 32) ((congrArg (fun M => ((List.range M).map fun w => if 2047 ≤ j.val + w then f (j.val + w - 2047) else 0).sum)
      hn).trans ((Routing.sum_window f 2047 j.val (by omega)).trans ?_))
    rfl

/-- A token's place is its running count less one. -/
theorem place_at (run hot : IVec S2048x16 32) (t : Fin 2048) (g : Fin 16) {n : Nat} (hr : run (ix2 t g) = BitVec.ofNat 32 n)
    (hh : ∀ g' : Fin 16, hot (ix2 t g') = BitVec.ofNat 32 (if g.val = g'.val then 1 else 0)) :
    place run hot (ix1 t) = BitVec.ofNat 32 n - 1#32 := by
  unfold place
  pointwise
  have fold (f : Fin 16 → BitVec 32) : Finset.fold IntOp.addi (0#32) f Finset.univ = ∑ g', f g' := rfl
  rw [fold, Finset.sum_eq_single g]
  · rw [hh, hr, if_pos rfl]
    exact congrArg (· - 1#32) (BitVec.mul_one _)
  · intro g' _ hne
    rw [hh, if_neg (fun e => hne (Fin.ext e.symm))]
    exact BitVec.mul_zero
  · intro hn; exact absurd (Finset.mem_univ g) hn

/-! ## The slots -/

section
variable (E : Nat → Nat)

/-- How many of the first `n` tokens go to group `g`. -/
def countTo (g n : Nat) : Nat := ∑ i ∈ Finset.range n, if E i / 8 = g then 1 else 0

/-- The tokens of a group counted one token further. -/
theorem countTo_succ (g n : Nat) : countTo E g (n + 1) = countTo E g n + if E n / 8 = g then 1 else 0 := Finset.sum_range_succ _ _

/-- Counting further never counts fewer. -/
theorem countTo_mono (g : Nat) {a b : Nat} (h : a ≤ b) : countTo E g a ≤ countTo E g b :=
  Finset.sum_le_sum_of_subset (Finset.range_mono h)

/-- A token's place: the number of earlier tokens of its group. -/
def placeOf (t : Nat) : Nat := countTo E (E t / 8) t

/-- Two tokens of one group have different places. -/
theorem placeOf_inj {t t' : Nat} (hg : E t / 8 = E t' / 8) (hp : placeOf E t = placeOf E t') : t = t' := by
  unfold placeOf at hp
  have aux (a b : Nat) (hab : a < b) (h : E a / 8 = E b / 8) : countTo E (E a / 8) a < countTo E (E b / 8) b := by
    have h1 := countTo_mono E (E b / 8) (show a + 1 ≤ b by omega)
    rw [countTo_succ, if_pos h] at h1
    rw [h]; omega
  rcases Nat.lt_trichotomy t t' with h | h | h
  · exact absurd hp (aux _ _ h hg).ne
  · exact h
  · exact absurd hp.symm (aux _ _ h hg.symm).ne

variable (r : IVec S2048x1 32) (hE : ∀ t : Fin 2048, experts r (ix1 t) = BitVec.ofNat 32 (E t.val)) (hlt : ∀ t : Fin 2048, E t.val < 128)

include hE hlt in
/-- A token's place is the number of earlier tokens of its group. -/
theorem places_at (t : Fin 2048) : places r (ix1 t) = BitVec.ofNat 32 (placeOf E t.val) := by
  have ht := hlt t
  have hot (t' : Fin 2048) (g : Fin 16) : dstHot (dests r) (ix2 t' g) = BitVec.ofNat 32 (if E t'.val / 8 = g.val then 1 else 0) :=
    dstHot_at _ t' g (dests_at r _ (hE t') (hlt t')) (by have := hlt t'; omega)
  unfold places
  rw [place_at _ _ t ⟨E t.val / 8, by omega⟩
    (runningCount_at _ (fun i => if E i / 8 = E t.val / 8 then 1 else 0) ⟨E t.val / 8, by omega⟩ (fun i => hot i _) t) (fun g' => hot t g')]
  rw [show (1#32 : BitVec 32) = BitVec.ofNat 32 1 from rfl, Routing.ofNat32_sub]
  · congr 1
    have h := countTo_succ E (E t.val / 8) t.val
    rw [if_pos rfl] at h
    unfold placeOf
    unfold countTo at h ⊢
    omega
  · have h := countTo_succ E (E t.val / 8) t.val
    rw [if_pos rfl] at h
    unfold countTo at h
    omega

/-- The group of a token, counted from the device itself. -/
def groupOf (c : Dev nD) (t : Fin 2048) : Fin 16 := (⟨E t.val / 8, by have := hlt t; omega⟩ : Fin 16) - (show Fin 16 from c)

include hE in
/-- The slot of a token whose place is below `192`. -/
theorem slots_at (c : Dev nD) (t : Fin 2048) (hp : placeOf E t.val < 192) :
    slots c r (ix1 t) = BitVec.ofNat 32 (192 * (groupOf E hlt c t).val + placeOf E t.val) := by
  have hpl := places_at E r hE hlt t
  have hrel := rels_at c r (ix1 t) (hE t) (hlt t)
  unfold slots
  pointwise
  rw [hpl, hrel, show (192#32 : BitVec 32) = BitVec.ofNat 32 192 from rfl, WordCmp.cmpi_slt_ofNat (w := 32) (by omega) (by omega),
    WordCmp.select_decide, if_pos hp, WordCmp.muli_ofNat, WordCmp.addi_ofNat, Nat.mul_comm]
  rfl

include hE hlt in
/-- No two tokens of a device share a slot. -/
theorem slots_inj (c : Dev nD) (hp : ∀ t : Fin 2048, placeOf E t.val < 192) (t t' : Fin 2048) (h : slots c r (ix1 t') = slots c r (ix1 t)) : t' = t := by
  rw [slots_at E r hE hlt c t (hp t), slots_at E r hE hlt c t' (hp t')] at h
  have h1 := hp t
  have h2 := hp t'
  have h3 := (groupOf E hlt c t).isLt
  have h4 := (groupOf E hlt c t').isLt
  rw [WordCmp.ofNat_eq_ofNat_iff (by omega) (by omega)] at h
  have hg : groupOf E hlt c t' = groupOf E hlt c t := Fin.ext (by omega)
  have hd : E t'.val / 8 = E t.val / 8 := by
    unfold groupOf at hg
    exact congrArg Fin.val (sub_left_injective hg)
  exact Fin.ext (placeOf_inj E hd (by omega))

/-- The device that holds the group of a token. -/
theorem pr_groupOf (c : Dev nD) (t : Fin 2048) : (pr c (groupOf E hlt c t)).val = E t.val / 8 := by
  unfold pr groupOf
  rw [add_sub_cancel]

/-- A place is below the number of tokens of its group. -/
theorem placeOf_lt (cap : ∀ g < 16, countTo E g 2048 ≤ 192) (t : Fin 2048) (ht : E t.val < 128) : placeOf E t.val < 192 := by
  have h := countTo_mono E (E t.val / 8) (show t.val + 1 ≤ 2048 by omega)
  rw [countTo_succ, if_pos rfl] at h
  have := cap (E t.val / 8) (by omega)
  unfold placeOf
  omega

end

end Cert.KernelIdeal

end
-- ==== Proof.Pre.lean ====
module

public import proofs.«01_k».proof.Proof.Slots
public import proofs.«01_k».proof.Pre_routable_KernelIdeal
public import proofs.«01_k».proof.Pre_routable_ReferenceIdeal
public import Idealize.ShloMosaic.Lib.Pointwise.Tactic
public import Idealize.ShloMosaic.Lib.ReduceAll
public import Idealize.ShloMosaic.Lib.StableHlo.Predicate

/-! The precondition: its shape facts, and what it says of a device's blocks. -/

@[expose] public section

noncomputable section

namespace Cert

open Idealize.ShloMosaic

/-- The shape facts of the precondition, over one device's blocks, -/
theorem preFacts : Cert.Pre_routable_KernelIdeal.Facts where
  bcast_S_S2048x512 := by decide
  reducesTo_S2048x512_S_d0_1 := by decide
  h_S_ := by decide
  bcast_S_S512x128 := by decide
  reducesTo_S512x128_S_d0_1 := by decide
  bcast_S_S2048x1 := by decide
  reducesTo_S2048x1_S_d0_1 := by decide
  bcast_S_S16 := by decide
  bcast_S16_S1x16_1 := by decide
  bcast_S2048x1_S2048x16_0_1 := by decide
  bcast_S1x16_S2048x16_0_1 := by decide
  bcast_S_S1x16 := by decide
  natLt_1_32 := by decide
  reducesTo_S2048x16_S16_d0 := by decide
  reducesTo_S16_S_d0 := by decide

/-- and over the whole arrays. -/
theorem preFactsWhole : Cert.Pre_routable_ReferenceIdeal.Facts where
  bcast_S_S32768x512 := by decide
  reducesTo_S32768x512_S_d0_1 := by decide
  h_S_ := by decide
  bcast_S_S512x128 := by decide
  reducesTo_S512x128_S_d0_1 := by decide
  bcast_S_S32768x1 := by decide
  reducesTo_S32768x1_S_d0_1 := by decide
  bcast_S_S16 := by decide
  bcast_S16_S1x16_1 := by decide
  bcast_S32768x1_S32768x16_0_1 := by decide
  bcast_S1x16_S32768x16_0_1 := by decide
  bcast_S_S1x16 := by decide
  natLt_1_32 := by decide
  reducesTo_S32768x16_S16_d0 := by decide
  reducesTo_S16_S_d0 := by decide

/-- What the precondition says of a device's blocks. -/
structure Routable (x : FVec Ideal KernelIdeal.S2048x512 .f32) (w : FVec Ideal KernelIdeal.S512x128 .f32) (r : IVec KernelIdeal.S2048x1 32) : Prop where
  x_bot : ∀ i, x i ≠ ⊥
  x_top : ∀ i, x i ≠ ⊤
  w_bot : ∀ i, w i ≠ ⊥
  w_top : ∀ i, w i ≠ ⊤
  lt : ∀ t : Fin 2048, (r (ix2 t 0)).toNat < 128
  fits : ∀ g : Fin 16, (Finset.univ.filter fun t : Fin 2048 => (r (ix2 t 0)).toNat / 8 = g.val).card ≤ 192

/-- A value whose magnitude compares less than infinity is finite. -/
theorem finite_of_abs_lt (y : Ideal .f32) (h : FloatOps.cmpf .olt (FloatOps.hostAbsf y) (FloatOps.ofBits (F := Ideal) .f32 0x7F800000#32) = 1#1) : y ≠ ⊥ ∧ y ≠ ⊤ := by
  rw [show FloatOps.ofBits (F := Ideal) .f32 0x7F800000#32 = ⊤ by simp [Ideal.ofBits, Ideal.ieee]] at h
  change Ideal.cmp .olt (max y (-y)) ⊤ = 1#1 at h
  have h' : max y (-y) < (⊤ : EReal) := (WordCmp.ofBool_decide_eq_one_iff _).1 h
  constructor
  · rintro rfl
    simp at h'
  · rintro rfl
    simp at h'

/-- The group of an expert `a`: it is the one whose bounds hold `a`. -/
theorem between_key : ∀ (a : Fin 128) (g : Fin 16), IntOp.andi (IntOp.cmpi .sge (BitVec.ofNat 32 a.val) (IntOp.muli (BitVec.ofNat 32 g.val) 8#32)) (IntOp.cmpi .slt (BitVec.ofNat 32 a.val) (IntOp.addi (IntOp.muli (BitVec.ofNat 32 g.val) 8#32) 8#32)) = BitVec.ofBool (decide (a.val / 8 = g.val)) := by
  decide +kernel

/-- A small word that compares at most 192 is at most 192. -/
theorem le_of_sle (n : BitVec 32) (hn : n.toNat ≤ 2048) (h : IntOp.cmpi .sle n 192#32 = 1#1) : n.toNat ≤ 192 := by
  rw [WordCmp.cmpi_sle_eq, WordCmp.ofBool_decide_eq_one_iff, BitVec.toInt_eq_toNat_of_lt (by omega)] at h
  have : (192#32).toInt = 192 := by decide
  omega

open Cert.Pre_routable_KernelIdeal in
/-- Where the precondition's program says one, the blocks are as `Routable` says. -/
theorem routable_of (x : FVec Ideal KernelIdeal.S2048x512 .f32) (w : FVec Ideal KernelIdeal.S512x128 .f32) (r : IVec KernelIdeal.S2048x1 32)
    (ew : FVec Ideal KernelIdeal.S8x512x1024 .f32) (sw : FVec Ideal KernelIdeal.S512x1024 .f32)
    (h : @Cert.Pre_routable_KernelIdeal.fn preFacts Ideal _ x w r ew sw = fun _ => 1#1) : Routable x w r := by
  have h0 := congrFun h ix0
  unfold fn fn_part1 at h0
  dsimp only at h0
  rw [andi_apply, andi_apply, andi_apply] at h0
  obtain ⟨h1, hfit⟩ := IntOp.andi_eq_one.1 h0
  obtain ⟨h2, hnamed⟩ := IntOp.andi_eq_one.1 h1
  obtain ⟨hx, hw⟩ := IntOp.andi_eq_one.1 h2
  have : Subsingleton S_.Idx := ⟨fun a b => funext fun i => i.elim0⟩
  have ax := Host.reduce_andi_all _ _ _ _ _ hx
  have aw := Host.reduce_andi_all _ _ _ _ _ hw
  have an := Host.reduce_andi_all _ _ _ _ _ hnamed
  have af := Host.reduce_andi_all _ _ _ _ _ hfit
  have lt (t : Fin 2048) : (r (ix2 t 0)).toNat < 128 := by
    have e : IntOp.andi (IntOp.cmpi .sge (r (ix2 t 0)) 0#32) (IntOp.cmpi .slt (r (ix2 t 0)) (BitVec.ofNat 32 128)) = 1#1 := an (ix2 t 0)
    rw [WordCmp.andi_sge_zero_slt_ofNat (by decide), WordCmp.ofBool_decide_eq_one_iff] at e
    exact e
  refine ⟨fun i => (finite_of_abs_lt _ (ax i)).1, fun i => (finite_of_abs_lt _ (ax i)).2, fun i => (finite_of_abs_lt _ (aw i)).1, fun i => (finite_of_abs_lt _ (aw i)).2, lt, ?_⟩
  intro g
  have e := af (ix1 g)
  change IntOp.cmpi .sle (Host.reduce IntOp.addi _ _ _ _ (ix1 g)) 192#32 = 1#1 at e
  generalize hc : Host.reduce IntOp.addi _ _ _ _ (ix1 g) = n at e
  have hn := congrArg BitVec.toNat hc
  rw [StableHlo.Predicate.toNat_reduce_count_rows (by decide)] at hn
  refine le_trans (le_of_eq ?_) (le_of_sle n ?_ e)
  · refine Eq.trans (congrArg Finset.card (Finset.filter_congr fun t _ => ?_)) hn
    have key := between_key ⟨_, lt t⟩ g
    simp only [BitVec.ofNat_toNat, BitVec.setWidth_eq] at key
    refine (WordCmp.ofBool_decide_eq_one_iff _).symm.trans (iff_of_eq (congrArg (· = 1#1) (key.symm.trans ?_)))
    change _ = andi _ _ (ix2 t g)
    pointwise
  · rw [← hn]; exact (Finset.card_filter_le _ _).trans (by simp)

end Cert

end
-- ==== Proof.Entries.lean ====
module

public import proofs.«01_k».proof.Proof.Steps
public import Idealize.ShloMosaic.Lib.Pointwise.Tactic
public import Idealize.ShloMosaic.Lib.Pointwise.Contract
public import Idealize.ShloMosaic.Lib.Pointwise.Reshape
public import Idealize.ShloMosaic.Lib.Pointwise.Reduce
public import Idealize.ShloMosaic.Lib.WordCmp
public import Idealize.ShloMosaic.Lib.Pipeline.ValueKit.Geometry

/-! What a device's body computes, an entry at a time, over the extended reals. -/

@[expose] public section

noncomputable section

namespace Cert.KernelIdeal

open Idealize.ShloMosaic
open Facts₀ Facts

/-- The word of a comparison for equality, read as a number, is one or zero. -/
theorem onehot_signed {w : Nat} (a b : BitVec w) :
    (FloatOps.sitofp .f32 (BitVec.setWidth 32 (IntOp.cmpi .eq a b)) : Ideal .f32) = if a = b then (1 : EReal) else 0 := by
  have e : IntOp.cmpi .eq a b = BitVec.ofBool (decide (a = b)) := by exact WordCmp.cmpi_eq_eq a b
  rw [e]
  show ((((BitVec.setWidth 32 (BitVec.ofBool (decide (a = b)))).toInt : ℤ) : ℝ) : EReal) = _
  by_cases h : a = b <;> simp [h]

/-- An entry of a packed chunk: the sum of the tokens whose slot is the row's. -/
theorem pack_entry (k : ℕ) (val : FVec Ideal S2048x520 .bf16) (flat : IVec S2048 32) (r : Fin 192) (d : Fin 520) :
    pack (F := Ideal) k val flat (ix2 r d)
      = ∑ t : Fin 2048, (if IntOp.addi (BitVec.ofNat 32 r.val) (BitVec.ofNat 32 (192 * k)) = flat (ix1 t) then (1 : EReal) else 0) * val (ix2 t d) := by
  unfold pack
  pointwise [dot_S192x2048_S2048x520_S192x520_1_0_0_1_n_n, dot_S192x512_S512x1024_S192x1024_1_0_0_1_n_n]
  simp only [onehot_signed]

/-- An entry of one expert's share of a chunk: the row, scaled by its mark for that expert, through the expert's matrix. -/
theorem expertTerm_entry (o : ℕ) (ho) (chunk : FVec Ideal S192x520 .bf16) (w : Vec Ideal S1x512x1024 .bf16) (r : Fin 192) (h : Fin 1024)
    (hb : o < 520) :
    expertTerm (F := Ideal) o ho chunk w (ix2 r h)
      = ∑ d : Fin 512, chunk (ix2 r ⟨d.val, by omega⟩) * chunk (ix2 r ⟨o, hb⟩) * w (ix3 0 d h) := by
  unfold expertTerm
  pointwise [dot_S192x2048_S2048x520_S192x520_1_0_0_1_n_n, dot_S192x512_S512x1024_S192x1024_1_0_0_1_n_n]

/-- A matrix loaded from the device's experts is that expert's. -/
theorem wOf_entry (d : Given Ideal) (e : Fin 8) (i : Fin 512) (h : Fin 1024) : wOf d e (ix3 0 i h) = d.ew (ix3 e i h) := by
  refine congrArg d.ew (funext fun a => Fin.ext ?_)
  rw [ValueKit.rect_emb_unit_val]
  match a with
  | ⟨0, _⟩ => simp
  | ⟨1, _⟩ => simp
  | ⟨2, _⟩ => simp

/-- An entry of a chunk that went through the eight experts. -/
theorem layer2_entry (d : Given Ideal) (chunk : Vec Ideal S192x520 .bf16) (r : Fin 192) (h : Fin 1024) :
    layer2 d chunk (ix2 r h)
      = ∑ o : Fin 8, ∑ i : Fin 512, chunk (ix2 r ⟨i.val, by omega⟩) * chunk (ix2 r ⟨512 + o.val, by omega⟩) * d.ew (ix3 o i h) := by
  unfold layer2 layer expert
  pointwise
  rw [Fin.sum_univ_eight]
  simp only [expertTerm_entry _ _ chunk _ r h (show 512 < 520 by decide), expertTerm_entry _ _ chunk _ r h (show 513 < 520 by decide),
    expertTerm_entry _ _ chunk _ r h (show 514 < 520 by decide), expertTerm_entry _ _ chunk _ r h (show 515 < 520 by decide),
    expertTerm_entry _ _ chunk _ r h (show 516 < 520 by decide), expertTerm_entry _ _ chunk _ r h (show 517 < 520 by decide),
    expertTerm_entry _ _ chunk _ r h (show 518 < 520 by decide), expertTerm_entry _ _ chunk _ r h (show 519 < 520 by decide), wOf_entry]
  rfl

/-- An entry after a returned chunk was added to the tokens: what was there and the sum of the rows whose slot is the token's. -/
theorem unsort_entry (k o : Nat) (ho : S2048.Slices ![o] S1024) (flat : IVec S2048 32) (chunk : FVec Ideal S192x1024 .bf16)
    (old : Vec Ideal S1024x1024 .f32) (t h : Fin 1024) (hb : t.val + o < 2048) :
    unsort (F := Ideal) k o ho flat chunk old (ix2 t h) = old (ix2 t h)
      + ∑ r : Fin 192, (if IntOp.addi (BitVec.ofNat 32 r.val) (BitVec.ofNat 32 (192 * k)) = flat (ix1 ⟨t.val + o, hb⟩) then (1 : EReal) else 0) * chunk (ix2 r h) := by
  unfold unsort
  pointwise [dot_S1024x192_S192x1024_S1024x1024_1_0_0_1_n_n]
  simp only [onehot_signed, Nat.add_comm o]

/-- An entry of the shared part. -/
theorem sharedOut_entry (x : Vec Ideal S2048x512 .bf16) (w : Vec Ideal S512x1024 .bf16) (t : Fin 2048) (h : Fin 1024) :
    sharedOut (F := Ideal) x w (ix2 t h) = ∑ i : Fin 512, x (ix2 t i) * w (ix2 i h) := by
  unfold sharedOut
  pointwise [dot_S2048x512_S512x1024_S2048x1024_1_0_0_1_n_n]

/-- The same as `unsort_entry`, over both halves of the tokens. -/
theorem addTo_entry (k : Nat) (flat : IVec S2048 32) (chunk : FVec Ideal S192x1024 .bf16) (o : Vec Ideal S2048x1024 .f32) (t : Fin 2048) (h : Fin 1024) :
    addTo (F := Ideal) k flat chunk o (ix2 t h) = o (ix2 t h)
      + ∑ r : Fin 192, (if IntOp.addi (BitVec.ofNat 32 r.val) (BitVec.ofNat 32 (192 * k)) = flat (ix1 t) then (1 : EReal) else 0) * chunk (ix2 r h) := by
  have up (a : Fin 1024) : rO0.emb (ix2 a h) = ix2 ⟨a.val, by omega⟩ h := by
    funext b; apply Fin.ext; rw [ValueKit.rect_emb_unit_val]
    match b with
    | ⟨0, _⟩ => simp
    | ⟨1, _⟩ => simp
  have down (a : Fin 1024) : rO1.emb (ix2 a h) = ix2 ⟨a.val + 1024, by omega⟩ h := by
    funext b; apply Fin.ext; rw [ValueKit.rect_emb_unit_val]
    match b with
    | ⟨0, _⟩ => simp [Nat.add_comm]
    | ⟨1, _⟩ => simp
  unfold addTo addDown addUp
  by_cases ht : t.val < 1024
  · have e : ix2 t h = rO0.emb (ix2 ⟨t.val, ht⟩ h) := (up ⟨t.val, ht⟩).symm
    rw [Rect.overlay_of_not_mem _ _ _ (by
      rw [Rect.mem_set_unit]
      intro hc
      have := (hc 0).1
      simp at this
      omega)]
    rw [e, Rect.overlay_emb, unsort_entry _ _ _ _ _ _ _ _ (by first | omega | (simp; omega))]
    rfl
  · have e : ix2 t h = rO1.emb (ix2 ⟨t.val - 1024, by omega⟩ h) := by
      rw [down]; congr 1; apply Fin.ext; simp; omega
    have out : (ix2 t h : S2048x1024.Idx) ∉ rO0.set := by
      rw [Rect.mem_set_unit]
      intro hc
      have := (hc 0).2
      simp at this
      omega
    have f := e ▸ Rect.overlay_of_not_mem rO0 o (unsort k 0 slices_S2048_o0_S1024 flat chunk (fun i => o (rO0.emb i))) out
    rw [e, Rect.overlay_emb, unsort_entry _ _ _ _ _ _ _ _ (by simp; omega), f]
    simp only [show t.val - 1024 + 1024 = t.val by omega]

/-- The payload as the body loads it is the payload, -/
theorem valOf_entry (d : Given Ideal) (i : S2048x520.Idx) : valOf d i = d.val i := by
  unfold valOf
  pointwise

/-- and the slots are the slots. -/
theorem flatOf_entry (d : Given Ideal) (t : Fin 2048) : flatOf d (ix1 t) = d.flat (ix2 0 t) := by
  unfold flatOf
  pointwise

/-- What group `k` adds to a token's row of device `c`'s result. -/
def share (G : Dev nD → Given Ideal) (c : Dev nD) (t : Fin 2048) (h : Fin 1024) (k : Fin 16) : EReal :=
  ∑ r : Fin 192, (if BitVec.ofNat 32 (192 * k.val + r.val) = (G c).flat (ix2 0 t) then (1 : EReal) else 0)
    * layer2 (G (pr c k)) (chunkOf G c k) (ix2 r h)

/-- The word of a slot, from its group and its place. -/
theorem slot_word (k r : Nat) : IntOp.addi (BitVec.ofNat 32 r) (BitVec.ofNat 32 (192 * k)) = BitVec.ofNat 32 (192 * k + r) := by
  rw [WordCmp.addi_ofNat, Nat.add_comm]

/-- What one chunk adds to an entry. -/
theorem addTo_share (G : Dev nD → Given Ideal) (c : Dev nD) (k : Fin 16) (o : Vec Ideal S2048x1024 .f32) (t : Fin 2048) (h : Fin 1024) :
    addTo (F := Ideal) k.val (flatOf (G c)) (layer2 (G (pr c k)) (chunkOf G c k)) o (ix2 t h) = o (ix2 t h) + share G c t h k := by
  rw [addTo_entry]
  simp only [flatOf_entry, slot_word]
  rfl

/-- What a list of chunks adds to an entry. -/
theorem foldl_share (G : Dev nD → Given Ideal) (c : Dev nD) (t : Fin 2048) (h : Fin 1024) (l : List (Fin 16)) (o : Vec Ideal S2048x1024 .f32) :
    l.foldl (addRet G c) o (ix2 t h) = o (ix2 t h) + (l.map (share G c t h)).sum := by
  induction l generalizing o with
  | nil => simp
  | cons j l ih =>
    rw [List.foldl_cons, ih, List.map_cons, List.sum_cons, ← add_assoc]
    congr 1
    have e : returned G (pr c j) (-j) = layer2 (G (pr c j)) (chunkOf G c j) := by
      unfold returned; rw [pr_neg, neg_neg16]
    unfold addRet
    rw [e, addTo_share]

/-- An entry of a device's result: the shared layer and what the sixteen groups add. -/
theorem outEnd_entry (G : Dev nD → Given Ideal) (c : Dev nD) (t : Fin 2048) (h : Fin 1024) :
    outEnd G c (ix2 t h) = (∑ i : Fin 512, (G c).x (ix2 t i) * (G c).sw (ix2 i h)) + ∑ k : Fin 16, share G c t h k := by
  unfold outEnd
  rw [foldl_share]
  have e0 : pr c 0 = c := by revert c; decide
  have own : outOwn G c (ix2 t h) = (∑ i : Fin 512, (G c).x (ix2 t i) * (G c).sw (ix2 i h)) + share G c t h 0 := by
    have a := addTo_share G c 0 (sharedOut (G c).x (G c).sw) t h
    rw [e0] at a
    rw [sharedOut_entry] at a
    exact a
  rw [own, add_assoc]
  congr 1

/-- The row of a chunk at a slot only one token has is that token's row of the payload. -/
theorem chunk_row (G : Dev nD → Given Ideal) (c : Dev nD) (k : Fin 16) (r : Fin 192) (t : Fin 2048)
    (ht : (G c).flat (ix2 0 t) = BitVec.ofNat 32 (192 * k.val + r.val))
    (hu : ∀ t' : Fin 2048, (G c).flat (ix2 0 t') = (G c).flat (ix2 0 t) → t' = t) (d : Fin 520) :
    chunkOf G c k (ix2 r d) = (G c).val (ix2 t d) := by
  unfold chunkOf
  rw [pack_entry]
  simp only [slot_word, flatOf_entry, valOf_entry]
  rw [Finset.sum_eq_single t]
  · rw [if_pos ht.symm, one_mul]
  · intro t' _ hne
    rw [if_neg (fun e => hne (hu t' (by rw [← e, ht]))), zero_mul]
  · intro hn; exact absurd (Finset.mem_univ t) hn

/-- The entry of a token whose slot is its own: the shared layer and the expert layer, on the device that
holds its group, of the token's row of the payload. -/
theorem outEnd_token (G : Dev nD → Given Ideal) (c : Dev nD) (t : Fin 2048) (h : Fin 1024) (k : Fin 16) (r : Fin 192)
    (ht : (G c).flat (ix2 0 t) = BitVec.ofNat 32 (192 * k.val + r.val))
    (hu : ∀ t' : Fin 2048, (G c).flat (ix2 0 t') = (G c).flat (ix2 0 t) → t' = t) :
    outEnd G c (ix2 t h) = (∑ i : Fin 512, (G c).x (ix2 t i) * (G c).sw (ix2 i h))
      + ∑ o : Fin 8, ∑ i : Fin 512, (G c).val (ix2 t ⟨i.val, by omega⟩) * (G c).val (ix2 t ⟨512 + o.val, by omega⟩)
          * (G (pr c k)).ew (ix3 o i h) := by
  rw [outEnd_entry]
  congr 1
  have hword (k' : Fin 16) (r' : Fin 192) : BitVec.ofNat 32 (192 * k'.val + r'.val) = (G c).flat (ix2 0 t) ↔ k' = k ∧ r' = r := by
    rw [ht, WordCmp.ofNat_eq_ofNat_iff (by omega) (by omega), Fin.ext_iff, Fin.ext_iff]
    omega
  rw [Finset.sum_eq_single k]
  · unfold share
    rw [Finset.sum_eq_single r]
    · rw [if_pos ht.symm, one_mul, layer2_entry]
      simp only [chunk_row G c k r t ht hu]
    · intro r' _ hne
      rw [if_neg (fun e => hne ((hword k r').1 e).2), zero_mul]
    · intro hn; exact absurd (Finset.mem_univ r) hn
  · intro k' _ hne
    unfold share
    refine Finset.sum_eq_zero fun r' _ => ?_
    rw [if_neg (fun e => hne ((hword k' r').1 e).1), zero_mul]
  · intro hn; exact absurd (Finset.mem_univ k) hn

end Cert.KernelIdeal

end
-- ==== Proof.Softmax.lean ====
module

public import proofs.«01_k».proof.Proof.HostVal
public import proofs.«01_k».proof.Proof.Entries
public import Idealize.ShloMosaic.Lib.Pointwise.Tactic
public import Idealize.ShloMosaic.Lib.Pointwise.Contract
public import Idealize.ShloMosaic.Lib.Pointwise.Reshape
public import Idealize.ShloMosaic.Lib.Pointwise.Reduce
public import Idealize.ShloMosaic.Lib.Pointwise.Select

/-! The router's softmax, a row at a time. -/

@[expose] public section

noncomputable section

namespace Cert

open Idealize.ShloMosaic

/-- The softmax of a row of scores, at one of its places. -/
def rowProb (s : Fin 128 → EReal) (e : Fin 128) : EReal :=
  Ideal.div (Ideal.exp (s e - Finset.univ.fold max ⊥ s)) (∑ e', Ideal.exp (s e' - Finset.univ.fold max ⊥ s))

/-- A finite sum of reals is the same sum in the extended reals. -/
theorem coe_sum {ι : Type} (u : Finset ι) (f : ι → ℝ) : ((∑ i ∈ u, f i : ℝ) : EReal) = ∑ i ∈ u, (f i : EReal) := by
  classical
  induction u using Finset.induction with
  | empty => simp
  | insert a u ha ih => rw [Finset.sum_insert ha, Finset.sum_insert ha, EReal.coe_add, ih]

/-- The largest of a row of real scores is real. -/
theorem fold_max_coe (r : Fin 128 → ℝ) : ∃ m : ℝ, Finset.univ.fold max ⊥ (fun e => (r e : EReal)) = m := by
  obtain ⟨e, _, he⟩ := Finset.exists_mem_eq_sup (Finset.univ : Finset (Fin 128)) ⟨0, Finset.mem_univ 0⟩ (fun e => (r e : EReal))
  exact ⟨r e, he⟩

/-- A row of real scores has real softmax values, none of them negative. -/
theorem rowProb_coe (r : Fin 128 → ℝ) (e : Fin 128) : ∃ p : ℝ, 0 ≤ p ∧ rowProb (fun e => (r e : EReal)) e = p := by
  obtain ⟨m, hm⟩ := fold_max_coe r
  have hz : (∑ e', Real.exp (r e' - m)) ≠ 0 := (Finset.sum_pos (fun _ _ => Real.exp_pos _) ⟨0, Finset.mem_univ 0⟩).ne'
  refine ⟨Real.exp (r e - m) * (∑ e', Real.exp (r e' - m))⁻¹,
    mul_nonneg (Real.exp_pos _).le (inv_nonneg.2 (Finset.sum_nonneg fun _ _ => (Real.exp_pos _).le)), ?_⟩
  unfold rowProb
  rw [hm]
  have hs : (∑ e', Ideal.exp ((r e' : EReal) - (m : EReal))) = ((∑ e', Real.exp (r e' - m) : ℝ) : EReal) := by
    rw [coe_sum]
    exact Finset.sum_congr rfl fun e' _ => by rw [← EReal.coe_sub, Ideal.exp_coe]
  rw [hs, ← EReal.coe_sub, Ideal.exp_coe]
  unfold Ideal.div
  rw [if_neg (by exact_mod_cast hz), ← EReal.coe_inv, ← EReal.coe_mul]

/-- A row of finite inputs and a finite weight matrix give real scores. -/
theorem score_coe (x : Fin 512 → EReal) (w : Fin 512 → Fin 128 → EReal) (hx : ∀ i, x i ≠ ⊥ ∧ x i ≠ ⊤) (hw : ∀ i e, w i e ≠ ⊥ ∧ w i e ≠ ⊤) :
    ∃ r : Fin 128 → ℝ, (fun e => ∑ i, x i * w i e) = fun e => (r e : EReal) := by
  refine ⟨fun e => ∑ i, (x i).toReal * (w i e).toReal, funext fun e => ?_⟩
  rw [show _ = _ from coe_sum Finset.univ fun i => (x i).toReal * (w i e).toReal]
  refine Finset.sum_congr rfl fun i _ => ?_
  rw [EReal.coe_mul, EReal.coe_toReal (hx i).2 (hx i).1, EReal.coe_toReal (hw i e).2 (hw i e).1]

/-- The word for minus infinity, as a value. -/
theorem negInf_val : Ideal.ofBits .f32 0xFF800000#32 = ⊥ := by simp [Ideal.ofBits, Ideal.ieee]

/-- The outcome of a comparison for equality, read as a number, is one or zero. -/
theorem onehot_unsigned {w : Nat} (φ : FTy) (a b : BitVec w) :
    (FloatOps.uitofp φ (IntOp.cmpi .eq a b) : Ideal φ) = if a = b then (1 : EReal) else 0 := by
  have e : IntOp.cmpi .eq a b = BitVec.ofBool (decide (a = b)) := by exact WordCmp.cmpi_eq_eq a b
  rw [e]
  show ((((BitVec.ofBool (decide (a = b))).toNat : ℕ) : ℝ) : EReal) = _
  by_cases h : a = b <;> simp [h]

end Cert

namespace Cert.KernelIdeal
open Idealize.ShloMosaic
open Facts₀ Facts

/-- A row of probabilities is the softmax of the row of scores. -/
theorem probs_entry (s : FVec Ideal S2048x128 .f32) (t : Fin 2048) (e : Fin 128) :
    probs s (ix2 t e) = rowProb (fun e' => s (ix2 t e')) e := by
  unfold probs expScores rowProb
  pointwise
  rw [negInf_val]

/-- A score is the inner product of a token and a column of the router. -/
theorem scores_entry (x : FVec Ideal S2048x512 .f32) (w : FVec Ideal S512x128 .f32) (t : Fin 2048) (e : Fin 128) :
    scores x w (ix2 t e) = ∑ i : Fin 512, x (ix2 t i) * w (ix2 i e) := by
  unfold scores
  pointwise [dot_S2048x512_S512x128_S2048x128_1_0_0_1_n_n]

/-- The gate of a token is its probability at its expert. -/
theorem gate_entry (s : FVec Ideal S2048x128 .f32) (e : IVec S2048 32) (t : Fin 2048) (a : Nat) (ha : a < 128) (h : e (ix1 t) = BitVec.ofNat 32 a) :
    gate s e (ix1 t) = probs s (ix2 t ⟨a, ha⟩) := by
  unfold gate
  pointwise
  simp only [onehot_unsigned, h]
  rw [Finset.sum_eq_single ⟨a, ha⟩]
  · simp
  · intro b _ hb
    rw [if_neg, mul_zero]
    intro e'
    refine hb (Fin.ext ?_)
    have := (WordCmp.ofNat_eq_ofNat_iff (w := 32) (by omega) (by have := b.2; omega)).1 e'
    exact this.symm
  · simp

/-- The payload's first columns are the token times its gate, -/
theorem payload_left (x : FVec Ideal S2048x512 .f32) (g : FVec Ideal S2048 .f32) (e : IVec S2048 32) (t : Fin 2048) (i : Fin 512) :
    payload x g e (ix2 t ⟨i.val, by omega⟩) = x (ix2 t i) * g (ix1 t) := by
  unfold payload
  pointwise

/-- and its last the one-hot row of the expert within its group. -/
theorem payload_right (x : FVec Ideal S2048x512 .f32) (g : FVec Ideal S2048 .f32) (e : IVec S2048 32) (t : Fin 2048) (o : Fin 8) :
    payload x g e (ix2 t ⟨512 + o.val, by omega⟩) = if e (ix1 t) = BitVec.ofNat 32 o.val then (1 : EReal) else 0 := by
  unfold payload
  pointwise
  rw [dif_neg (by omega), Nat.add_sub_cancel_left, onehot_unsigned]

end Cert.KernelIdeal
end
-- ==== Proof.KernelVal.lean ====
module

public import proofs.«01_k».proof.Proof.Pre
public import proofs.«01_k».proof.Proof.Softmax
public import proofs.«01_k».proof.Proof.RunMain

/-! The kernel's result, an entry at a time, where the precondition holds. -/

@[expose] public section

noncomputable section

namespace Cert

open Idealize.ShloMosaic

/-- A real factor that is not negative comes out of a sum of extended reals, each of whose terms it scales from within. -/
theorem sum_gated {ι : Type} (u : Finset ι) (x w : ι → EReal) (p : ℝ) (hp : 0 ≤ p) :
    (∑ i ∈ u, x i * (p : EReal) * 1 * w i) = (p : EReal) * ∑ i ∈ u, x i * w i := by
  classical
  induction u using Finset.induction with
  | empty => simp
  | insert a u ha ih =>
    rw [Finset.sum_insert ha, Finset.sum_insert ha, ih,
      EReal.left_distrib_of_nonneg_of_ne_top (EReal.coe_nonneg.2 hp) (EReal.coe_ne_top p), mul_one, mul_comm (x a), mul_assoc]

end Cert

namespace Cert.KernelIdeal

open Idealize.ShloMosaic Idealize.ShloMosaic.TcCoe
open Facts₀ Facts

/-- The expert a token of a device is routed to, as a number. -/
def expertOf (r : IVec S2048x1 32) (n : Nat) : Nat := if h : n < 2048 then (r (ix2 ⟨n, h⟩ 0)).toNat else 0

/-- On a token of the device it is the index's number, -/
theorem expertOf_eq (r : IVec S2048x1 32) (t : Fin 2048) : expertOf r t.val = (r (ix2 t 0)).toNat := dif_pos t.isLt

/-- and the vector of experts holds its word. -/
theorem experts_entry (r : IVec S2048x1 32) (t : Fin 2048) : experts r (ix1 t) = BitVec.ofNat 32 (expertOf r t.val) := by
  rw [expertOf_eq, BitVec.ofNat_toNat, BitVec.setWidth_eq]
  unfold experts
  pointwise

/-- The tokens of a group, counted along the block, are those the precondition counts. -/
theorem countTo_card (r : IVec S2048x1 32) (g : Nat) :
    countTo (expertOf r) g 2048 = (Finset.univ.filter fun t : Fin 2048 => (r (ix2 t 0)).toNat / 8 = g).card := by
  unfold countTo
  rw [Finset.card_filter, Finset.sum_range]
  simp only [expertOf_eq]

variable (m : (ℓ : Loc nD τ sig) → Buf (Elt Ideal) ℓ) (c : Dev nD)

/-- The probability of a token's expert is real and not negative. -/
theorem prob_coe {x : FVec Ideal S2048x512 .f32} {w : FVec Ideal S512x128 .f32} {r : IVec S2048x1 32} (rt : Routable x w r) (t : Fin 2048) (e : Fin 128) :
    ∃ p : ℝ, 0 ≤ p ∧ rowProb (fun e => ∑ i : Fin 512, x (ix2 t i) * w (ix2 i e)) e = p := by
  obtain ⟨s, hs⟩ := score_coe (fun i => x (ix2 t i)) (fun i e => w (ix2 i e)) (fun i => ⟨rt.x_bot _, rt.x_top _⟩) (fun i e => ⟨rt.w_bot _, rt.w_top _⟩)
  rw [hs]
  exact rowProb_coe s e

/-- An entry of the kernel's result: the shared part, and the token through its expert, which lives on the device of the
    expert's group, scaled by the expert's probability. -/
theorem result_entry (rt : Routable (argX m c) (argR m c) (argI m c)) (t : Fin 2048) (h : Fin 1024) (d : Dev nD) (o : Fin 8)
    (hd : d.val = (argI m c (ix2 t 0)).toNat / 8) (ho : o.val = (argI m c (ix2 t 0)).toNat % 8) :
    result m c (ix2 t h) = (∑ i : Fin 512, argX m c (ix2 t i) * argS m c (ix2 i h))
      + rowProb (fun e => ∑ i : Fin 512, argX m c (ix2 t i) * argR m c (ix2 i e)) ⟨(argI m c (ix2 t 0)).toNat, rt.lt t⟩
        * ∑ i : Fin 512, argX m c (ix2 t i) * argE m d (ix3 o i h) := by
  have hE := experts_entry (argI m c)
  have hlt (t : Fin 2048) : expertOf (argI m c) t.val < 128 := by rw [expertOf_eq]; exact rt.lt t
  have cap (g : Nat) (hg : g < 16) : countTo (expertOf (argI m c)) g 2048 ≤ 192 := by
    rw [countTo_card]; exact rt.fits ⟨g, hg⟩
  have hp (t : Fin 2048) := placeOf_lt (expertOf (argI m c)) cap t (hlt t)
  have hflat (t : Fin 2048) : (GG m c).flat (ix2 0 t) = slots c (argI m c) (ix1 t) := by
    rw [GG_flat]
    pointwise
  have e := outEnd_token (GG m) c t h (groupOf _ hlt c t) ⟨_, hp t⟩ ((hflat t).trans (slots_at _ _ hE hlt c t (hp t)))
    (fun t' h' => slots_inj _ _ hE hlt c hp t t' (by rwa [hflat, hflat] at h'))
  have hdev : pr c (groupOf _ hlt c t) = d := Fin.ext ((pr_groupOf _ hlt c t).trans (by rw [expertOf_eq, hd]))
  obtain ⟨p, hp0, hpe⟩ := prob_coe rt t ⟨_, rt.lt t⟩
  have hgate : gate (scores (argX m c) (argR m c)) (experts (argI m c)) (ix1 t) = (p : EReal) := by
    rw [gate_entry _ _ t _ (hlt t) (hE t), probs_entry]
    simp only [scores_entry, expertOf_eq]
    exact hpe
  have hloc : locals (argI m c) (ix1 t) = BitVec.ofNat 32 o.val := by
    rw [locals_at _ _ (hE t) (hlt t), expertOf_eq, ho]
  rw [hpe, ← sum_gated Finset.univ _ _ p hp0]
  refine e.trans ?_
  rw [hdev, GG_val, GG_x, GG_sw, GG_ew]
  congr 1
  simp only [payload_left, payload_right, hgate, hloc]
  rw [Finset.sum_eq_single o]
  · rw [if_pos rfl]
    rfl
  · intro b _ hb
    rw [if_neg]
    · simp
    · rw [WordCmp.ofNat_eq_ofNat_iff (w := 32) (by omega) (by omega)]
      exact fun h => hb (Fin.ext h.symm)
  · simp

end Cert.KernelIdeal
end
-- ==== Proof.RefVal.lean ====
module

public import proofs.«01_k».proof.Proof.Gen.ReferenceIdeal.Run
public import proofs.«01_k».proof.Proof.Softmax

/-! The reference's result, an entry at a time. -/

@[expose] public section

noncomputable section

namespace Cert.ReferenceIdeal

open Idealize.ShloMosaic Idealize.ShloMosaic.TcCoe
open Facts₀ Facts

/-- The take along a row of the probabilities reads the entry its index names. -/
theorem take_prob {α : Type} (x : S32768x128.Idx → α) (idx : IVec S32768x1x1 32) (t : Fin 32768) :
    Host.gather gather_S32768x128_S32768x1x1_S32768x1_n_1_0_0_1_2_11 x idx (ix2 t 0)
      = x (ix2 t ⟨min (idx (ix3 t 0 0)).toInt.toNat 127, by omega⟩) := by
  let d := gather_S32768x128_S32768x1x1_S32768x1_n_1_0_0_1_2_11
  unfold Host.gather
  refine congrArg x (funext fun a => Fin.ext ?_)
  show d.start (ix2 t 0) idx a + d.batchCoord (ix2 t 0) a + d.offCoord (ix2 t 0) a = _
  rw [GatherDims.offCoord_eq_zero _ _ _ (fun h => by
    match a with
    | ⟨0, _⟩ => exact ((GatherDims.mem_sKept _ _).mp h).2 (List.mem_singleton.mpr rfl)
    | ⟨1, _⟩ => exact ((GatherDims.mem_sKept _ _).mp h).1 (List.mem_singleton.mpr rfl))]
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl)]
    simp only [Nat.zero_add, Nat.add_zero]
    unfold GatherDims.batchCoord
    rw [dif_pos (show (0 : Fin 2) ∈ d.operandBatchingDims from List.mem_singleton.mpr rfl)]
    rfl
  · rw [GatherDims.batchCoord_eq_zero _ _ _ (fun h : (1 : Fin 2) ∈ ([0] : List (Fin 2)) => absurd h (by decide))]
    simp only [Nat.add_zero]
    unfold GatherDims.start
    rw [dif_pos (show (1 : Fin 2) ∈ d.startIndexMap from List.mem_singleton.mpr rfl)]
    refine congrArg (fun k => min (idx k).toInt.toNat 127) (funext fun b => Fin.ext ?_)
    match b with
    | ⟨0, _⟩ => rfl
    | ⟨1, _⟩ => rfl
    | ⟨2, _⟩ => rfl

/-- The take of whole matrices reads the matrix its index names. -/
theorem take_expert {α : Type} (x : S128x512x1024.Idx → α) (idx : IVec S32768x1 32) (t : Fin 32768) (i : Fin 512) (h : Fin 1024) :
    Host.gather gather_S128x512x1024_S32768x1_S32768x512x1024_12_0_n_n_0_1_15121024 x idx (ix3 t i h)
      = x (ix3 ⟨min (idx (ix2 t 0)).toInt.toNat 127, by omega⟩ i h) := by
  let d := gather_S128x512x1024_S32768x1_S32768x512x1024_12_0_n_n_0_1_15121024
  unfold Host.gather
  refine congrArg x (funext fun a => Fin.ext ?_)
  show d.start (ix3 t i h) idx a + d.batchCoord (ix3 t i h) a + d.offCoord (ix3 t i h) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ d.startIndexMap from List.mem_singleton.mpr rfl)]
    refine congrArg (fun k => min (idx k).toInt.toNat 127) (funext fun b => Fin.ext ?_)
    match b with
    | ⟨0, _⟩ => rfl
    | ⟨1, _⟩ => rfl
  · unfold GatherDims.start GatherDims.offCoord
    rw [dif_neg (show (1 : Fin 3) ∉ d.startIndexMap from fun h => absurd (List.mem_singleton.mp h) (by decide)),
      dif_pos (show (1 : Fin 3) ∈ d.sKept from (GatherDims.mem_sKept _ _).2 ⟨fun h => absurd (List.mem_singleton.mp h) (by decide), List.not_mem_nil⟩)]
    simp only [Nat.zero_add]
    rfl
  · unfold GatherDims.start GatherDims.offCoord
    rw [dif_neg (show (2 : Fin 3) ∉ d.startIndexMap from fun h => absurd (List.mem_singleton.mp h) (by decide)),
      dif_pos (show (2 : Fin 3) ∈ d.sKept from (GatherDims.mem_sKept _ _).2 ⟨fun h => absurd (List.mem_singleton.mp h) (by decide), List.not_mem_nil⟩)]
    simp only [Nat.zero_add]
    rfl

section Out
variable {F : FTy → Type} [FloatOps F]

/-- The scores of all tokens. -/
def scores (x : FVec F S32768x512 .f32) (w : FVec F S512x128 .f32) : FVec F S32768x128 .f32 :=
  Host.dotGeneral dot_S32768x512_S512x128_S32768x128_1_0_0_1_n_n none x w

/-- The exponentials of the scores, shifted by the row's largest. -/
def expScores (s : FVec F S32768x128 .f32) : FVec F S32768x128 .f32 :=
  Host.exp (subf s (broadcastInDim S32768x128 ![0, 1] bcast_S32768x1_S32768x128_0_1 (broadcastInDim S32768x1 ![0] bcast_S32768_S32768x1_0
    (Host.reduce FloatOps.maximumf s (constant S_ .f32 0xFF800000#32) reducesTo_S32768x128_S32768_d1 h_S_))))

/-- The router's probabilities. -/
def probs (s : FVec F S32768x128 .f32) : FVec F S32768x128 .f32 :=
  Host.divf (expScores s) (broadcastInDim S32768x128 ![0, 1] bcast_S32768x1_S32768x128_0_1 (broadcastInDim S32768x1 ![0] bcast_S32768_S32768x1_0
    (Host.reduceAdd (expScores s) (constant S_ .f32 0x00000000#32) reducesTo_S32768x128_S32768_d1 h_S_)))

/-- The experts' numbers, those below zero counted from the end. -/
def wrapped (r : IVec S32768x1 32) : IVec S32768x1x1 32 :=
  shapeCast _ (select (cmpi .slt r (broadcastInDim S32768x1 ![] bcast_S_S32768x1 (constantI S_ 32 0#32)))
    (addi r (broadcastInDim S32768x1 ![] bcast_S_S32768x1 (constantI S_ 32 128#32))) r) shapeCasts_S32768x1_S32768x1x1

/-- Whether an expert's number is within range. -/
def inRange (i : IVec S32768x1x1 32) : IVec S32768x1 1 :=
  Host.reduce IntOp.andi (andi (cmpi .sge i (broadcastInDim S32768x1x1 ![] bcast_S_S32768x1x1 (constantI S_ 32 0#32)))
    (cmpi .sle i (broadcastInDim S32768x1x1 ![0, 1, 2] bcast_S1x1x1_S32768x1x1_0_1_2 (broadcastInDim S1x1x1 ![2] bcast_S1_S1x1x1_2 (constantI S1 32 127#32)))))
    (constantI S_ 1 1#1) reducesTo_S32768x1x1_S32768x1_d2 h_S_

/-- Every token's probability at the expert it is routed to. -/
def gate (p : FVec F S32768x128 .f32) (i : IVec S32768x1x1 32) : FVec F S32768x1 .f32 :=
  select (inRange i) (Host.gather gather_S32768x128_S32768x1x1_S32768x1_n_1_0_0_1_2_11 p i)
    (broadcastInDim S32768x1 ![] bcast_S_S32768x1 (constant S_ .f32 0x7FC00000#32))

/-- The experts' numbers as a vector, those below zero counted from the end. -/
def rows (r : IVec S32768x1 32) : IVec S32768 32 :=
  select (cmpi .slt (shapeCast _ r shapeCasts_S32768x1_S32768) (broadcastInDim S32768 ![] bcast_S_S32768 (constantI S_ 32 0#32)))
    (addi (shapeCast _ r shapeCasts_S32768x1_S32768) (broadcastInDim S32768 ![] bcast_S_S32768 (constantI S_ 32 128#32)))
    (shapeCast _ r shapeCasts_S32768x1_S32768)

/-- The tokens through their experts. -/
def routed (x : FVec F S32768x512 .f32) (r : IVec S32768x1 32) (ew : FVec F S128x512x1024 .f32) : FVec F S32768x1024 .f32 :=
  Host.dotGeneral dot_S32768x512_S32768x512x1024_S32768x1024_1_1_n_2_0_0 none x
    (Host.gather gather_S128x512x1024_S32768x1_S32768x512x1024_12_0_n_n_0_1_15121024 ew
      (broadcastInDim S32768x1 ![0] bcast_S32768_S32768x1_0 (rows r)))

/-- The reference's result. -/
def out (x : FVec F S32768x512 .f32) (w : FVec F S512x128 .f32) (r : IVec S32768x1 32) (ew : FVec F S128x512x1024 .f32)
    (sw : FVec F S512x1024 .f32) : FVec F S32768x1024 .f32 :=
  addf (Host.dotGeneral dot_S32768x512_S512x1024_S32768x1024_1_0_0_1_n_n none x sw)
    (mulf (broadcastInDim S32768x1024 ![0, 1] bcast_S32768x1_S32768x1024_0_1 (gate (probs (scores x w)) (wrapped r))) (routed x r ew))

open Idealize.SL.Sem in
/-- Every execution of the reference ends with that result, its arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Out

/-! ## Its entries, over the extended reals -/

/-- A row of probabilities is the softmax of the row of scores. -/
theorem probs_entry (s : FVec Ideal S32768x128 .f32) (t : Fin 32768) (e : Fin 128) :
    probs s (ix2 t e) = rowProb (fun e' => s (ix2 t e')) e := by
  unfold probs expScores rowProb
  pointwise
  rw [negInf_val]

/-- A score is the inner product of a token and a column of the router. -/
theorem scores_entry (x : FVec Ideal S32768x512 .f32) (w : FVec Ideal S512x128 .f32) (t : Fin 32768) (e : Fin 128) :
    scores x w (ix2 t e) = ∑ i : Fin 512, x (ix2 t i) * w (ix2 i e) := by
  unfold scores
  pointwise [dot_S32768x512_S512x128_S32768x128_1_0_0_1_n_n]

/-- A number within range is not counted from the end, -/
theorem unwrapped (a : BitVec 32) (h : a.toNat < 128) : Scalar.select (IntOp.cmpi .slt a 0#32) (IntOp.addi a 128#32) a = a := by
  have key : ∀ n : Fin 128, IntOp.cmpi .slt (BitVec.ofNat 32 n.val) 0#32 = 0#1 := by decide +kernel
  have k := key ⟨_, h⟩
  simp only [BitVec.ofNat_toNat, BitVec.setWidth_eq] at k
  rw [k]
  rfl

/-- and passes the range check. -/
theorem within (a : BitVec 32) (h : a.toNat < 128) : IntOp.andi (IntOp.cmpi .sge a 0#32) (IntOp.cmpi .sle a 127#32) = 1#1 := by
  have key : ∀ n : Fin 128, IntOp.andi (IntOp.cmpi .sge (BitVec.ofNat 32 n.val) 0#32) (IntOp.cmpi .sle (BitVec.ofNat 32 n.val) 127#32) = 1#1 := by
    decide +kernel
  have k := key ⟨_, h⟩
  simp only [BitVec.ofNat_toNat, BitVec.setWidth_eq] at k
  exact k

/-- A word below 128 read signed and clamped is itself. -/
theorem clamp_small (a : BitVec 32) (h : a.toNat < 128) : min a.toInt.toNat 127 = a.toNat := by
  rw [BitVec.toInt_eq_toNat_of_lt (by omega)]
  omega

/-- So the experts' numbers stand as they are, in the column -/
theorem wrapped_entry (r : IVec S32768x1 32) (t : Fin 32768) (h : (r (ix2 t 0)).toNat < 128) : wrapped r (ix3 t 0 0) = r (ix2 t 0) := by
  unfold wrapped
  pointwise
  exact unwrapped _ h

/-- and in the vector, -/
theorem rows_entry (r : IVec S32768x1 32) (t : Fin 32768) (h : (r (ix2 t 0)).toNat < 128) : rows r (ix1 t) = r (ix2 t 0) := by
  unfold rows
  pointwise
  exact unwrapped _ h

/-- and all are within range. -/
theorem inRange_entry (i : IVec S32768x1x1 32) (t : Fin 32768) (h : (i (ix3 t 0 0)).toNat < 128) : inRange i (ix2 t 0) = 1#1 := by
  unfold inRange
  pointwise
  simp [within _ h]
  rfl

/-- The gate of a token is its probability at its expert. -/
theorem gate_entry (p : FVec Ideal S32768x128 .f32) (i : IVec S32768x1x1 32) (t : Fin 32768) (h : (i (ix3 t 0 0)).toNat < 128) :
    gate p i (ix2 t 0) = p (ix2 t ⟨(i (ix3 t 0 0)).toNat, h⟩) := by
  unfold gate
  pointwise
  rw [inRange_entry i t h, take_prob]
  exact congrArg (fun k => p (ix2 t k)) (Fin.ext (clamp_small _ h))

/-- A token goes through the matrix of its expert. -/
theorem routed_entry (x : FVec Ideal S32768x512 .f32) (r : IVec S32768x1 32) (ew : FVec Ideal S128x512x1024 .f32) (t : Fin 32768) (h : Fin 1024)
    (hr : (r (ix2 t 0)).toNat < 128) :
    routed x r ew (ix2 t h) = ∑ i : Fin 512, x (ix2 t i) * ew (ix3 ⟨(r (ix2 t 0)).toNat, hr⟩ i h) := by
  unfold routed
  pointwise [dot_S32768x512_S32768x512x1024_S32768x1024_1_1_n_2_0_0]
  refine Finset.sum_congr rfl fun i _ => congrArg _ ?_
  rw [take_expert]
  refine congrArg (fun k => ew (ix3 k i h)) (Fin.ext ?_)
  have e : broadcastInDim S32768x1 ![0] bcast_S32768_S32768x1_0 (rows r) (ix2 t 0) = r (ix2 t 0) := by
    pointwise
    exact rows_entry r t hr
  show min (broadcastInDim S32768x1 ![0] bcast_S32768_S32768x1_0 (rows r) (ix2 t 0)).toInt.toNat 127 = _
  rw [e]
  exact clamp_small _ hr

/-- An entry of the reference's result. -/
theorem out_entry (x : FVec Ideal S32768x512 .f32) (w : FVec Ideal S512x128 .f32) (r : IVec S32768x1 32) (ew : FVec Ideal S128x512x1024 .f32)
    (sw : FVec Ideal S512x1024 .f32) (t : Fin 32768) (h : Fin 1024) (hr : (r (ix2 t 0)).toNat < 128) :
    out x w r ew sw (ix2 t h) = (∑ i : Fin 512, x (ix2 t i) * sw (ix2 i h))
      + rowProb (fun e => ∑ i : Fin 512, x (ix2 t i) * w (ix2 i e)) ⟨(r (ix2 t 0)).toNat, hr⟩
        * ∑ i : Fin 512, x (ix2 t i) * ew (ix3 ⟨(r (ix2 t 0)).toNat, hr⟩ i h) := by
  unfold out
  pointwise [dot_S32768x512_S512x1024_S32768x1024_1_0_0_1_n_n]
  have e := wrapped_entry r t hr
  rw [gate_entry _ _ t (by rw [e]; exact hr), probs_entry, routed_entry x r ew t h hr]
  simp only [scores_entry, e]

end Cert.ReferenceIdeal
end
-- ==== Proof.Value.lean ====
module

public import proofs.«01_k».proof.Defs
public import proofs.«01_k».proof.Proof.Gen.Kernel
public import proofs.«01_k».proof.Proof.KernelVal
public import proofs.«01_k».proof.Proof.RefVal

/-! The value claim: the devices' results are the blocks of the reference's. -/

@[expose] public section

noncomputable section

namespace Cert

open Idealize.ShloMosaic Idealize.ShloMosaic.TcCoe Idealize.SL.Sem

/-- A row of a device's block is this row of the whole array. -/
def wholeRow (c : Fin 16) (t : Fin 2048) : Fin 32768 := ⟨c.val * 2048 + t.val, by omega⟩

/-- An entry of a block of rows is the whole array's entry at the whole row. -/
theorem block_rows {α : Type} {n : Nat} (hT : Layout.Tiles ⟨2, ![2048, n]⟩ ⟨2, ![32768, n]⟩ 0 16) (v : (⟨2, ![32768, n]⟩ : Shape).Idx → α) (c : Fin 16)
    (t : Fin 2048) (i : Fin n) : Layout.block ⟨2, ![2048, n]⟩ ⟨2, ![32768, n]⟩ 0 16 c v hT (ix2 t i) = v (ix2 (wholeRow c t) i) := by
  refine congrArg v (funext fun a => Fin.ext ?_)
  match a with
  | ⟨0, _⟩ => rfl
  | ⟨1, _⟩ => rfl

/-- An entry of a device's expert matrices is the entry of the expert's matrix among all. -/
theorem block_experts {α : Type} (hT : Layout.Tiles ⟨3, ![8, 512, 1024]⟩ ⟨3, ![128, 512, 1024]⟩ 0 16) (v : (⟨3, ![128, 512, 1024]⟩ : Shape).Idx → α)
    (c : Fin 16) (o : Fin 8) (i : Fin 512) (h : Fin 1024) (e : Fin 128) (he : e.val = c.val * 8 + o.val) :
    Layout.block ⟨3, ![8, 512, 1024]⟩ ⟨3, ![128, 512, 1024]⟩ 0 16 c v hT (ix3 o i h) = v (ix3 e i h) := by
  refine congrArg v (funext fun a => Fin.ext ?_)
  match a with
  | ⟨0, _⟩ => exact he.symm
  | ⟨1, _⟩ => rfl
  | ⟨2, _⟩ => rfl

variable (m : (ℓ : Loc KernelIdeal.nD KernelIdeal.τ KernelIdeal.sig) → Buf (Elt Ideal) ℓ)

/-- Device by device the kernel's result is the block of the reference's. -/
theorem result_block (x : FVec Ideal ReferenceIdeal.S32768x512 .f32) (w : FVec Ideal ReferenceIdeal.S512x128 .f32) (r : IVec ReferenceIdeal.S32768x1 32)
    (ew : FVec Ideal ReferenceIdeal.S128x512x1024 .f32) (sw : FVec Ideal ReferenceIdeal.S512x1024 .f32)
    (rt : ∀ c, Routable (KernelIdeal.argX m c) (KernelIdeal.argR m c) (KernelIdeal.argI m c))
    (hx : ∀ c, KernelIdeal.argX m c = Layout.block ⟨2, ![2048, 512]⟩ ⟨2, ![32768, 512]⟩ 0 16 c x)
    (hw : ∀ c, KernelIdeal.argR m c = w)
    (hr : ∀ c, KernelIdeal.argI m c = Layout.block ⟨2, ![2048, 1]⟩ ⟨2, ![32768, 1]⟩ 0 16 c r)
    (he : ∀ c, KernelIdeal.argE m c = Layout.block ⟨3, ![8, 512, 1024]⟩ ⟨3, ![128, 512, 1024]⟩ 0 16 c ew)
    (hs : ∀ c, KernelIdeal.argS m c = sw) (c : Dev KernelIdeal.nD) :
    KernelIdeal.result m c = Layout.block ⟨2, ![2048, 1024]⟩ ⟨2, ![32768, 1024]⟩ 0 16 c (ReferenceIdeal.out x w r ew sw) := by
  funext j
  obtain ⟨t, h, rfl⟩ : ∃ (t : Fin 2048) (h : Fin 1024), j = ix2 t h := ⟨j 0, j 1, by
    funext a
    match a with
    | ⟨0, _⟩ => rfl
    | ⟨1, _⟩ => rfl⟩
  have ei : KernelIdeal.argI m c (ix2 t 0) = r (ix2 (wholeRow c t) 0) := by rw [hr c]; exact block_rows _ r c t 0
  have ex (i : Fin 512) : KernelIdeal.argX m c (ix2 t i) = x (ix2 (wholeRow c t) i) := by rw [hx c]; exact block_rows _ x c t i
  have lt := (rt c).lt t
  have ee (i : Fin 512) : KernelIdeal.argE m (⟨(KernelIdeal.argI m c (ix2 t 0)).toNat / 8, by omega⟩ : Fin 16)
      (ix3 ⟨(KernelIdeal.argI m c (ix2 t 0)).toNat % 8, by omega⟩ i h) = ew (ix3 ⟨(KernelIdeal.argI m c (ix2 t 0)).toNat, lt⟩ i h) := by
    rw [he]
    exact block_experts _ ew _ _ i h _ (by simp only; omega)
  rw [KernelIdeal.result_entry m c (rt c) t h (⟨(KernelIdeal.argI m c (ix2 t 0)).toNat / 8, by omega⟩ : Fin 16) ⟨(KernelIdeal.argI m c (ix2 t 0)).toNat % 8, by omega⟩ rfl rfl,
    block_rows, ReferenceIdeal.out_entry x w r ew sw _ h (by rw [← ei]; exact lt)]
  simp only [ex, ee, hw, hs]
  simp only [ei]

/-- The value claim. -/
theorem algebraic : @algebraic_KernelIdeal_ReferenceIdeal_pre_routable_KernelIdeal KernelIdeal.Gen.facts ReferenceIdeal.Gen.facts preFacts := by
  intro m g m' g' hpre hargs
  refine ⟨_, ?_, (θ_run _ _ _).mono (fun _ h => h 0) (ReferenceIdeal.run_out (F := Ideal) m' g')⟩
  refine (θ_run _ _ _).mono (fun _ h c => ⟨((h.1 c).1).trans ?_, (h.1 c).2⟩) (KernelIdeal.run_main (F := Ideal) m g)
  exact result_block m _ _ _ _ _ (fun c => routable_of _ _ _ _ _ (hpre c)) (fun c => (hargs c).1) (fun c => (hargs c).2.1)
    (fun c => (hargs c).2.2.1) (fun c => (hargs c).2.2.2.1) (fun c => (hargs c).2.2.2.2) c

end Cert
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.RunMain
public import proofs.«01_k».proof.Proof.SameText
public import proofs.«01_k».proof.Proof.Value
public import Idealize.ShloMosaic.Adequacy
public import Idealize.ShloMosaic.Init

@[expose] public section

noncomputable section

namespace Cert.Proof

open Idealize.ShloMosaic Idealize.SL.Sem Cert.Kernel

set_option maxRecDepth 65536 in
/-- The frame of the program whose floats are the machine's words: its text is the other program's. -/
theorem frame_kernel : Cert.quiescent_Kernel := by
  intro m ρ _
  rw [Cert.Kernel.defs_eq, Cert.Kernel.main_eq]
  have h := (θ_run (Cert.KernelIdeal.defs (F := Bits)) _ _).mono (fun _ h => (⟨fun c => (h.1 c).2, h.2⟩ : _ ∧ _)) (Cert.KernelIdeal.run_main (F := Bits) m ρ)
  exact h

/-- The frame of the program whose floats are extended reals. -/
theorem frame_ideal : Cert.quiescent_KernelIdeal := fun m ρ _ =>
  (θ_run Cert.KernelIdeal.defs _ _).mono (fun _ h => ⟨fun c => (h.1 c).2, h.2⟩) (Cert.KernelIdeal.run_main (F := Ideal) m ρ)

/-- The frame of the reference: it runs on one device and has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- All claims together; under the precondition the frames hold as they do without it. -/
theorem claim : Cert.Claim := ⟨Cert.Kernel.Gen.facts, Cert.KernelIdeal.Gen.facts, Cert.ReferenceIdeal.Gen.facts, preFacts, preFactsWhole,
  frame_kernel, frame_ideal, fun m ρ _ => frame_ideal m ρ trivial, frame_reference, fun m ρ _ => frame_reference m ρ trivial, trivial, algebraic⟩

end Cert.Proof

end
